-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S128x128 Cert.KernelIdeal.S64x128
  ∧ IdealRules.bf16_pair.Statement Cert.KernelIdeal.S512x128 Cert.KernelIdeal.S256x128
  ∧ IdealRules.bf16_pair.SelectZeroStatement Cert.KernelIdeal.S256x128

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S2x1536x2048 : Shape := ⟨3, ![2, 1536, 2048]⟩
abbrev S128 : Shape := ⟨1, ![128]⟩
abbrev S3968x128 : Shape := ⟨2, ![3968, 128]⟩
abbrev S3968x2048 : Shape := ⟨2, ![3968, 2048]⟩
abbrev S31x16 : Shape := ⟨2, ![31, 16]⟩
abbrev S128x1 : Shape := ⟨2, ![128, 1]⟩
abbrev S1x128 : Shape := ⟨2, ![1, 128]⟩
abbrev S128x128 : Shape := ⟨2, ![128, 128]⟩
abbrev S_ : Shape := ⟨0, ![]⟩

class Facts : Prop where
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S2x1536x2048 : S_.BroadcastsInDim S2x1536x2048 (![] : Fin 0 → Fin S2x1536x2048.rank)
  reducesTo_S2x1536x2048_S_d0_1_2 : S2x1536x2048.ReducesTo [0, 1, 2] S_
  h_S_ : 0 < S_.numel
  reducesTo_S128x128_S_d0_1 : S128x128.ReducesTo [0, 1] S_

variable [Facts]

def fn {F : FTy → Type} [FloatOps F] (main_arg0 : FVec F S2x1536x2048 .bf16) (main_arg1 : IVec S128 32) (main_arg2 : FVec F S3968x128 .bf16) (main_arg3 : FVec F S3968x2048 .fp8e4m3) (main_arg4 : FVec F S31x16 .f32) : IVec S_ 1 :=
  let main_v0 : IVec S128 32 := iotaInDim S128 32 0
  let main_v1 : IVec S128x1 32 := broadcastInDim S128x1 ![0] bcast_S128_S128x1_0 main_arg1
  let main_v2 : IVec S1x128 32 := broadcastInDim S1x128 ![1] bcast_S128_S1x128_1 main_arg1
  let main_v3 : IVec S128x128 32 := broadcastInDim S128x128 ![0, 1] bcast_S128x1_S128x128_0_1 main_v1
  let main_v4 : IVec S128x128 32 := broadcastInDim S128x128 ![0, 1] bcast_S1x128_S128x128_0_1 main_v2
  let main_v5 : IVec S128x128 1 := cmpi .eq main_v3 main_v4
  let main_v6 : IVec S128x1 32 := broadcastInDim S128x1 ![0] bcast_S128_S128x1_0 main_v0
  let main_v7 : IVec S1x128 32 := broadcastInDim S1x128 ![1] bcast_S128_S1x128_1 main_v0
  let main_v8 : IVec S128x128 32 := broadcastInDim S128x128 ![0, 1] bcast_S128x1_S128x128_0_1 main_v6
  let main_v9 : IVec S128x128 32 := broadcastInDim S128x128 ![0, 1] bcast_S1x128_S128x128_0_1 main_v7
  let main_v10 : IVec S128x128 1 := cmpi .ne main_v8 main_v9
  let main_v11 : IVec S128x128 1 := andi main_v5 main_v10
  let main_v12 : FVec F S2x1536x2048 .bf16 := Host.absf main_arg0
  let main_cst : FVec F S_ .bf16 := constant S_ .bf16 0x7F7F#16
  let main_v13 : FVec F S2x1536x2048 .bf16 := broadcastInDim S2x1536x2048 ![] bcast_S_S2x1536x2048 main_cst
  let main_v14 : IVec S2x1536x2048 1 := cmpf .ole main_v12 main_v13
  let main_c : IVec S_ 1 := constantI S_ 1 1#1
  let main_v15 : IVec S_ 1 := (fun x v => Host.reduce IntOp.andi x v reducesTo_S2x1536x2048_S_d0_1_2 h_S_) main_v14 main_c
  let main_c_0 : IVec S_ 1 := constantI S_ 1 0#1
  let main_v16 : IVec S_ 1 := (fun x v => Host.reduce IntOp.ori x v reducesTo_S128x128_S_d0_1 h_S_) main_v11 main_c_0
  let main_v17 : IVec S_ 1 := noti main_v16
  let main_v18 : IVec S_ 1 := andi main_v15 main_v17
  main_v18
-- ==== Kernel.lean ====
abbrev S2x1536x2048 : Shape := ⟨3, ![2, 1536, 2048]⟩
abbrev S128 : Shape := ⟨1, ![128]⟩
abbrev S3968x128 : Shape := ⟨2, ![3968, 128]⟩
abbrev S3968x2048 : Shape := ⟨2, ![3968, 2048]⟩
abbrev S31x16 : Shape := ⟨2, ![31, 16]⟩
abbrev S128x1 : Shape := ⟨2, ![128, 1]⟩
abbrev S3072x2048 : Shape := ⟨2, ![3072, 2048]⟩
abbrev S3072x3968 : Shape := ⟨2, ![3072, 3968]⟩
abbrev S3072x16 : Shape := ⟨2, ![3072, 16]⟩
abbrev S512x2048 : Shape := ⟨2, ![512, 2048]⟩
abbrev S512x3968 : Shape := ⟨2, ![512, 3968]⟩
abbrev S512x16 : Shape := ⟨2, ![512, 16]⟩
abbrev S16x128 : Shape := ⟨2, ![16, 128]⟩
abbrev S2x512x2048 : Shape := ⟨3, ![2, 512, 2048]⟩
abbrev S128x128 : Shape := ⟨2, ![128, 128]⟩
abbrev S1x128 : Shape := ⟨2, ![1, 128]⟩
abbrev S128x128x1 : Shape := ⟨3, ![128, 128, 1]⟩
abbrev S1x1 : Shape := ⟨2, ![1, 1]⟩
abbrev S64x128 : Shape := ⟨2, ![64, 128]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S1x512x2048 : Shape := ⟨3, ![1, 512, 2048]⟩
abbrev S1x512x128 : Shape := ⟨3, ![1, 512, 128]⟩
abbrev S256x2048 : Shape := ⟨2, ![256, 2048]⟩
abbrev S512x256 : Shape := ⟨2, ![512, 256]⟩
abbrev S128x2048 : Shape := ⟨2, ![128, 2048]⟩

abbrev nBuf : Space → Nat
  | .hbm => 10
  | .vmem => 15
  | .smem => 1
  | _ => 0

abbrev bufTy : (tb : Table) → Fin (tcTables nBuf tb) → BufTy
  | .hbm, ⟨0, _⟩ => ⟨S2x1536x2048, .bf16⟩
  | .hbm, ⟨1, _⟩ => ⟨S128, .i32⟩
  | .hbm, ⟨2, _⟩ => ⟨S3968x128, .bf16⟩
  | .hbm, ⟨3, _⟩ => ⟨S3968x2048, .fp8e4m3⟩
  | .hbm, ⟨4, _⟩ => ⟨S31x16, .f32⟩
  | .hbm, ⟨5, _⟩ => ⟨S128x1, .i32⟩
  | .hbm, ⟨6, _⟩ => ⟨S3072x2048, .bf16⟩
  | .hbm, ⟨7, _⟩ => ⟨S3072x3968, .bf16⟩
  | .hbm, ⟨8, _⟩ => ⟨S3072x2048, .fp8e4m3⟩
  | .hbm, ⟨9, _⟩ => ⟨S3072x16, .f32⟩
  | .local _ .vmem, ⟨0, _⟩ => ⟨S128x1, .i32⟩
  | .local _ .vmem, ⟨1, _⟩ => ⟨S512x2048, .bf16⟩
  | .local _ .vmem, ⟨2, _⟩ => ⟨S512x2048, .bf16⟩
  | .local _ .vmem, ⟨3, _⟩ => ⟨S3968x128, .bf16⟩
  | .local _ .vmem, ⟨4, _⟩ => ⟨S3968x2048, .fp8e4m3⟩
  | .local _ .vmem, ⟨5, _⟩ => ⟨S512x3968, .bf16⟩
  | .local _ .vmem, ⟨6, _⟩ => ⟨S512x3968, .bf16⟩
  | .local _ .vmem, ⟨7, _⟩ => ⟨S512x2048, .fp8e4m3⟩
  | .local _ .vmem, ⟨8, _⟩ => ⟨S512x2048, .fp8e4m3⟩
  | .local _ .vmem, ⟨9, _⟩ => ⟨S512x16, .f32⟩
  | .local _ .vmem, ⟨10, _⟩ => ⟨S512x16, .f32⟩
  | .local _ .vmem, ⟨11, _⟩ => ⟨S16x128, .i32⟩
  | .local _ .vmem, ⟨12, _⟩ => ⟨S16x128, .i32⟩
  | .local _ .vmem, ⟨13, _⟩ => ⟨S2x512x2048, .bf16⟩
  | .local _ .vmem, ⟨14, _⟩ => ⟨S3968x2048, .bf16⟩
  | .local _ .smem, ⟨0, _⟩ => ⟨S31x16, .f32⟩
  | _, _ => ⟨S2x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [BitOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_183 : BitVec 32 := 0#32
  let c31_i32 : BitVec 32 := 31#32
  let v402 : BitVec 32 := Scalar.addi c0_i32_183 c31_i32
  let c1_i32_184 : BitVec 32 := 1#32
  ⟨c0_i32_183, v402, c1_i32_184⟩
def k0_mult1 (k0_t1 : Fin k0_t1_loop.trips) : BitVec 32 :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  v403
def k0_off1 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v405 : Index := Scalar.indexCast v404
  let c0_187 : Index := 0#32
  ![v405.toNat, 0]
def k0_off2 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v420 : Index := Scalar.indexCast arg13
  let c0_194 : Index := 0#32
  ![v420.toNat, 0]
def k0_off3 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v424 : Index := Scalar.indexCast v404
  let c0_195 : Index := 0#32
  ![v424.toNat, 0]
def k0_off4 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v454 : Index := Scalar.indexCast arg13
  let c1_204 : Index := 1#32
  ![v454.toNat, 1]
def k0_off5 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v458 : Index := Scalar.indexCast v404
  let c128 : Index := 128#32
  ![v458.toNat, 128]
def k0_off6 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v488 : Index := Scalar.indexCast arg13
  let c2_213 : Index := 2#32
  ![v488.toNat, 2]
def k0_off7 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v492 : Index := Scalar.indexCast v404
  let c256 : Index := 256#32
  ![v492.toNat, 256]
def k0_off8 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v522 : Index := Scalar.indexCast arg13
  let c3_222 : Index := 3#32
  ![v522.toNat, 3]
def k0_off9 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v526 : Index := Scalar.indexCast v404
  let c384 : Index := 384#32
  ![v526.toNat, 384]
def k0_off10 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v556 : Index := Scalar.indexCast arg13
  let c4_231 : Index := 4#32
  ![v556.toNat, 4]
def k0_off11 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v560 : Index := Scalar.indexCast v404
  let c512 : Index := 512#32
  ![v560.toNat, 512]
def k0_off12 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v590 : Index := Scalar.indexCast arg13
  let c5_240 : Index := 5#32
  ![v590.toNat, 5]
def k0_off13 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v594 : Index := Scalar.indexCast v404
  let c640 : Index := 640#32
  ![v594.toNat, 640]
def k0_off14 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v624 : Index := Scalar.indexCast arg13
  let c6_249 : Index := 6#32
  ![v624.toNat, 6]
def k0_off15 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v628 : Index := Scalar.indexCast v404
  let c768 : Index := 768#32
  ![v628.toNat, 768]
def k0_off16 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v658 : Index := Scalar.indexCast arg13
  let c7_258 : Index := 7#32
  ![v658.toNat, 7]
def k0_off17 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v662 : Index := Scalar.indexCast v404
  let c896 : Index := 896#32
  ![v662.toNat, 896]
def k0_off18 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v692 : Index := Scalar.indexCast arg13
  let c8_267 : Index := 8#32
  ![v692.toNat, 8]
def k0_off19 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v696 : Index := Scalar.indexCast v404
  let c1024 : Index := 1024#32
  ![v696.toNat, 1024]
def k0_off20 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v726 : Index := Scalar.indexCast arg13
  let c9_276 : Index := 9#32
  ![v726.toNat, 9]
def k0_off21 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v730 : Index := Scalar.indexCast v404
  let c1152 : Index := 1152#32
  ![v730.toNat, 1152]
def k0_off22 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v760 : Index := Scalar.indexCast arg13
  let c10_285 : Index := 10#32
  ![v760.toNat, 10]
def k0_off23 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v764 : Index := Scalar.indexCast v404
  let c1280 : Index := 1280#32
  ![v764.toNat, 1280]
def k0_off24 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v794 : Index := Scalar.indexCast arg13
  let c11_294 : Index := 11#32
  ![v794.toNat, 11]
def k0_off25 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v798 : Index := Scalar.indexCast v404
  let c1408 : Index := 1408#32
  ![v798.toNat, 1408]
def k0_off26 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v828 : Index := Scalar.indexCast arg13
  let c12_303 : Index := 12#32
  ![v828.toNat, 12]
def k0_off27 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v832 : Index := Scalar.indexCast v404
  let c1536 : Index := 1536#32
  ![v832.toNat, 1536]
def k0_off28 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v862 : Index := Scalar.indexCast arg13
  let c13_312 : Index := 13#32
  ![v862.toNat, 13]
def k0_off29 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v866 : Index := Scalar.indexCast v404
  let c1664 : Index := 1664#32
  ![v866.toNat, 1664]
def k0_off30 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v896 : Index := Scalar.indexCast arg13
  let c14_321 : Index := 14#32
  ![v896.toNat, 14]
def k0_off31 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v900 : Index := Scalar.indexCast v404
  let c1792 : Index := 1792#32
  ![v900.toNat, 1792]
def k0_off32 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let v930 : Index := Scalar.indexCast arg13
  let c15_330 : Index := 15#32
  ![v930.toNat, 15]
def k0_off33 (k0_t1 : Fin k0_t1_loop.trips) : Fin 2 → Nat :=
  let c0_i32_183 : BitVec 32 := 0#32
  let c1_i32_184 : BitVec 32 := 1#32
  let arg13 : BitVec 32 := Scf.iv c0_i32_183 c1_i32_184 k0_t1
  let c128_i32_186 : BitVec 32 := 128#32
  let v403 : BitVec 32 := Scalar.muli arg13 c128_i32_186
  let v404 : BitVec 32 := v403
  let v934 : Index := Scalar.indexCast v404
  let c1920 : Index := 1920#32
  ![v934.toNat, 1920]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off34 (i : grid0.Coords) : Fin 3 → Nat :=
  let arg0 : BitVec 32 := BitVec.ofNat 32 (i 0).val
  let c2_i32 : BitVec 32 := 2#32
  let v14 : BitVec 32 := Scalar.remsi arg0 c2_i32
  let c0_i32_22 : BitVec 32 := 0#32
  let c0_i32_23 : BitVec 32 := 0#32
  ![v14.toNat, 0, 0]
def k0_off35 (i : grid0.Coords) : Fin 3 → Nat :=
  let arg0 : BitVec 32 := BitVec.ofNat 32 (i 0).val
  let c2_i32 : BitVec 32 := 2#32
  let v14 : BitVec 32 := Scalar.remsi arg0 c2_i32
  let c0_i32_22 : BitVec 32 := 0#32
  let c0_i32_23 : BitVec 32 := 0#32
  ![v14.toNat, 0, 0]
def k0_off36 (i : grid0.Coords) : Fin 3 → Nat :=
  let arg0 : BitVec 32 := BitVec.ofNat 32 (i 0).val
  let c2_i32 : BitVec 32 := 2#32
  let v14 : BitVec 32 := Scalar.remsi arg0 c2_i32
  let c0_i32_51 : BitVec 32 := 0#32
  ![v14.toNat, 0, 128]
def k0_off37 (i : grid0.Coords) : Fin 3 → Nat :=
  let arg0 : BitVec 32 := BitVec.ofNat 32 (i 0).val
  let c2_i32 : BitVec 32 := 2#32
  let v14 : BitVec 32 := Scalar.remsi arg0 c2_i32
  let c0_i32_79 : BitVec 32 := 0#32
  ![v14.toNat, 0, 256]
def k0_off38 (i : grid0.Coords) : Fin 3 → Nat :=
  let arg0 : BitVec 32 := BitVec.ofNat 32 (i 0).val
  let c2_i32 : BitVec 32 := 2#32
  let v14 : BitVec 32 := Scalar.remsi arg0 c2_i32
  let c0_i32_108 : BitVec 32 := 0#32
  ![v14.toNat, 0, 384]
def k0_off39 (i : grid0.Coords) : Fin 3 → Nat :=
  let arg0 : BitVec 32 := BitVec.ofNat 32 (i 0).val
  let c2_i32 : BitVec 32 := 2#32
  let v14 : BitVec 32 := Scalar.remsi arg0 c2_i32
  let c0_i32_136 : BitVec 32 := 0#32
  ![v14.toNat, 0, 512]
def k0_off40 (i : grid0.Coords) : Fin 3 → Nat :=
  let arg0 : BitVec 32 := BitVec.ofNat 32 (i 0).val
  let c2_i32 : BitVec 32 := 2#32
  let v14 : BitVec 32 := Scalar.remsi arg0 c2_i32
  let c0_i32_164 : BitVec 32 := 0#32
  ![v14.toNat, 0, 640]
def k0_off41 (i : grid0.Coords) : Fin 3 → Nat :=
  let arg0 : BitVec 32 := BitVec.ofNat 32 (i 0).val
  let c2_i32 : BitVec 32 := 2#32
  let v14 : BitVec 32 := Scalar.remsi arg0 c2_i32
  let c0_i32_192 : BitVec 32 := 0#32
  ![v14.toNat, 0, 768]
def k0_off42 (i : grid0.Coords) : Fin 3 → Nat :=
  let arg0 : BitVec 32 := BitVec.ofNat 32 (i 0).val
  let c2_i32 : BitVec 32 := 2#32
  let v14 : BitVec 32 := Scalar.remsi arg0 c2_i32
  let c0_i32_221 : BitVec 32 := 0#32
  ![v14.toNat, 0, 896]
def k0_off43 (i : grid0.Coords) : Fin 3 → Nat :=
  let arg0 : BitVec 32 := BitVec.ofNat 32 (i 0).val
  let c2_i32 : BitVec 32 := 2#32
  let v14 : BitVec 32 := Scalar.remsi arg0 c2_i32
  let c0_i32_249 : BitVec 32 := 0#32
  ![v14.toNat, 0, 1024]
def k0_off44 (i : grid0.Coords) : Fin 3 → Nat :=
  let arg0 : BitVec 32 := BitVec.ofNat 32 (i 0).val
  let c2_i32 : BitVec 32 := 2#32
  let v14 : BitVec 32 := Scalar.remsi arg0 c2_i32
  let c0_i32_277 : BitVec 32 := 0#32
  ![v14.toNat, 0, 1152]
def k0_off45 (i : grid0.Coords) : Fin 3 → Nat :=
  let arg0 : BitVec 32 := BitVec.ofNat 32 (i 0).val
  let c2_i32 : BitVec 32 := 2#32
  let v14 : BitVec 32 := Scalar.remsi arg0 c2_i32
  let c0_i32_305 : BitVec 32 := 0#32
  ![v14.toNat, 0, 1280]
def k0_off46 (i : grid0.Coords) : Fin 3 → Nat :=
  let arg0 : BitVec 32 := BitVec.ofNat 32 (i 0).val
  let c2_i32 : BitVec 32 := 2#32
  let v14 : BitVec 32 := Scalar.remsi arg0 c2_i32
  let c0_i32_333 : BitVec 32 := 0#32
  ![v14.toNat, 0, 1408]
def k0_off47 (i : grid0.Coords) : Fin 3 → Nat :=
  let arg0 : BitVec 32 := BitVec.ofNat 32 (i 0).val
  let c2_i32 : BitVec 32 := 2#32
  let v14 : BitVec 32 := Scalar.remsi arg0 c2_i32
  let c0_i32_361 : BitVec 32 := 0#32
  ![v14.toNat, 0, 1536]
def k0_off48 (i : grid0.Coords) : Fin 3 → Nat :=
  let arg0 : BitVec 32 := BitVec.ofNat 32 (i 0).val
  let c2_i32 : BitVec 32 := 2#32
  let v14 : BitVec 32 := Scalar.remsi arg0 c2_i32
  let c0_i32_389 : BitVec 32 := 0#32
  ![v14.toNat, 0, 1664]
def k0_off49 (i : grid0.Coords) : Fin 3 → Nat :=
  let arg0 : BitVec 32 := BitVec.ofNat 32 (i 0).val
  let c2_i32 : BitVec 32 := 2#32
  let v14 : BitVec 32 := Scalar.remsi arg0 c2_i32
  let c0_i32_417 : BitVec 32 := 0#32
  ![v14.toNat, 0, 1792]
def k0_off50 (i : grid0.Coords) : Fin 3 → Nat :=
  let arg0 : BitVec 32 := BitVec.ofNat 32 (i 0).val
  let c2_i32 : BitVec 32 := 2#32
  let v14 : BitVec 32 := Scalar.remsi arg0 c2_i32
  let c0_i32_445 : BitVec 32 := 0#32
  ![v14.toNat, 0, 1920]
def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c6_i32 : BitVec 32 := 6#32
  let v7 : BitVec 1 := Scalar.cmpi .slt arg0 c6_i32
  let v8 : BitVec 1 := Scalar.andi v6 v7
  let v9 : BitVec 32 := Scalar.extui v8
  let c0_i32_4 : BitVec 32 := 0#32
  let v10 : BitVec 1 := Scalar.cmpi .ne v9 c0_i32_4
  v10

def k0_off51 (i : grid0.Coords) : Fin 3 → Nat :=
  let arg0 : BitVec 32 := BitVec.ofNat 32 (i 0).val
  let c2_i32 : BitVec 32 := 2#32
  let v14 : BitVec 32 := Scalar.remsi arg0 c2_i32
  let c0_i32_22 : BitVec 32 := 0#32
  let c0_i32_23 : BitVec 32 := 0#32
  ![v14.toNat, 0, 0]
def k0_off52 (i : grid0.Coords) : Fin 3 → Nat :=
  let arg0 : BitVec 32 := BitVec.ofNat 32 (i 0).val
  let c2_i32 : BitVec 32 := 2#32
  let v14 : BitVec 32 := Scalar.remsi arg0 c2_i32
  let c0_i32_22 : BitVec 32 := 0#32
  let c0_i32_23 : BitVec 32 := 0#32
  ![v14.toNat, 0, 0]
def k0_off53 (i : grid0.Coords) : Fin 3 → Nat :=
  let arg0 : BitVec 32 := BitVec.ofNat 32 (i 0).val
  let c2_i32 : BitVec 32 := 2#32
  let v14 : BitVec 32 := Scalar.remsi arg0 c2_i32
  let c0_i32_51 : BitVec 32 := 0#32
  ![v14.toNat, 0, 128]
def k0_off54 (i : grid0.Coords) : Fin 3 → Nat :=
  let arg0 : BitVec 32 := BitVec.ofNat 32 (i 0).val
  let c2_i32 : BitVec 32 := 2#32
  let v14 : BitVec 32 := Scalar.remsi arg0 c2_i32
  let c0_i32_79 : BitVec 32 := 0#32
  ![v14.toNat, 0, 256]
def k0_off55 (i : grid0.Coords) : Fin 3 → Nat :=
  let arg0 : BitVec 32 := BitVec.ofNat 32 (i 0).val
  let c2_i32 : BitVec 32 := 2#32
  let v14 : BitVec 32 := Scalar.remsi arg0 c2_i32
  let c0_i32_108 : BitVec 32 := 0#32
  ![v14.toNat, 0, 384]
def k0_off56 (i : grid0.Coords) : Fin 3 → Nat :=
  let arg0 : BitVec 32 := BitVec.ofNat 32 (i 0).val
  let c2_i32 : BitVec 32 := 2#32
  let v14 : BitVec 32 := Scalar.remsi arg0 c2_i32
  let c0_i32_136 : BitVec 32 := 0#32
  ![v14.toNat, 0, 512]
def k0_off57 (i : grid0.Coords) : Fin 3 → Nat :=
  let arg0 : BitVec 32 := BitVec.ofNat 32 (i 0).val
  let c2_i32 : BitVec 32 := 2#32
  let v14 : BitVec 32 := Scalar.remsi arg0 c2_i32
  let c0_i32_164 : BitVec 32 := 0#32
  ![v14.toNat, 0, 640]
def k0_off58 (i : grid0.Coords) : Fin 3 → Nat :=
  let arg0 : BitVec 32 := BitVec.ofNat 32 (i 0).val
  let c2_i32 : BitVec 32 := 2#32
  let v14 : BitVec 32 := Scalar.remsi arg0 c2_i32
  let c0_i32_192 : BitVec 32 := 0#32
  ![v14.toNat, 0, 768]
def k0_off59 (i : grid0.Coords) : Fin 3 → Nat :=
  let arg0 : BitVec 32 := BitVec.ofNat 32 (i 0).val
  let c2_i32 : BitVec 32 := 2#32
  let v14 : BitVec 32 := Scalar.remsi arg0 c2_i32
  let c0_i32_221 : BitVec 32 := 0#32
  ![v14.toNat, 0, 896]
def k0_off60 (i : grid0.Coords) : Fin 3 → Nat :=
  let arg0 : BitVec 32 := BitVec.ofNat 32 (i 0).val
  let c2_i32 : BitVec 32 := 2#32
  let v14 : BitVec 32 := Scalar.remsi arg0 c2_i32
  let c0_i32_249 : BitVec 32 := 0#32
  ![v14.toNat, 0, 1024]
def k0_off61 (i : grid0.Coords) : Fin 3 → Nat :=
  let arg0 : BitVec 32 := BitVec.ofNat 32 (i 0).val
  let c2_i32 : BitVec 32 := 2#32
  let v14 : BitVec 32 := Scalar.remsi arg0 c2_i32
  let c0_i32_277 : BitVec 32 := 0#32
  ![v14.toNat, 0, 1152]
def k0_off62 (i : grid0.Coords) : Fin 3 → Nat :=
  let arg0 : BitVec 32 := BitVec.ofNat 32 (i 0).val
  let c2_i32 : BitVec 32 := 2#32
  let v14 : BitVec 32 := Scalar.remsi arg0 c2_i32
  let c0_i32_305 : BitVec 32 := 0#32
  ![v14.toNat, 0, 1280]
def k0_off63 (i : grid0.Coords) : Fin 3 → Nat :=
  let arg0 : BitVec 32 := BitVec.ofNat 32 (i 0).val
  let c2_i32 : BitVec 32 := 2#32
  let v14 : BitVec 32 := Scalar.remsi arg0 c2_i32
  let c0_i32_333 : BitVec 32 := 0#32
  ![v14.toNat, 0, 1408]
def k0_off64 (i : grid0.Coords) : Fin 3 → Nat :=
  let arg0 : BitVec 32 := BitVec.ofNat 32 (i 0).val
  let c2_i32 : BitVec 32 := 2#32
  let v14 : BitVec 32 := Scalar.remsi arg0 c2_i32
  let c0_i32_361 : BitVec 32 := 0#32
  ![v14.toNat, 0, 1536]
def k0_off65 (i : grid0.Coords) : Fin 3 → Nat :=
  let arg0 : BitVec 32 := BitVec.ofNat 32 (i 0).val
  let c2_i32 : BitVec 32 := 2#32
  let v14 : BitVec 32 := Scalar.remsi arg0 c2_i32
  let c0_i32_389 : BitVec 32 := 0#32
  ![v14.toNat, 0, 1664]
def k0_off66 (i : grid0.Coords) : Fin 3 → Nat :=
  let arg0 : BitVec 32 := BitVec.ofNat 32 (i 0).val
  let c2_i32 : BitVec 32 := 2#32
  let v14 : BitVec 32 := Scalar.remsi arg0 c2_i32
  let c0_i32_417 : BitVec 32 := 0#32
  ![v14.toNat, 0, 1792]
def k0_off67 (i : grid0.Coords) : Fin 3 → Nat :=
  let arg0 : BitVec 32 := BitVec.ofNat 32 (i 0).val
  let c2_i32 : BitVec 32 := 2#32
  let v14 : BitVec 32 := Scalar.remsi arg0 c2_i32
  let c0_i32_445 : BitVec 32 := 0#32
  ![v14.toNat, 0, 1920]
def k0_off68 (i : grid0.Coords) : Fin 3 → Nat :=
  let arg0 : BitVec 32 := BitVec.ofNat 32 (i 0).val
  let c1_i32_451 : BitVec 32 := 1#32
  let v1619 : BitVec 32 := Scalar.addi arg0 c1_i32_451
  let c2_i32_452 : BitVec 32 := 2#32
  let v1620 : BitVec 32 := Scalar.remsi v1619 c2_i32_452
  let v1621 : Index := Scalar.indexCast v1620
  let c0_453 : Index := 0#32
  let c0_454 : Index := 0#32
  ![v1621.toNat, 0, 0]
def k0_cond4 (i : grid0.Coords) : BitVec 1 :=
  let arg0 : BitVec 32 := BitVec.ofNat 32 (i 0).val
  let c6_i32_5 : BitVec 32 := 6#32
  let v11 : BitVec 1 := Scalar.cmpi .eq arg0 c6_i32_5
  let v12 : BitVec 32 := Scalar.extui v11
  let c0_i32_6 : BitVec 32 := 0#32
  let v13 : BitVec 1 := Scalar.cmpi .ne v12 c0_i32_6
  v13

def k0_off69 (i : grid0.Coords) : Fin 3 → Nat :=
  let arg0 : BitVec 32 := BitVec.ofNat 32 (i 0).val
  let c1_i32 : BitVec 32 := 1#32
  let v14 : BitVec 32 := Scalar.addi arg0 c1_i32
  let c2_i32 : BitVec 32 := 2#32
  let v15 : BitVec 32 := Scalar.remsi v14 c2_i32
  let v16 : Index := Scalar.indexCast v15
  let c0 : Index := 0#32
  let c0_7 : Index := 0#32
  ![v16.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

abbrev stage0_0 : Fin 1 → Memref sig .tc .smem S31x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3968x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3968x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3968 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S2x1536x2048 : Shape := ⟨3, ![2, 1536, 2048]⟩
abbrev S128 : Shape := ⟨1, ![128]⟩
abbrev S3968x128 : Shape := ⟨2, ![3968, 128]⟩
abbrev S3968x2048 : Shape := ⟨2, ![3968, 2048]⟩
abbrev S31x16 : Shape := ⟨2, ![31, 16]⟩
abbrev S3072x3968 : Shape := ⟨2, ![3072, 3968]⟩
abbrev S3072x2048 : Shape := ⟨2, ![3072, 2048]⟩
abbrev S3072x16 : Shape := ⟨2, ![3072, 16]⟩
abbrev S128x1 : Shape := ⟨2, ![128, 1]⟩
abbrev S128x2048 : Shape := ⟨2, ![128, 2048]⟩
abbrev S2048 : Shape := ⟨1, ![2048]⟩
abbrev S1x2048 : Shape := ⟨2, ![1, 2048]⟩
abbrev S3072x16x128 : Shape := ⟨3, ![3072, 16, 128]⟩
abbrev S3072x16x1 : Shape := ⟨3, ![3072, 16, 1]⟩
abbrev S31x128x16x128 : Shape := ⟨4, ![31, 128, 16, 128]⟩
abbrev S31x1x16x1 : Shape := ⟨4, ![31, 1, 16, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x1536x2048, .bf16⟩
  | .hbm, ⟨1, _⟩ => ⟨S128, .i32⟩
  | .hbm, ⟨2, _⟩ => ⟨S3968x128, .bf16⟩
  | .hbm, ⟨3, _⟩ => ⟨S3968x2048, .fp8e4m3⟩
  | .hbm, ⟨4, _⟩ => ⟨S31x16, .f32⟩
  | .hbm, ⟨5, _⟩ => ⟨S3072x3968, .bf16⟩
  | .hbm, ⟨6, _⟩ => ⟨S3072x2048, .fp8e4m3⟩
  | .hbm, ⟨7, _⟩ => ⟨S3072x16, .f32⟩
  | .local _ .vmem, ⟨0, _⟩ => ⟨S2x1536x2048, .bf16⟩
  | .local _ .vmem, ⟨1, _⟩ => ⟨S128, .i32⟩
  | .local _ .vmem, ⟨2, _⟩ => ⟨S3968x128, .bf16⟩
  | .local _ .vmem, ⟨3, _⟩ => ⟨S3968x2048, .fp8e4m3⟩
  | .local _ .vmem, ⟨4, _⟩ => ⟨S31x16, .f32⟩
  | .local _ .vmem, ⟨5, _⟩ => ⟨S3072x3968, .bf16⟩
  | .local _ .vmem, ⟨6, _⟩ => ⟨S3072x2048, .fp8e4m3⟩
  | .local _ .vmem, ⟨7, _⟩ => ⟨S3072x16, .f32⟩
  | _, _ => ⟨S2x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3968x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3968x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x3968 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BCases.lean ====
/- The kernel on bits: the conditions of the body's branches, each as a fact about the grid point. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- The frame from a run of the launch: the argument arrays, staged or not, are as they were launched. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 4 rfl).trans ((hA c 4).trans (V_main_arg3 m c)),
      (Pipeline.RDat.FramePost.arr_in h c 0 rfl).trans ((hA c 0).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_1, k0_cond2, e0]
    word_cmp
   : ∀ t : Fin grid0.N, cond0_1 (grid0.coords t) ↔ t.val % 7 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 5 — decided over the grid. -/
theorem hcond0_2 : ∀ t : Fin cfg0.N, cond0_2 (grid0.coords t) ↔ (1 ≤ t.val % 7 ∧ t.val % 7 ≤ 5) :=
  (by decide +kernel : ∀ t : Fin grid0.N, cond0_2 (grid0.coords t) ↔ (1 ≤ t.val % 7 ∧ t.val % 7 ≤ 5))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 7 = 6 :=
  (fun t => by
    have ht : t.val < 7 := Nat.lt_of_lt_of_eq t.isLt N_0
    have e0 : (grid0.coords t 0).val = t.val / 1 % 7 := Pipeline.Grid.coords_val t 0 (by decide) rfl
    simp only [cond0_3, k0_cond4, e0]
    word_cmp
   : ∀ t : Fin grid0.N, cond0_3 (grid0.coords t) ↔ t.val % 7 = 6)

/-- A condition the certificate splits the body on though no `scf.if` tests it: the offsets chain `k0_off51`, by which the
    body picks a slot of a scratch, gives `![0, 0, 0]` — so that each case's run reads every access through
    that chain, and through every other chain this one decides, at one literal slot. -/
abbrev cond0_4 (i : grid0.Coords) : Prop := k0_off51 i = ![0, 0, 0]
/-- It holds at the points ≡ 0 (mod 2) — decided over the grid. -/
theorem hcond0_4 : ∀ t : Fin cfg0.N, cond0_4 (grid0.coords t) ↔ t.val % 2 = 0 :=
  (by decide +kernel : ∀ t : Fin grid0.N, cond0_4 (grid0.coords t) ↔ t.val % 2 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S31x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3968x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3968x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x3968 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x128 .i32 := Memref.whole cc0_scratch0
abbrev scM0_1 : Memref sig .tc .vmem S16x128 .i32 := Memref.whole cc0_scratch1
abbrev scM0_2 : Memref sig .tc .vmem S2x512x2048 .bf16 := Memref.whole cc0_scratch2
abbrev scM0_3 : Memref sig .tc .vmem S3968x2048 .bf16 := Memref.whole cc0_scratch3
/-- The scratch `arg9` the kernel carries between points, as a view: what it holds is stated through it. -/
abbrev VS0_0 : View sig .tc .vmem S16x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.BRunA.lean ====
/- The kernel on bits: one run of the body, case A of its branches, with nothing said of what the outputs hold. -/
module

public import proofs.«01_k».proof.Proof.BCases

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1752000 in set_option sl_exec.closedPieces true in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). Here also the FORGOTTEN outputs' (5, 6, 7) at anything, handed back at some contents nothing names. -/
noncomputable def kernelRun0_A (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    { LS0 : List (View.Piece (Elt F) S16x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    letI : ClosedOff (k0_off34 i) := ⟨![0, 0, 0], hl0⟩
    letI : ClosedOff (k0_off35 i) := ⟨![0, 0, 0], hl1⟩
    letI : ClosedOff (k0_off36 i) := ⟨![0, 0, 128], hl2⟩
    letI : ClosedOff (k0_off37 i) := ⟨![0, 0, 256], hl3⟩
    letI : ClosedOff (k0_off38 i) := ⟨![0, 0, 384], hl4⟩
    letI : ClosedOff (k0_off39 i) := ⟨![0, 0, 512], hl5⟩
    letI : ClosedOff (k0_off40 i) := ⟨![0, 0, 640], hl6⟩
    letI : ClosedOff (k0_off41 i) := ⟨![0, 0, 768], hl7⟩
    letI : ClosedOff (k0_off42 i) := ⟨![0, 0, 896], hl8⟩
    letI : ClosedOff (k0_off43 i) := ⟨![0, 0, 1024], hl9⟩
    letI : ClosedOff (k0_off44 i) := ⟨![0, 0, 1152], hl10⟩
    letI : ClosedOff (k0_off45 i) := ⟨![0, 0, 1280], hl11⟩
    letI : ClosedOff (k0_off46 i) := ⟨![0, 0, 1408], hl12⟩
    letI : ClosedOff (k0_off47 i) := ⟨![0, 0, 1536], hl13⟩
    letI : ClosedOff (k0_off48 i) := ⟨![0, 0, 1664], hl14⟩
    letI : ClosedOff (k0_off49 i) := ⟨![0, 0, 1792], hl15⟩
    letI : ClosedOff (k0_off50 i) := ⟨![0, 0, 1920], hl16⟩
    simp only [cc0_outlier_split_linear_eq_skeleton]; unfold cc0_outlier_split_linear_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part58_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.BRunB.lean ====
/- The kernel on bits: one run of the body, case B of its branches, with nothing said of what the outputs hold. -/
module

public import proofs.«01_k».proof.Proof.BRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1284000 in set_option sl_exec.closedPieces true in
/-- What the body's stores leave in each output's staging memref, as pieces (last first) IN CASE B (`scf.if` 0 not taken, `scf.if` 1 not taken, `scf.if` 2 taken, `scf.if` 3 not taken, `k0_off51 i` not at `![0, 0, 0]`: points 1, 3, 5), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). Here also the FORGOTTEN outputs' (5, 6, 7) at anything, handed back at some contents nothing names. -/
noncomputable def kernelRun0_B (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) :
    { LS0 : List (View.Piece (Elt F) S16x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    letI : ClosedOff (k0_off51 i) := ⟨![1, 0, 0], hl0⟩
    letI : ClosedOff (k0_off52 i) := ⟨![1, 0, 0], hl1⟩
    letI : ClosedOff (k0_off53 i) := ⟨![1, 0, 128], hl2⟩
    letI : ClosedOff (k0_off54 i) := ⟨![1, 0, 256], hl3⟩
    letI : ClosedOff (k0_off55 i) := ⟨![1, 0, 384], hl4⟩
    letI : ClosedOff (k0_off56 i) := ⟨![1, 0, 512], hl5⟩
    letI : ClosedOff (k0_off57 i) := ⟨![1, 0, 640], hl6⟩
    letI : ClosedOff (k0_off58 i) := ⟨![1, 0, 768], hl7⟩
    letI : ClosedOff (k0_off59 i) := ⟨![1, 0, 896], hl8⟩
    letI : ClosedOff (k0_off60 i) := ⟨![1, 0, 1024], hl9⟩
    letI : ClosedOff (k0_off61 i) := ⟨![1, 0, 1152], hl10⟩
    letI : ClosedOff (k0_off62 i) := ⟨![1, 0, 1280], hl11⟩
    letI : ClosedOff (k0_off63 i) := ⟨![1, 0, 1408], hl12⟩
    letI : ClosedOff (k0_off64 i) := ⟨![1, 0, 1536], hl13⟩
    letI : ClosedOff (k0_off65 i) := ⟨![1, 0, 1664], hl14⟩
    letI : ClosedOff (k0_off66 i) := ⟨![1, 0, 1792], hl15⟩
    letI : ClosedOff (k0_off67 i) := ⟨![1, 0, 1920], hl16⟩
    letI : ClosedOff (k0_off68 i) := ⟨![0, 0, 0], hl17⟩
    simp only [cc0_outlier_split_linear_eq_skeleton]; unfold cc0_outlier_split_linear_skel
    simp only [k0_part97_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.BRunC.lean ====
/- The kernel on bits: one run of the body, case C of its branches, with nothing said of what the outputs hold. -/
module

public import proofs.«01_k».proof.Proof.BRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1284000 in set_option sl_exec.closedPieces true in
/-- What the body's stores leave in each output's staging memref, as pieces (last first) IN CASE C (`scf.if` 0 not taken, `scf.if` 1 not taken, `scf.if` 2 taken, `scf.if` 3 not taken, `k0_off51 i` at `![0, 0, 0]`: points 2, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). Here also the FORGOTTEN outputs' (5, 6, 7) at anything, handed back at some contents nothing names. -/
noncomputable def kernelRun0_C (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) :
    { LS0 : List (View.Piece (Elt F) S16x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    letI : ClosedOff (k0_off51 i) := ⟨![0, 0, 0], hl0⟩
    letI : ClosedOff (k0_off52 i) := ⟨![0, 0, 0], hl1⟩
    letI : ClosedOff (k0_off53 i) := ⟨![0, 0, 128], hl2⟩
    letI : ClosedOff (k0_off54 i) := ⟨![0, 0, 256], hl3⟩
    letI : ClosedOff (k0_off55 i) := ⟨![0, 0, 384], hl4⟩
    letI : ClosedOff (k0_off56 i) := ⟨![0, 0, 512], hl5⟩
    letI : ClosedOff (k0_off57 i) := ⟨![0, 0, 640], hl6⟩
    letI : ClosedOff (k0_off58 i) := ⟨![0, 0, 768], hl7⟩
    letI : ClosedOff (k0_off59 i) := ⟨![0, 0, 896], hl8⟩
    letI : ClosedOff (k0_off60 i) := ⟨![0, 0, 1024], hl9⟩
    letI : ClosedOff (k0_off61 i) := ⟨![0, 0, 1152], hl10⟩
    letI : ClosedOff (k0_off62 i) := ⟨![0, 0, 1280], hl11⟩
    letI : ClosedOff (k0_off63 i) := ⟨![0, 0, 1408], hl12⟩
    letI : ClosedOff (k0_off64 i) := ⟨![0, 0, 1536], hl13⟩
    letI : ClosedOff (k0_off65 i) := ⟨![0, 0, 1664], hl14⟩
    letI : ClosedOff (k0_off66 i) := ⟨![0, 0, 1792], hl15⟩
    letI : ClosedOff (k0_off67 i) := ⟨![0, 0, 1920], hl16⟩
    letI : ClosedOff (k0_off68 i) := ⟨![1, 0, 0], hl17⟩
    simp only [cc0_outlier_split_linear_eq_skeleton]; unfold cc0_outlier_split_linear_skel
    simp only [k0_part97_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.BRunD.lean ====
/- The kernel on bits: one run of the body, case D of its branches, with nothing said of what the outputs hold. -/
module

public import proofs.«01_k».proof.Proof.BRunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in set_option sl_exec.closedPieces true in
/-- What the body's stores leave in each output's staging memref, as pieces (last first) IN CASE D (`scf.if` 0 not taken, `scf.if` 1 not taken, `scf.if` 2 not taken, `scf.if` 3 taken: points 6), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; an offsets chain by which the body picks a slot of a scratch is the literal `hl·` at every point of the case; the pieces are
    the witness that run finds (assigned when `iexact` hands the buffer to the continuation). Here also the FORGOTTEN outputs' (5, 6, 7) at anything, handed back at some contents nothing names. -/
noncomputable def kernelRun0_D (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : ¬cond0_2 i) (hc3 : cond0_3 i) (hl0 : k0_off69 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) :
    { LS0 : List (View.Piece (Elt F) S16x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    letI : ClosedOff (k0_off69 i) := ⟨![1, 0, 0], hl0⟩
    simp only [cc0_outlier_split_linear_eq_skeleton]; unfold cc0_outlier_split_linear_skel
    simp only [k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.BFrame.lean ====
/- The kernel on bits: the launch from the four cases of the body, and the frame: the arguments unchanged, nothing said of what the outputs hold. -/
module

public import proofs.«01_k».proof.Proof.BRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 16 pieces of `S1x128` tiling it (Lib/Ring.lean `Piece.tiledL`). -/
theorem scover0_A_0 (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (y : S16x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).1 S1x128.size (by sl_kernel_rfl) y

/-- What case A leaves in scratch `arg9`: its pieces read back over junk. -/
def sout0_A_0 (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) : Vec F S16x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).1)

/-- Case B stores nothing into scratch `arg9`: it holds what the point before left. -/
def sout0_B_0 (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) : Vec F S16x128 .i32 := xs0

/-- Case C stores nothing into scratch `arg9`: it holds what the point before left. -/
def sout0_C_0 (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) : Vec F S16x128 .i32 := xs0

/-- Case D stores nothing into scratch `arg9`: it holds what the point before left. -/
def sout0_D_0 (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : ¬cond0_2 i) (hc3 : cond0_3 i) (hl0 : k0_off69 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) : Vec F S16x128 .i32 := xs0

/-! ## Which slot each case's accesses reach -/

/-- Where condition 1 holds, the offsets chain `k0_off34` gives `![0, 0, 0]`: the slot the
    body's accesses through it reach there. Each case whose run takes this as a hypothesis (`hl·`) cites this one theorem, decided over the grid. -/
theorem hoff0_k0_off34_c1 : ∀ t : Fin cfg0.N, t.val % 7 = 0 → k0_off34 (grid0.coords t) = ![0, 0, 0] := by
  decide +kernel

/-- Where condition 1 holds, the offsets chain `k0_off35` gives `![0, 0, 0]`: the slot the
    body's accesses through it reach there. Each case whose run takes this as a hypothesis (`hl·`) cites this one theorem, decided over the grid. -/
theorem hoff0_k0_off35_c1 : ∀ t : Fin cfg0.N, t.val % 7 = 0 → k0_off35 (grid0.coords t) = ![0, 0, 0] := by
  decide +kernel

/-- Where condition 1 holds, the offsets chain `k0_off36` gives `![0, 0, 128]`: the slot the
    body's accesses through it reach there. Each case whose run takes this as a hypothesis (`hl·`) cites this one theorem, decided over the grid. -/
theorem hoff0_k0_off36_c1 : ∀ t : Fin cfg0.N, t.val % 7 = 0 → k0_off36 (grid0.coords t) = ![0, 0, 128] := by
  decide +kernel

/-- Where condition 1 holds, the offsets chain `k0_off37` gives `![0, 0, 256]`: the slot the
    body's accesses through it reach there. Each case whose run takes this as a hypothesis (`hl·`) cites this one theorem, decided over the grid. -/
theorem hoff0_k0_off37_c1 : ∀ t : Fin cfg0.N, t.val % 7 = 0 → k0_off37 (grid0.coords t) = ![0, 0, 256] := by
  decide +kernel

/-- Where condition 1 holds, the offsets chain `k0_off38` gives `![0, 0, 384]`: the slot the
    body's accesses through it reach there. Each case whose run takes this as a hypothesis (`hl·`) cites this one theorem, decided over the grid. -/
theorem hoff0_k0_off38_c1 : ∀ t : Fin cfg0.N, t.val % 7 = 0 → k0_off38 (grid0.coords t) = ![0, 0, 384] := by
  decide +kernel

/-- Where condition 1 holds, the offsets chain `k0_off39` gives `![0, 0, 512]`: the slot the
    body's accesses through it reach there. Each case whose run takes this as a hypothesis (`hl·`) cites this one theorem, decided over the grid. -/
theorem hoff0_k0_off39_c1 : ∀ t : Fin cfg0.N, t.val % 7 = 0 → k0_off39 (grid0.coords t) = ![0, 0, 512] := by
  decide +kernel

/-- Where condition 1 holds, the offsets chain `k0_off40` gives `![0, 0, 640]`: the slot the
    body's accesses through it reach there. Each case whose run takes this as a hypothesis (`hl·`) cites this one theorem, decided over the grid. -/
theorem hoff0_k0_off40_c1 : ∀ t : Fin cfg0.N, t.val % 7 = 0 → k0_off40 (grid0.coords t) = ![0, 0, 640] := by
  decide +kernel

/-- Where condition 1 holds, the offsets chain `k0_off41` gives `![0, 0, 768]`: the slot the
    body's accesses through it reach there. Each case whose run takes this as a hypothesis (`hl·`) cites this one theorem, decided over the grid. -/
theorem hoff0_k0_off41_c1 : ∀ t : Fin cfg0.N, t.val % 7 = 0 → k0_off41 (grid0.coords t) = ![0, 0, 768] := by
  decide +kernel

/-- Where condition 1 holds, the offsets chain `k0_off42` gives `![0, 0, 896]`: the slot the
    body's accesses through it reach there. Each case whose run takes this as a hypothesis (`hl·`) cites this one theorem, decided over the grid. -/
theorem hoff0_k0_off42_c1 : ∀ t : Fin cfg0.N, t.val % 7 = 0 → k0_off42 (grid0.coords t) = ![0, 0, 896] := by
  decide +kernel

/-- Where condition 1 holds, the offsets chain `k0_off43` gives `![0, 0, 1024]`: the slot the
    body's accesses through it reach there. Each case whose run takes this as a hypothesis (`hl·`) cites this one theorem, decided over the grid. -/
theorem hoff0_k0_off43_c1 : ∀ t : Fin cfg0.N, t.val % 7 = 0 → k0_off43 (grid0.coords t) = ![0, 0, 1024] := by
  decide +kernel

/-- Where condition 1 holds, the offsets chain `k0_off44` gives `![0, 0, 1152]`: the slot the
    body's accesses through it reach there. Each case whose run takes this as a hypothesis (`hl·`) cites this one theorem, decided over the grid. -/
theorem hoff0_k0_off44_c1 : ∀ t : Fin cfg0.N, t.val % 7 = 0 → k0_off44 (grid0.coords t) = ![0, 0, 1152] := by
  decide +kernel

/-- Where condition 1 holds, the offsets chain `k0_off45` gives `![0, 0, 1280]`: the slot the
    body's accesses through it reach there. Each case whose run takes this as a hypothesis (`hl·`) cites this one theorem, decided over the grid. -/
theorem hoff0_k0_off45_c1 : ∀ t : Fin cfg0.N, t.val % 7 = 0 → k0_off45 (grid0.coords t) = ![0, 0, 1280] := by
  decide +kernel

/-- Where condition 1 holds, the offsets chain `k0_off46` gives `![0, 0, 1408]`: the slot the
    body's accesses through it reach there. Each case whose run takes this as a hypothesis (`hl·`) cites this one theorem, decided over the grid. -/
theorem hoff0_k0_off46_c1 : ∀ t : Fin cfg0.N, t.val % 7 = 0 → k0_off46 (grid0.coords t) = ![0, 0, 1408] := by
  decide +kernel

/-- Where condition 1 holds, the offsets chain `k0_off47` gives `![0, 0, 1536]`: the slot the
    body's accesses through it reach there. Each case whose run takes this as a hypothesis (`hl·`) cites this one theorem, decided over the grid. -/
theorem hoff0_k0_off47_c1 : ∀ t : Fin cfg0.N, t.val % 7 = 0 → k0_off47 (grid0.coords t) = ![0, 0, 1536] := by
  decide +kernel

/-- Where condition 1 holds, the offsets chain `k0_off48` gives `![0, 0, 1664]`: the slot the
    body's accesses through it reach there. Each case whose run takes this as a hypothesis (`hl·`) cites this one theorem, decided over the grid. -/
theorem hoff0_k0_off48_c1 : ∀ t : Fin cfg0.N, t.val % 7 = 0 → k0_off48 (grid0.coords t) = ![0, 0, 1664] := by
  decide +kernel

/-- Where condition 1 holds, the offsets chain `k0_off49` gives `![0, 0, 1792]`: the slot the
    body's accesses through it reach there. Each case whose run takes this as a hypothesis (`hl·`) cites this one theorem, decided over the grid. -/
theorem hoff0_k0_off49_c1 : ∀ t : Fin cfg0.N, t.val % 7 = 0 → k0_off49 (grid0.coords t) = ![0, 0, 1792] := by
  decide +kernel

/-- Where condition 1 holds, the offsets chain `k0_off50` gives `![0, 0, 1920]`: the slot the
    body's accesses through it reach there. Each case whose run takes this as a hypothesis (`hl·`) cites this one theorem, decided over the grid. -/
theorem hoff0_k0_off50_c1 : ∀ t : Fin cfg0.N, t.val % 7 = 0 → k0_off50 (grid0.coords t) = ![0, 0, 1920] := by
  decide +kernel

/-- Where condition 4 fails, the offsets chain `k0_off51` gives `![1, 0, 0]`: the slot the
    body's accesses through it reach there. Each case whose run takes this as a hypothesis (`hl·`) cites this one theorem, decided over the grid. -/
theorem hoff0_k0_off51_n4 : ∀ t : Fin cfg0.N, ¬(t.val % 2 = 0) → k0_off51 (grid0.coords t) = ![1, 0, 0] := by
  decide +kernel

/-- Where condition 4 fails, the offsets chain `k0_off52` gives `![1, 0, 0]`: the slot the
    body's accesses through it reach there. Each case whose run takes this as a hypothesis (`hl·`) cites this one theorem, decided over the grid. -/
theorem hoff0_k0_off52_n4 : ∀ t : Fin cfg0.N, ¬(t.val % 2 = 0) → k0_off52 (grid0.coords t) = ![1, 0, 0] := by
  decide +kernel

/-- Where condition 4 fails, the offsets chain `k0_off53` gives `![1, 0, 128]`: the slot the
    body's accesses through it reach there. Each case whose run takes this as a hypothesis (`hl·`) cites this one theorem, decided over the grid. -/
theorem hoff0_k0_off53_n4 : ∀ t : Fin cfg0.N, ¬(t.val % 2 = 0) → k0_off53 (grid0.coords t) = ![1, 0, 128] := by
  decide +kernel

/-- Where condition 4 fails, the offsets chain `k0_off54` gives `![1, 0, 256]`: the slot the
    body's accesses through it reach there. Each case whose run takes this as a hypothesis (`hl·`) cites this one theorem, decided over the grid. -/
theorem hoff0_k0_off54_n4 : ∀ t : Fin cfg0.N, ¬(t.val % 2 = 0) → k0_off54 (grid0.coords t) = ![1, 0, 256] := by
  decide +kernel

/-- Where condition 4 fails, the offsets chain `k0_off55` gives `![1, 0, 384]`: the slot the
    body's accesses through it reach there. Each case whose run takes this as a hypothesis (`hl·`) cites this one theorem, decided over the grid. -/
theorem hoff0_k0_off55_n4 : ∀ t : Fin cfg0.N, ¬(t.val % 2 = 0) → k0_off55 (grid0.coords t) = ![1, 0, 384] := by
  decide +kernel

/-- Where condition 4 fails, the offsets chain `k0_off56` gives `![1, 0, 512]`: the slot the
    body's accesses through it reach there. Each case whose run takes this as a hypothesis (`hl·`) cites this one theorem, decided over the grid. -/
theorem hoff0_k0_off56_n4 : ∀ t : Fin cfg0.N, ¬(t.val % 2 = 0) → k0_off56 (grid0.coords t) = ![1, 0, 512] := by
  decide +kernel

/-- Where condition 4 fails, the offsets chain `k0_off57` gives `![1, 0, 640]`: the slot the
    body's accesses through it reach there. Each case whose run takes this as a hypothesis (`hl·`) cites this one theorem, decided over the grid. -/
theorem hoff0_k0_off57_n4 : ∀ t : Fin cfg0.N, ¬(t.val % 2 = 0) → k0_off57 (grid0.coords t) = ![1, 0, 640] := by
  decide +kernel

/-- Where condition 4 fails, the offsets chain `k0_off58` gives `![1, 0, 768]`: the slot the
    body's accesses through it reach there. Each case whose run takes this as a hypothesis (`hl·`) cites this one theorem, decided over the grid. -/
theorem hoff0_k0_off58_n4 : ∀ t : Fin cfg0.N, ¬(t.val % 2 = 0) → k0_off58 (grid0.coords t) = ![1, 0, 768] := by
  decide +kernel

/-- Where condition 4 fails, the offsets chain `k0_off59` gives `![1, 0, 896]`: the slot the
    body's accesses through it reach there. Each case whose run takes this as a hypothesis (`hl·`) cites this one theorem, decided over the grid. -/
theorem hoff0_k0_off59_n4 : ∀ t : Fin cfg0.N, ¬(t.val % 2 = 0) → k0_off59 (grid0.coords t) = ![1, 0, 896] := by
  decide +kernel

/-- Where condition 4 fails, the offsets chain `k0_off60` gives `![1, 0, 1024]`: the slot the
    body's accesses through it reach there. Each case whose run takes this as a hypothesis (`hl·`) cites this one theorem, decided over the grid. -/
theorem hoff0_k0_off60_n4 : ∀ t : Fin cfg0.N, ¬(t.val % 2 = 0) → k0_off60 (grid0.coords t) = ![1, 0, 1024] := by
  decide +kernel

/-- Where condition 4 fails, the offsets chain `k0_off61` gives `![1, 0, 1152]`: the slot the
    body's accesses through it reach there. Each case whose run takes this as a hypothesis (`hl·`) cites this one theorem, decided over the grid. -/
theorem hoff0_k0_off61_n4 : ∀ t : Fin cfg0.N, ¬(t.val % 2 = 0) → k0_off61 (grid0.coords t) = ![1, 0, 1152] := by
  decide +kernel

/-- Where condition 4 fails, the offsets chain `k0_off62` gives `![1, 0, 1280]`: the slot the
    body's accesses through it reach there. Each case whose run takes this as a hypothesis (`hl·`) cites this one theorem, decided over the grid. -/
theorem hoff0_k0_off62_n4 : ∀ t : Fin cfg0.N, ¬(t.val % 2 = 0) → k0_off62 (grid0.coords t) = ![1, 0, 1280] := by
  decide +kernel

/-- Where condition 4 fails, the offsets chain `k0_off63` gives `![1, 0, 1408]`: the slot the
    body's accesses through it reach there. Each case whose run takes this as a hypothesis (`hl·`) cites this one theorem, decided over the grid. -/
theorem hoff0_k0_off63_n4 : ∀ t : Fin cfg0.N, ¬(t.val % 2 = 0) → k0_off63 (grid0.coords t) = ![1, 0, 1408] := by
  decide +kernel

/-- Where condition 4 fails, the offsets chain `k0_off64` gives `![1, 0, 1536]`: the slot the
    body's accesses through it reach there. Each case whose run takes this as a hypothesis (`hl·`) cites this one theorem, decided over the grid. -/
theorem hoff0_k0_off64_n4 : ∀ t : Fin cfg0.N, ¬(t.val % 2 = 0) → k0_off64 (grid0.coords t) = ![1, 0, 1536] := by
  decide +kernel

/-- Where condition 4 fails, the offsets chain `k0_off65` gives `![1, 0, 1664]`: the slot the
    body's accesses through it reach there. Each case whose run takes this as a hypothesis (`hl·`) cites this one theorem, decided over the grid. -/
theorem hoff0_k0_off65_n4 : ∀ t : Fin cfg0.N, ¬(t.val % 2 = 0) → k0_off65 (grid0.coords t) = ![1, 0, 1664] := by
  decide +kernel

/-- Where condition 4 fails, the offsets chain `k0_off66` gives `![1, 0, 1792]`: the slot the
    body's accesses through it reach there. Each case whose run takes this as a hypothesis (`hl·`) cites this one theorem, decided over the grid. -/
theorem hoff0_k0_off66_n4 : ∀ t : Fin cfg0.N, ¬(t.val % 2 = 0) → k0_off66 (grid0.coords t) = ![1, 0, 1792] := by
  decide +kernel

/-- Where condition 4 fails, the offsets chain `k0_off67` gives `![1, 0, 1920]`: the slot the
    body's accesses through it reach there. Each case whose run takes this as a hypothesis (`hl·`) cites this one theorem, decided over the grid. -/
theorem hoff0_k0_off67_n4 : ∀ t : Fin cfg0.N, ¬(t.val % 2 = 0) → k0_off67 (grid0.coords t) = ![1, 0, 1920] := by
  decide +kernel

/-- Where condition 4 fails, the offsets chain `k0_off68` gives `![0, 0, 0]`: the slot the
    body's accesses through it reach there. Each case whose run takes this as a hypothesis (`hl·`) cites this one theorem, decided over the grid. -/
theorem hoff0_k0_off68_n4 : ∀ t : Fin cfg0.N, ¬(t.val % 2 = 0) → k0_off68 (grid0.coords t) = ![0, 0, 0] := by
  decide +kernel

/-- Where condition 4 holds, the offsets chain `k0_off51` gives `![0, 0, 0]`: the slot the
    body's accesses through it reach there. Each case whose run takes this as a hypothesis (`hl·`) cites this one theorem, decided over the grid. -/
theorem hoff0_k0_off51_c4 : ∀ t : Fin cfg0.N, t.val % 2 = 0 → k0_off51 (grid0.coords t) = ![0, 0, 0] := by
  decide +kernel

/-- Where condition 4 holds, the offsets chain `k0_off52` gives `![0, 0, 0]`: the slot the
    body's accesses through it reach there. Each case whose run takes this as a hypothesis (`hl·`) cites this one theorem, decided over the grid. -/
theorem hoff0_k0_off52_c4 : ∀ t : Fin cfg0.N, t.val % 2 = 0 → k0_off52 (grid0.coords t) = ![0, 0, 0] := by
  decide +kernel

/-- Where condition 4 holds, the offsets chain `k0_off53` gives `![0, 0, 128]`: the slot the
    body's accesses through it reach there. Each case whose run takes this as a hypothesis (`hl·`) cites this one theorem, decided over the grid. -/
theorem hoff0_k0_off53_c4 : ∀ t : Fin cfg0.N, t.val % 2 = 0 → k0_off53 (grid0.coords t) = ![0, 0, 128] := by
  decide +kernel

/-- Where condition 4 holds, the offsets chain `k0_off54` gives `![0, 0, 256]`: the slot the
    body's accesses through it reach there. Each case whose run takes this as a hypothesis (`hl·`) cites this one theorem, decided over the grid. -/
theorem hoff0_k0_off54_c4 : ∀ t : Fin cfg0.N, t.val % 2 = 0 → k0_off54 (grid0.coords t) = ![0, 0, 256] := by
  decide +kernel

/-- Where condition 4 holds, the offsets chain `k0_off55` gives `![0, 0, 384]`: the slot the
    body's accesses through it reach there. Each case whose run takes this as a hypothesis (`hl·`) cites this one theorem, decided over the grid. -/
theorem hoff0_k0_off55_c4 : ∀ t : Fin cfg0.N, t.val % 2 = 0 → k0_off55 (grid0.coords t) = ![0, 0, 384] := by
  decide +kernel

/-- Where condition 4 holds, the offsets chain `k0_off56` gives `![0, 0, 512]`: the slot the
    body's accesses through it reach there. Each case whose run takes this as a hypothesis (`hl·`) cites this one theorem, decided over the grid. -/
theorem hoff0_k0_off56_c4 : ∀ t : Fin cfg0.N, t.val % 2 = 0 → k0_off56 (grid0.coords t) = ![0, 0, 512] := by
  decide +kernel

/-- Where condition 4 holds, the offsets chain `k0_off57` gives `![0, 0, 640]`: the slot the
    body's accesses through it reach there. Each case whose run takes this as a hypothesis (`hl·`) cites this one theorem, decided over the grid. -/
theorem hoff0_k0_off57_c4 : ∀ t : Fin cfg0.N, t.val % 2 = 0 → k0_off57 (grid0.coords t) = ![0, 0, 640] := by
  decide +kernel

/-- Where condition 4 holds, the offsets chain `k0_off58` gives `![0, 0, 768]`: the slot the
    body's accesses through it reach there. Each case whose run takes this as a hypothesis (`hl·`) cites this one theorem, decided over the grid. -/
theorem hoff0_k0_off58_c4 : ∀ t : Fin cfg0.N, t.val % 2 = 0 → k0_off58 (grid0.coords t) = ![0, 0, 768] := by
  decide +kernel

/-- Where condition 4 holds, the offsets chain `k0_off59` gives `![0, 0, 896]`: the slot the
    body's accesses through it reach there. Each case whose run takes this as a hypothesis (`hl·`) cites this one theorem, decided over the grid. -/
theorem hoff0_k0_off59_c4 : ∀ t : Fin cfg0.N, t.val % 2 = 0 → k0_off59 (grid0.coords t) = ![0, 0, 896] := by
  decide +kernel

/-- Where condition 4 holds, the offsets chain `k0_off60` gives `![0, 0, 1024]`: the slot the
    body's accesses through it reach there. Each case whose run takes this as a hypothesis (`hl·`) cites this one theorem, decided over the grid. -/
theorem hoff0_k0_off60_c4 : ∀ t : Fin cfg0.N, t.val % 2 = 0 → k0_off60 (grid0.coords t) = ![0, 0, 1024] := by
  decide +kernel

/-- Where condition 4 holds, the offsets chain `k0_off61` gives `![0, 0, 1152]`: the slot the
    body's accesses through it reach there. Each case whose run takes this as a hypothesis (`hl·`) cites this one theorem, decided over the grid. -/
theorem hoff0_k0_off61_c4 : ∀ t : Fin cfg0.N, t.val % 2 = 0 → k0_off61 (grid0.coords t) = ![0, 0, 1152] := by
  decide +kernel

/-- Where condition 4 holds, the offsets chain `k0_off62` gives `![0, 0, 1280]`: the slot the
    body's accesses through it reach there. Each case whose run takes this as a hypothesis (`hl·`) cites this one theorem, decided over the grid. -/
theorem hoff0_k0_off62_c4 : ∀ t : Fin cfg0.N, t.val % 2 = 0 → k0_off62 (grid0.coords t) = ![0, 0, 1280] := by
  decide +kernel

/-- Where condition 4 holds, the offsets chain `k0_off63` gives `![0, 0, 1408]`: the slot the
    body's accesses through it reach there. Each case whose run takes this as a hypothesis (`hl·`) cites this one theorem, decided over the grid. -/
theorem hoff0_k0_off63_c4 : ∀ t : Fin cfg0.N, t.val % 2 = 0 → k0_off63 (grid0.coords t) = ![0, 0, 1408] := by
  decide +kernel

/-- Where condition 4 holds, the offsets chain `k0_off64` gives `![0, 0, 1536]`: the slot the
    body's accesses through it reach there. Each case whose run takes this as a hypothesis (`hl·`) cites this one theorem, decided over the grid. -/
theorem hoff0_k0_off64_c4 : ∀ t : Fin cfg0.N, t.val % 2 = 0 → k0_off64 (grid0.coords t) = ![0, 0, 1536] := by
  decide +kernel

/-- Where condition 4 holds, the offsets chain `k0_off65` gives `![0, 0, 1664]`: the slot the
    body's accesses through it reach there. Each case whose run takes this as a hypothesis (`hl·`) cites this one theorem, decided over the grid. -/
theorem hoff0_k0_off65_c4 : ∀ t : Fin cfg0.N, t.val % 2 = 0 → k0_off65 (grid0.coords t) = ![0, 0, 1664] := by
  decide +kernel

/-- Where condition 4 holds, the offsets chain `k0_off66` gives `![0, 0, 1792]`: the slot the
    body's accesses through it reach there. Each case whose run takes this as a hypothesis (`hl·`) cites this one theorem, decided over the grid. -/
theorem hoff0_k0_off66_c4 : ∀ t : Fin cfg0.N, t.val % 2 = 0 → k0_off66 (grid0.coords t) = ![0, 0, 1792] := by
  decide +kernel

/-- Where condition 4 holds, the offsets chain `k0_off67` gives `![0, 0, 1920]`: the slot the
    body's accesses through it reach there. Each case whose run takes this as a hypothesis (`hl·`) cites this one theorem, decided over the grid. -/
theorem hoff0_k0_off67_c4 : ∀ t : Fin cfg0.N, t.val % 2 = 0 → k0_off67 (grid0.coords t) = ![0, 0, 1920] := by
  decide +kernel

/-- Where condition 4 holds, the offsets chain `k0_off68` gives `![1, 0, 0]`: the slot the
    body's accesses through it reach there. Each case whose run takes this as a hypothesis (`hl·`) cites this one theorem, decided over the grid. -/
theorem hoff0_k0_off68_c4 : ∀ t : Fin cfg0.N, t.val % 2 = 0 → k0_off68 (grid0.coords t) = ![1, 0, 0] := by
  decide +kernel

/-- Where condition 3 holds, the offsets chain `k0_off69` gives `![1, 0, 0]`: the slot the
    body's accesses through it reach there. Each case whose run takes this as a hypothesis (`hl·`) cites this one theorem, decided over the grid. -/
theorem hoff0_k0_off69_c3 : ∀ t : Fin cfg0.N, t.val % 7 = 6 → k0_off69 (grid0.coords t) = ![1, 0, 0] := by
  decide +kernel

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128 .i32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (hoff0_k0_off34_c1 ⟨0, hn⟩ (Nat.zero_mod _)) (hoff0_k0_off35_c1 ⟨0, hn⟩ (Nat.zero_mod _)) (hoff0_k0_off36_c1 ⟨0, hn⟩ (Nat.zero_mod _)) (hoff0_k0_off37_c1 ⟨0, hn⟩ (Nat.zero_mod _)) (hoff0_k0_off38_c1 ⟨0, hn⟩ (Nat.zero_mod _)) (hoff0_k0_off39_c1 ⟨0, hn⟩ (Nat.zero_mod _)) (hoff0_k0_off40_c1 ⟨0, hn⟩ (Nat.zero_mod _)) (hoff0_k0_off41_c1 ⟨0, hn⟩ (Nat.zero_mod _)) (hoff0_k0_off42_c1 ⟨0, hn⟩ (Nat.zero_mod _)) (hoff0_k0_off43_c1 ⟨0, hn⟩ (Nat.zero_mod _)) (hoff0_k0_off44_c1 ⟨0, hn⟩ (Nat.zero_mod _)) (hoff0_k0_off45_c1 ⟨0, hn⟩ (Nat.zero_mod _)) (hoff0_k0_off46_c1 ⟨0, hn⟩ (Nat.zero_mod _)) (hoff0_k0_off47_c1 ⟨0, hn⟩ (Nat.zero_mod _)) (hoff0_k0_off48_c1 ⟨0, hn⟩ (Nat.zero_mod _)) (hoff0_k0_off49_c1 ⟨0, hn⟩ (Nat.zero_mod _)) (hoff0_k0_off50_c1 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 7 = 0 then
      if h1 : (n + 1) % 7 = 0 then
        if h2 : (1 ≤ (n + 1) % 7 ∧ (n + 1) % 7 ≤ 5) then
          False.elim (by have hN : n + 1 < 7 := lt_of_lt_of_eq hn (show cfg0.N = 7 from N_0); omega)
        else
          if h3 : (n + 1) % 7 = 6 then
            False.elim (by have hN : n + 1 < 7 := lt_of_lt_of_eq hn (show cfg0.N = 7 from N_0); omega)
          else
            sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (hoff0_k0_off34_c1 ⟨n + 1, hn⟩ h1) (hoff0_k0_off35_c1 ⟨n + 1, hn⟩ h1) (hoff0_k0_off36_c1 ⟨n + 1, hn⟩ h1) (hoff0_k0_off37_c1 ⟨n + 1, hn⟩ h1) (hoff0_k0_off38_c1 ⟨n + 1, hn⟩ h1) (hoff0_k0_off39_c1 ⟨n + 1, hn⟩ h1) (hoff0_k0_off40_c1 ⟨n + 1, hn⟩ h1) (hoff0_k0_off41_c1 ⟨n + 1, hn⟩ h1) (hoff0_k0_off42_c1 ⟨n + 1, hn⟩ h1) (hoff0_k0_off43_c1 ⟨n + 1, hn⟩ h1) (hoff0_k0_off44_c1 ⟨n + 1, hn⟩ h1) (hoff0_k0_off45_c1 ⟨n + 1, hn⟩ h1) (hoff0_k0_off46_c1 ⟨n + 1, hn⟩ h1) (hoff0_k0_off47_c1 ⟨n + 1, hn⟩ h1) (hoff0_k0_off48_c1 ⟨n + 1, hn⟩ h1) (hoff0_k0_off49_c1 ⟨n + 1, hn⟩ h1) (hoff0_k0_off50_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        False.elim (by have hN : n + 1 < 7 := lt_of_lt_of_eq hn (show cfg0.N = 7 from N_0); omega)
    else
      if h1 : (n + 1) % 7 = 0 then
        False.elim (by have hN : n + 1 < 7 := lt_of_lt_of_eq hn (show cfg0.N = 7 from N_0); omega)
      else
        if h2 : (1 ≤ (n + 1) % 7 ∧ (n + 1) % 7 ≤ 5) then
          if h3 : (n + 1) % 7 = 6 then
            False.elim (by have hN : n + 1 < 7 := lt_of_lt_of_eq hn (show cfg0.N = 7 from N_0); omega)
          else
            if h4 : (n + 1) % 2 = 0 then
              sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) ((hcond0_4 ⟨n + 1, hn⟩).mpr h4) (hoff0_k0_off51_c4 ⟨n + 1, hn⟩ h4) (hoff0_k0_off52_c4 ⟨n + 1, hn⟩ h4) (hoff0_k0_off53_c4 ⟨n + 1, hn⟩ h4) (hoff0_k0_off54_c4 ⟨n + 1, hn⟩ h4) (hoff0_k0_off55_c4 ⟨n + 1, hn⟩ h4) (hoff0_k0_off56_c4 ⟨n + 1, hn⟩ h4) (hoff0_k0_off57_c4 ⟨n + 1, hn⟩ h4) (hoff0_k0_off58_c4 ⟨n + 1, hn⟩ h4) (hoff0_k0_off59_c4 ⟨n + 1, hn⟩ h4) (hoff0_k0_off60_c4 ⟨n + 1, hn⟩ h4) (hoff0_k0_off61_c4 ⟨n + 1, hn⟩ h4) (hoff0_k0_off62_c4 ⟨n + 1, hn⟩ h4) (hoff0_k0_off63_c4 ⟨n + 1, hn⟩ h4) (hoff0_k0_off64_c4 ⟨n + 1, hn⟩ h4) (hoff0_k0_off65_c4 ⟨n + 1, hn⟩ h4) (hoff0_k0_off66_c4 ⟨n + 1, hn⟩ h4) (hoff0_k0_off67_c4 ⟨n + 1, hn⟩ h4) (hoff0_k0_off68_c4 ⟨n + 1, hn⟩ h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
            else
              sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (hoff0_k0_off51_n4 ⟨n + 1, hn⟩ h4) (hoff0_k0_off52_n4 ⟨n + 1, hn⟩ h4) (hoff0_k0_off53_n4 ⟨n + 1, hn⟩ h4) (hoff0_k0_off54_n4 ⟨n + 1, hn⟩ h4) (hoff0_k0_off55_n4 ⟨n + 1, hn⟩ h4) (hoff0_k0_off56_n4 ⟨n + 1, hn⟩ h4) (hoff0_k0_off57_n4 ⟨n + 1, hn⟩ h4) (hoff0_k0_off58_n4 ⟨n + 1, hn⟩ h4) (hoff0_k0_off59_n4 ⟨n + 1, hn⟩ h4) (hoff0_k0_off60_n4 ⟨n + 1, hn⟩ h4) (hoff0_k0_off61_n4 ⟨n + 1, hn⟩ h4) (hoff0_k0_off62_n4 ⟨n + 1, hn⟩ h4) (hoff0_k0_off63_n4 ⟨n + 1, hn⟩ h4) (hoff0_k0_off64_n4 ⟨n + 1, hn⟩ h4) (hoff0_k0_off65_n4 ⟨n + 1, hn⟩ h4) (hoff0_k0_off66_n4 ⟨n + 1, hn⟩ h4) (hoff0_k0_off67_n4 ⟨n + 1, hn⟩ h4) (hoff0_k0_off68_n4 ⟨n + 1, hn⟩ h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
        else
          if h3 : (n + 1) % 7 = 6 then
            sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (hoff0_k0_off69_c3 ⟨n + 1, hn⟩ h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
          else
            False.elim (by have hN : n + 1 < 7 := lt_of_lt_of_eq hn (show cfg0.N = 7 from N_0); omega)

/-- `outsAt0` at a point of case A: that case's contents. -/
theorem outsAt0_A (c : Dev nD) (t : Fin cfg0.N) (h0 : t.val % 7 = 0) (h1 : t.val % 7 = 0) (h2 : ¬(1 ≤ t.val % 7 ∧ t.val % 7 ≤ 5)) (h3 : ¬t.val % 7 = 6) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (hoff0_k0_off34_c1 t h1) (hoff0_k0_off35_c1 t h1) (hoff0_k0_off36_c1 t h1) (hoff0_k0_off37_c1 t h1) (hoff0_k0_off38_c1 t h1) (hoff0_k0_off39_c1 t h1) (hoff0_k0_off40_c1 t h1) (hoff0_k0_off41_c1 t h1) (hoff0_k0_off42_c1 t h1) (hoff0_k0_off43_c1 t h1) (hoff0_k0_off44_c1 t h1) (hoff0_k0_off45_c1 t h1) (hoff0_k0_off46_c1 t h1) (hoff0_k0_off47_c1 t h1) (hoff0_k0_off48_c1 t h1) (hoff0_k0_off49_c1 t h1) (hoff0_k0_off50_c1 t h1) (iblk m c 0 t) (iblk m c 1 t) (iblk m c 2 t) (iblk m c 3 t) (iblk m c 4 t) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 7 = 0) (h1 : ¬t.val % 7 = 0) (h2 : (1 ≤ t.val % 7 ∧ t.val % 7 ≤ 5)) (h3 : ¬t.val % 7 = 6) (h4 : ¬t.val % 2 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (hoff0_k0_off51_n4 t h4) (hoff0_k0_off52_n4 t h4) (hoff0_k0_off53_n4 t h4) (hoff0_k0_off54_n4 t h4) (hoff0_k0_off55_n4 t h4) (hoff0_k0_off56_n4 t h4) (hoff0_k0_off57_n4 t h4) (hoff0_k0_off58_n4 t h4) (hoff0_k0_off59_n4 t h4) (hoff0_k0_off60_n4 t h4) (hoff0_k0_off61_n4 t h4) (hoff0_k0_off62_n4 t h4) (hoff0_k0_off63_n4 t h4) (hoff0_k0_off64_n4 t h4) (hoff0_k0_off65_n4 t h4) (hoff0_k0_off66_n4 t h4) (hoff0_k0_off67_n4 t h4) (hoff0_k0_off68_n4 t h4) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

/-- `outsAt0` at a point of case C: that case's contents, over what the point before left. -/
theorem outsAt0_C (c : Dev nD) (t : Fin cfg0.N) (h0 : ¬t.val % 7 = 0) (h1 : ¬t.val % 7 = 0) (h2 : (1 ≤ t.val % 7 ∧ t.val % 7 ≤ 5)) (h3 : ¬t.val % 7 = 6) (h4 : t.val % 2 = 0) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) ((hcond0_4 t).mpr h4) (hoff0_k0_off51_c4 t h4) (hoff0_k0_off52_c4 t h4) (hoff0_k0_off53_c4 t h4) (hoff0_k0_off54_c4 t h4) (hoff0_k0_off55_c4 t h4) (hoff0_k0_off56_c4 t h4) (hoff0_k0_off57_c4 t h4) (hoff0_k0_off58_c4 t h4) (hoff0_k0_off59_c4 t h4) (hoff0_k0_off60_c4 t h4) (hoff0_k0_off61_c4 t h4) (hoff0_k0_off62_c4 t h4) (hoff0_k0_off63_c4 t h4) (hoff0_k0_off64_c4 t h4) (hoff0_k0_off65_c4 t h4) (hoff0_k0_off66_c4 t h4) (hoff0_k0_off67_c4 t h4) (hoff0_k0_off68_c4 t h4) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_pos h4).trans rfl))))

/-- `outsAt0` at a point of case D: that case's contents, over what the point before left. -/
theorem outsAt0_D (c : Dev nD) (t : Fin cfg0.N) (h0 : ¬t.val % 7 = 0) (h1 : ¬t.val % 7 = 0) (h2 : ¬(1 ≤ t.val % 7 ∧ t.val % 7 ≤ 5)) (h3 : t.val % 7 = 6) :
    outsAt0 m c t.val t.isLt = sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (hoff0_k0_off69_c3 t h3) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 7 := lt_of_lt_of_eq t.isLt (show cfg0.N = 7 from N_0)
  by_cases h0 : t.val % 7 = 0
  · by_cases h1 : t.val % 7 = 0
    · by_cases h2 : (1 ≤ t.val % 7 ∧ t.val % 7 ≤ 5)
      · exfalso; omega
      · by_cases h3 : t.val % 7 = 6
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · rw [PhiS_castSucc m c t, PhiS_zero m c _ _ hz, PhiA0_eq]
            rw [outsAt0_A m c t h0 h1 h2 h3]
            unfold sout0_A_0
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (hoff0_k0_off34_c1 t h1) (hoff0_k0_off35_c1 t h1) (hoff0_k0_off36_c1 t h1) (hoff0_k0_off37_c1 t h1) (hoff0_k0_off38_c1 t h1) (hoff0_k0_off39_c1 t h1) (hoff0_k0_off40_c1 t h1) (hoff0_k0_off41_c1 t h1) (hoff0_k0_off42_c1 t h1) (hoff0_k0_off43_c1 t h1) (hoff0_k0_off44_c1 t h1) (hoff0_k0_off45_c1 t h1) (hoff0_k0_off46_c1 t h1) (hoff0_k0_off47_c1 t h1) (hoff0_k0_off48_c1 t h1) (hoff0_k0_off49_c1 t h1) (hoff0_k0_off50_c1 t h1) (iblk m c 0 t) (iblk m c 1 t) (iblk m c 2 t) (iblk m c 3 t) (iblk m c 4 t)).2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, ⟨%es0, HS0⟩, HS1, HS2, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
          · exfalso; have hN : t.val < 7 := lt_of_lt_of_eq t.isLt (show cfg0.N = 7 from N_0); omega
    · exfalso; omega
  · by_cases h1 : t.val % 7 = 0
    · exfalso; omega
    · by_cases h2 : (1 ≤ t.val % 7 ∧ t.val % 7 ≤ 5)
      · by_cases h3 : t.val % 7 = 6
        · exfalso; omega
        · by_cases h4 : t.val % 2 = 0
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 7 := lt_of_lt_of_eq t.isLt (show cfg0.N = 7 from N_0); omega
            · rw [PhiS_castSucc m c t, PhiS_pos m c _ _ hz]
              rw [outsAt0_C m c t h0 h1 h2 h3 h4]
              unfold sout0_C_0
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (hoff0_k0_off51_c4 t h4) (hoff0_k0_off52_c4 t h4) (hoff0_k0_off53_c4 t h4) (hoff0_k0_off54_c4 t h4) (hoff0_k0_off55_c4 t h4) (hoff0_k0_off56_c4 t h4) (hoff0_k0_off57_c4 t h4) (hoff0_k0_off58_c4 t h4) (hoff0_k0_off59_c4 t h4) (hoff0_k0_off60_c4 t h4) (hoff0_k0_off61_c4 t h4) (hoff0_k0_off62_c4 t h4) (hoff0_k0_off63_c4 t h4) (hoff0_k0_off64_c4 t h4) (hoff0_k0_off65_c4 t h4) (hoff0_k0_off66_c4 t h4) (hoff0_k0_off67_c4 t h4) (hoff0_k0_off68_c4 t h4) (iblk m c 0 t) (iblk m c 1 t) (iblk m c 2 t) (iblk m c 3 t) (iblk m c 4 t) _).2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              iintro ⟨H0, H1, H2, H3, H4, H5, H6, H7, HS0, HS1, HS2, HS3⟩
              isplitl [HS0 HS1 HS2 HS3 Hg]
              · isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 7 := lt_of_lt_of_eq t.isLt (show cfg0.N = 7 from N_0); omega
            · rw [PhiS_castSucc m c t, PhiS_pos m c _ _ hz]
              rw [outsAt0_B m c t h0 h1 h2 h3 h4]
              unfold sout0_B_0
              iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
              iapply ((kernelRun0_B c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hoff0_k0_off51_n4 t h4) (hoff0_k0_off52_n4 t h4) (hoff0_k0_off53_n4 t h4) (hoff0_k0_off54_n4 t h4) (hoff0_k0_off55_n4 t h4) (hoff0_k0_off56_n4 t h4) (hoff0_k0_off57_n4 t h4) (hoff0_k0_off58_n4 t h4) (hoff0_k0_off59_n4 t h4) (hoff0_k0_off60_n4 t h4) (hoff0_k0_off61_n4 t h4) (hoff0_k0_off62_n4 t h4) (hoff0_k0_off63_n4 t h4) (hoff0_k0_off64_n4 t h4) (hoff0_k0_off65_n4 t h4) (hoff0_k0_off66_n4 t h4) (hoff0_k0_off67_n4 t h4) (hoff0_k0_off68_n4 t h4) (iblk m c 0 t) (iblk m c 1 t) (iblk m c 2 t) (iblk m c 3 t) (iblk m c 4 t) _).2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [HS0]; · iexact HS0
              isplitl [HS1]; · iexact HS1
              isplitl [HS2]; · iexact HS2
              isplitl [HS3]; · iexact HS3
              iintro ⟨H0, H1, H2, H3, H4, H5, H6, H7, HS0, HS1, HS2, HS3⟩
              isplitl [HS0 HS1 HS2 HS3 Hg]
              · isplitl [HS0 HS1 HS2 HS3]
                · isplitl [HS0]
                  · iexact HS0
                  isplitl [HS1]
                  · iexact HS1
                  isplitl [HS2]
                  · iexact HS2
                  iexact HS3
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              iexact H7
      · by_cases h3 : t.val % 7 = 6
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          by_cases hz : t.val = 0
          · exfalso; have hN : t.val < 7 := lt_of_lt_of_eq t.isLt (show cfg0.N = 7 from N_0); omega
          · rw [PhiS_castSucc m c t, PhiS_pos m c _ _ hz]
            rw [outsAt0_D m c t h0 h1 h2 h3]
            unfold sout0_D_0
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
            iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (hoff0_k0_off69_c3 t h3) (iblk m c 0 t) (iblk m c 1 t) (iblk m c 2 t) (iblk m c 3 t) (iblk m c 4 t) _).2 Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexists _; iexact H6
            isplitl [H7]; · iexists _; iexact H7
            isplitl [HS0]; · iexact HS0
            isplitl [HS1]; · iexact HS1
            isplitl [HS2]; · iexact HS2
            isplitl [HS3]; · iexact HS3
            iintro ⟨H0, H1, H2, H3, H4, H5, H6, H7, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            iexact H7
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- THE FRAME: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Cases.lean ====
/- The conditions of the body's branches and the slot offsets it uses, each as a fact about the grid point. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, k0_cond1, e0]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the first point only — by arithmetic of the point. -/
theorem hcond0_1 : ∀ t : Fin cfg0.N, cond0_1 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_1, k0_cond2, e0]
    word_cmp
   : ∀ t : Fin grid0.N, cond0_1 (grid0.coords t) ↔ t.val % 7 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i0 and i0 ≤ 5 — decided over the grid. -/
theorem hcond0_2 : ∀ t : Fin cfg0.N, cond0_2 (grid0.coords t) ↔ (1 ≤ t.val % 7 ∧ t.val % 7 ≤ 5) :=
  (by decide +kernel : ∀ t : Fin grid0.N, cond0_2 (grid0.coords t) ↔ (1 ≤ t.val % 7 ∧ t.val % 7 ≤ 5))

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 7 = 6 :=
  (fun t => by
    have ht : t.val < 7 := Nat.lt_of_lt_of_eq t.isLt N_0
    have e0 : (grid0.coords t 0).val = t.val / 1 % 7 := Pipeline.Grid.coords_val t 0 (by decide) rfl
    simp only [cond0_3, k0_cond4, e0]
    word_cmp
   : ∀ t : Fin grid0.N, cond0_3 (grid0.coords t) ↔ t.val % 7 = 6)

/-- A condition the certificate splits the body on though no `scf.if` tests it: the offsets chain `k0_off51`, by which the
    body picks a slot of a scratch, gives `![0, 0, 0]` — so that each case's run reads every access through
    that chain, and through every other chain this one decides, at one literal slot. -/
abbrev cond0_4 (i : grid0.Coords) : Prop := k0_off51 i = ![0, 0, 0]
/-- It holds at the points ≡ 0 (mod 2) — decided over the grid. -/
theorem hcond0_4 : ∀ t : Fin cfg0.N, cond0_4 (grid0.coords t) ↔ t.val % 2 = 0 :=
  (by decide +kernel : ∀ t : Fin grid0.N, cond0_4 (grid0.coords t) ↔ t.val % 2 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S31x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3968x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3968x2048 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x3968 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x16 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S16x128 .i32 := Memref.whole cc0_scratch0
abbrev scM0_1 : Memref sig .tc .vmem S16x128 .i32 := Memref.whole cc0_scratch1
abbrev scM0_2 : Memref sig .tc .vmem S2x512x2048 .bf16 := Memref.whole cc0_scratch2
abbrev scM0_3 : Memref sig .tc .vmem S3968x2048 .bf16 := Memref.whole cc0_scratch3
/-- The scratch `arg9` the kernel carries between points, as a view: what it holds is stated through it. -/
abbrev VS0_0 : View sig .tc .vmem S16x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Where condition 1 holds, the offsets chain `k0_off34` gives `![0, 0, 0]`: the slot the
    body's accesses through it reach there. Each case whose run takes this as a hypothesis (`hl·`) cites this one theorem, decided over the grid. -/
theorem hoff0_k0_off34_c1 : ∀ t : Fin cfg0.N, t.val % 7 = 0 → k0_off34 (grid0.coords t) = ![0, 0, 0] := by
  decide +kernel

/-- Where condition 1 holds, the offsets chain `k0_off35` gives `![0, 0, 0]`: the slot the
    body's accesses through it reach there. Each case whose run takes this as a hypothesis (`hl·`) cites this one theorem, decided over the grid. -/
theorem hoff0_k0_off35_c1 : ∀ t : Fin cfg0.N, t.val % 7 = 0 → k0_off35 (grid0.coords t) = ![0, 0, 0] := by
  decide +kernel

/-- Where condition 1 holds, the offsets chain `k0_off36` gives `![0, 0, 128]`: the slot the
    body's accesses through it reach there. Each case whose run takes this as a hypothesis (`hl·`) cites this one theorem, decided over the grid. -/
theorem hoff0_k0_off36_c1 : ∀ t : Fin cfg0.N, t.val % 7 = 0 → k0_off36 (grid0.coords t) = ![0, 0, 128] := by
  decide +kernel

/-- Where condition 1 holds, the offsets chain `k0_off37` gives `![0, 0, 256]`: the slot the
    body's accesses through it reach there. Each case whose run takes this as a hypothesis (`hl·`) cites this one theorem, decided over the grid. -/
theorem hoff0_k0_off37_c1 : ∀ t : Fin cfg0.N, t.val % 7 = 0 → k0_off37 (grid0.coords t) = ![0, 0, 256] := by
  decide +kernel

/-- Where condition 1 holds, the offsets chain `k0_off38` gives `![0, 0, 384]`: the slot the
    body's accesses through it reach there. Each case whose run takes this as a hypothesis (`hl·`) cites this one theorem, decided over the grid. -/
theorem hoff0_k0_off38_c1 : ∀ t : Fin cfg0.N, t.val % 7 = 0 → k0_off38 (grid0.coords t) = ![0, 0, 384] := by
  decide +kernel

/-- Where condition 1 holds, the offsets chain `k0_off39` gives `![0, 0, 512]`: the slot the
    body's accesses through it reach there. Each case whose run takes this as a hypothesis (`hl·`) cites this one theorem, decided over the grid. -/
theorem hoff0_k0_off39_c1 : ∀ t : Fin cfg0.N, t.val % 7 = 0 → k0_off39 (grid0.coords t) = ![0, 0, 512] := by
  decide +kernel

/-- Where condition 1 holds, the offsets chain `k0_off40` gives `![0, 0, 640]`: the slot the
    body's accesses through it reach there. Each case whose run takes this as a hypothesis (`hl·`) cites this one theorem, decided over the grid. -/
theorem hoff0_k0_off40_c1 : ∀ t : Fin cfg0.N, t.val % 7 = 0 → k0_off40 (grid0.coords t) = ![0, 0, 640] := by
  decide +kernel

/-- Where condition 1 holds, the offsets chain `k0_off41` gives `![0, 0, 768]`: the slot the
    body's accesses through it reach there. Each case whose run takes this as a hypothesis (`hl·`) cites this one theorem, decided over the grid. -/
theorem hoff0_k0_off41_c1 : ∀ t : Fin cfg0.N, t.val % 7 = 0 → k0_off41 (grid0.coords t) = ![0, 0, 768] := by
  decide +kernel

/-- Where condition 1 holds, the offsets chain `k0_off42` gives `![0, 0, 896]`: the slot the
    body's accesses through it reach there. Each case whose run takes this as a hypothesis (`hl·`) cites this one theorem, decided over the grid. -/
theorem hoff0_k0_off42_c1 : ∀ t : Fin cfg0.N, t.val % 7 = 0 → k0_off42 (grid0.coords t) = ![0, 0, 896] := by
  decide +kernel

/-- Where condition 1 holds, the offsets chain `k0_off43` gives `![0, 0, 1024]`: the slot the
    body's accesses through it reach there. Each case whose run takes this as a hypothesis (`hl·`) cites this one theorem, decided over the grid. -/
theorem hoff0_k0_off43_c1 : ∀ t : Fin cfg0.N, t.val % 7 = 0 → k0_off43 (grid0.coords t) = ![0, 0, 1024] := by
  decide +kernel

/-- Where condition 1 holds, the offsets chain `k0_off44` gives `![0, 0, 1152]`: the slot the
    body's accesses through it reach there. Each case whose run takes this as a hypothesis (`hl·`) cites this one theorem, decided over the grid. -/
theorem hoff0_k0_off44_c1 : ∀ t : Fin cfg0.N, t.val % 7 = 0 → k0_off44 (grid0.coords t) = ![0, 0, 1152] := by
  decide +kernel

/-- Where condition 1 holds, the offsets chain `k0_off45` gives `![0, 0, 1280]`: the slot the
    body's accesses through it reach there. Each case whose run takes this as a hypothesis (`hl·`) cites this one theorem, decided over the grid. -/
theorem hoff0_k0_off45_c1 : ∀ t : Fin cfg0.N, t.val % 7 = 0 → k0_off45 (grid0.coords t) = ![0, 0, 1280] := by
  decide +kernel

/-- Where condition 1 holds, the offsets chain `k0_off46` gives `![0, 0, 1408]`: the slot the
    body's accesses through it reach there. Each case whose run takes this as a hypothesis (`hl·`) cites this one theorem, decided over the grid. -/
theorem hoff0_k0_off46_c1 : ∀ t : Fin cfg0.N, t.val % 7 = 0 → k0_off46 (grid0.coords t) = ![0, 0, 1408] := by
  decide +kernel

/-- Where condition 1 holds, the offsets chain `k0_off47` gives `![0, 0, 1536]`: the slot the
    body's accesses through it reach there. Each case whose run takes this as a hypothesis (`hl·`) cites this one theorem, decided over the grid. -/
theorem hoff0_k0_off47_c1 : ∀ t : Fin cfg0.N, t.val % 7 = 0 → k0_off47 (grid0.coords t) = ![0, 0, 1536] := by
  decide +kernel

/-- Where condition 1 holds, the offsets chain `k0_off48` gives `![0, 0, 1664]`: the slot the
    body's accesses through it reach there. Each case whose run takes this as a hypothesis (`hl·`) cites this one theorem, decided over the grid. -/
theorem hoff0_k0_off48_c1 : ∀ t : Fin cfg0.N, t.val % 7 = 0 → k0_off48 (grid0.coords t) = ![0, 0, 1664] := by
  decide +kernel

/-- Where condition 1 holds, the offsets chain `k0_off49` gives `![0, 0, 1792]`: the slot the
    body's accesses through it reach there. Each case whose run takes this as a hypothesis (`hl·`) cites this one theorem, decided over the grid. -/
theorem hoff0_k0_off49_c1 : ∀ t : Fin cfg0.N, t.val % 7 = 0 → k0_off49 (grid0.coords t) = ![0, 0, 1792] := by
  decide +kernel

/-- Where condition 1 holds, the offsets chain `k0_off50` gives `![0, 0, 1920]`: the slot the
    body's accesses through it reach there. Each case whose run takes this as a hypothesis (`hl·`) cites this one theorem, decided over the grid. -/
theorem hoff0_k0_off50_c1 : ∀ t : Fin cfg0.N, t.val % 7 = 0 → k0_off50 (grid0.coords t) = ![0, 0, 1920] := by
  decide +kernel

/-- Where condition 4 fails, the offsets chain `k0_off51` gives `![1, 0, 0]`: the slot the
    body's accesses through it reach there. Each case whose run takes this as a hypothesis (`hl·`) cites this one theorem, decided over the grid. -/
theorem hoff0_k0_off51_n4 : ∀ t : Fin cfg0.N, ¬(t.val % 2 = 0) → k0_off51 (grid0.coords t) = ![1, 0, 0] := by
  decide +kernel

/-- Where condition 4 fails, the offsets chain `k0_off52` gives `![1, 0, 0]`: the slot the
    body's accesses through it reach there. Each case whose run takes this as a hypothesis (`hl·`) cites this one theorem, decided over the grid. -/
theorem hoff0_k0_off52_n4 : ∀ t : Fin cfg0.N, ¬(t.val % 2 = 0) → k0_off52 (grid0.coords t) = ![1, 0, 0] := by
  decide +kernel

/-- Where condition 4 fails, the offsets chain `k0_off53` gives `![1, 0, 128]`: the slot the
    body's accesses through it reach there. Each case whose run takes this as a hypothesis (`hl·`) cites this one theorem, decided over the grid. -/
theorem hoff0_k0_off53_n4 : ∀ t : Fin cfg0.N, ¬(t.val % 2 = 0) → k0_off53 (grid0.coords t) = ![1, 0, 128] := by
  decide +kernel

/-- Where condition 4 fails, the offsets chain `k0_off54` gives `![1, 0, 256]`: the slot the
    body's accesses through it reach there. Each case whose run takes this as a hypothesis (`hl·`) cites this one theorem, decided over the grid. -/
theorem hoff0_k0_off54_n4 : ∀ t : Fin cfg0.N, ¬(t.val % 2 = 0) → k0_off54 (grid0.coords t) = ![1, 0, 256] := by
  decide +kernel

/-- Where condition 4 fails, the offsets chain `k0_off55` gives `![1, 0, 384]`: the slot the
    body's accesses through it reach there. Each case whose run takes this as a hypothesis (`hl·`) cites this one theorem, decided over the grid. -/
theorem hoff0_k0_off55_n4 : ∀ t : Fin cfg0.N, ¬(t.val % 2 = 0) → k0_off55 (grid0.coords t) = ![1, 0, 384] := by
  decide +kernel

/-- Where condition 4 fails, the offsets chain `k0_off56` gives `![1, 0, 512]`: the slot the
    body's accesses through it reach there. Each case whose run takes this as a hypothesis (`hl·`) cites this one theorem, decided over the grid. -/
theorem hoff0_k0_off56_n4 : ∀ t : Fin cfg0.N, ¬(t.val % 2 = 0) → k0_off56 (grid0.coords t) = ![1, 0, 512] := by
  decide +kernel

/-- Where condition 4 fails, the offsets chain `k0_off57` gives `![1, 0, 640]`: the slot the
    body's accesses through it reach there. Each case whose run takes this as a hypothesis (`hl·`) cites this one theorem, decided over the grid. -/
theorem hoff0_k0_off57_n4 : ∀ t : Fin cfg0.N, ¬(t.val % 2 = 0) → k0_off57 (grid0.coords t) = ![1, 0, 640] := by
  decide +kernel

/-- Where condition 4 fails, the offsets chain `k0_off58` gives `![1, 0, 768]`: the slot the
    body's accesses through it reach there. Each case whose run takes this as a hypothesis (`hl·`) cites this one theorem, decided over the grid. -/
theorem hoff0_k0_off58_n4 : ∀ t : Fin cfg0.N, ¬(t.val % 2 = 0) → k0_off58 (grid0.coords t) = ![1, 0, 768] := by
  decide +kernel

/-- Where condition 4 fails, the offsets chain `k0_off59` gives `![1, 0, 896]`: the slot the
    body's accesses through it reach there. Each case whose run takes this as a hypothesis (`hl·`) cites this one theorem, decided over the grid. -/
theorem hoff0_k0_off59_n4 : ∀ t : Fin cfg0.N, ¬(t.val % 2 = 0) → k0_off59 (grid0.coords t) = ![1, 0, 896] := by
  decide +kernel

/-- Where condition 4 fails, the offsets chain `k0_off60` gives `![1, 0, 1024]`: the slot the
    body's accesses through it reach there. Each case whose run takes this as a hypothesis (`hl·`) cites this one theorem, decided over the grid. -/
theorem hoff0_k0_off60_n4 : ∀ t : Fin cfg0.N, ¬(t.val % 2 = 0) → k0_off60 (grid0.coords t) = ![1, 0, 1024] := by
  decide +kernel

/-- Where condition 4 fails, the offsets chain `k0_off61` gives `![1, 0, 1152]`: the slot the
    body's accesses through it reach there. Each case whose run takes this as a hypothesis (`hl·`) cites this one theorem, decided over the grid. -/
theorem hoff0_k0_off61_n4 : ∀ t : Fin cfg0.N, ¬(t.val % 2 = 0) → k0_off61 (grid0.coords t) = ![1, 0, 1152] := by
  decide +kernel

/-- Where condition 4 fails, the offsets chain `k0_off62` gives `![1, 0, 1280]`: the slot the
    body's accesses through it reach there. Each case whose run takes this as a hypothesis (`hl·`) cites this one theorem, decided over the grid. -/
theorem hoff0_k0_off62_n4 : ∀ t : Fin cfg0.N, ¬(t.val % 2 = 0) → k0_off62 (grid0.coords t) = ![1, 0, 1280] := by
  decide +kernel

/-- Where condition 4 fails, the offsets chain `k0_off63` gives `![1, 0, 1408]`: the slot the
    body's accesses through it reach there. Each case whose run takes this as a hypothesis (`hl·`) cites this one theorem, decided over the grid. -/
theorem hoff0_k0_off63_n4 : ∀ t : Fin cfg0.N, ¬(t.val % 2 = 0) → k0_off63 (grid0.coords t) = ![1, 0, 1408] := by
  decide +kernel

/-- Where condition 4 fails, the offsets chain `k0_off64` gives `![1, 0, 1536]`: the slot the
    body's accesses through it reach there. Each case whose run takes this as a hypothesis (`hl·`) cites this one theorem, decided over the grid. -/
theorem hoff0_k0_off64_n4 : ∀ t : Fin cfg0.N, ¬(t.val % 2 = 0) → k0_off64 (grid0.coords t) = ![1, 0, 1536] := by
  decide +kernel

/-- Where condition 4 fails, the offsets chain `k0_off65` gives `![1, 0, 1664]`: the slot the
    body's accesses through it reach there. Each case whose run takes this as a hypothesis (`hl·`) cites this one theorem, decided over the grid. -/
theorem hoff0_k0_off65_n4 : ∀ t : Fin cfg0.N, ¬(t.val % 2 = 0) → k0_off65 (grid0.coords t) = ![1, 0, 1664] := by
  decide +kernel

/-- Where condition 4 fails, the offsets chain `k0_off66` gives `![1, 0, 1792]`: the slot the
    body's accesses through it reach there. Each case whose run takes this as a hypothesis (`hl·`) cites this one theorem, decided over the grid. -/
theorem hoff0_k0_off66_n4 : ∀ t : Fin cfg0.N, ¬(t.val % 2 = 0) → k0_off66 (grid0.coords t) = ![1, 0, 1792] := by
  decide +kernel

/-- Where condition 4 fails, the offsets chain `k0_off67` gives `![1, 0, 1920]`: the slot the
    body's accesses through it reach there. Each case whose run takes this as a hypothesis (`hl·`) cites this one theorem, decided over the grid. -/
theorem hoff0_k0_off67_n4 : ∀ t : Fin cfg0.N, ¬(t.val % 2 = 0) → k0_off67 (grid0.coords t) = ![1, 0, 1920] := by
  decide +kernel

/-- Where condition 4 fails, the offsets chain `k0_off68` gives `![0, 0, 0]`: the slot the
    body's accesses through it reach there. Each case whose run takes this as a hypothesis (`hl·`) cites this one theorem, decided over the grid. -/
theorem hoff0_k0_off68_n4 : ∀ t : Fin cfg0.N, ¬(t.val % 2 = 0) → k0_off68 (grid0.coords t) = ![0, 0, 0] := by
  decide +kernel

/-- Where condition 4 holds, the offsets chain `k0_off51` gives `![0, 0, 0]`: the slot the
    body's accesses through it reach there. Each case whose run takes this as a hypothesis (`hl·`) cites this one theorem, decided over the grid. -/
theorem hoff0_k0_off51_c4 : ∀ t : Fin cfg0.N, t.val % 2 = 0 → k0_off51 (grid0.coords t) = ![0, 0, 0] := by
  decide +kernel

/-- Where condition 4 holds, the offsets chain `k0_off52` gives `![0, 0, 0]`: the slot the
    body's accesses through it reach there. Each case whose run takes this as a hypothesis (`hl·`) cites this one theorem, decided over the grid. -/
theorem hoff0_k0_off52_c4 : ∀ t : Fin cfg0.N, t.val % 2 = 0 → k0_off52 (grid0.coords t) = ![0, 0, 0] := by
  decide +kernel

/-- Where condition 4 holds, the offsets chain `k0_off53` gives `![0, 0, 128]`: the slot the
    body's accesses through it reach there. Each case whose run takes this as a hypothesis (`hl·`) cites this one theorem, decided over the grid. -/
theorem hoff0_k0_off53_c4 : ∀ t : Fin cfg0.N, t.val % 2 = 0 → k0_off53 (grid0.coords t) = ![0, 0, 128] := by
  decide +kernel

/-- Where condition 4 holds, the offsets chain `k0_off54` gives `![0, 0, 256]`: the slot the
    body's accesses through it reach there. Each case whose run takes this as a hypothesis (`hl·`) cites this one theorem, decided over the grid. -/
theorem hoff0_k0_off54_c4 : ∀ t : Fin cfg0.N, t.val % 2 = 0 → k0_off54 (grid0.coords t) = ![0, 0, 256] := by
  decide +kernel

/-- Where condition 4 holds, the offsets chain `k0_off55` gives `![0, 0, 384]`: the slot the
    body's accesses through it reach there. Each case whose run takes this as a hypothesis (`hl·`) cites this one theorem, decided over the grid. -/
theorem hoff0_k0_off55_c4 : ∀ t : Fin cfg0.N, t.val % 2 = 0 → k0_off55 (grid0.coords t) = ![0, 0, 384] := by
  decide +kernel

/-- Where condition 4 holds, the offsets chain `k0_off56` gives `![0, 0, 512]`: the slot the
    body's accesses through it reach there. Each case whose run takes this as a hypothesis (`hl·`) cites this one theorem, decided over the grid. -/
theorem hoff0_k0_off56_c4 : ∀ t : Fin cfg0.N, t.val % 2 = 0 → k0_off56 (grid0.coords t) = ![0, 0, 512] := by
  decide +kernel

/-- Where condition 4 holds, the offsets chain `k0_off57` gives `![0, 0, 640]`: the slot the
    body's accesses through it reach there. Each case whose run takes this as a hypothesis (`hl·`) cites this one theorem, decided over the grid. -/
theorem hoff0_k0_off57_c4 : ∀ t : Fin cfg0.N, t.val % 2 = 0 → k0_off57 (grid0.coords t) = ![0, 0, 640] := by
  decide +kernel

/-- Where condition 4 holds, the offsets chain `k0_off58` gives `![0, 0, 768]`: the slot the
    body's accesses through it reach there. Each case whose run takes this as a hypothesis (`hl·`) cites this one theorem, decided over the grid. -/
theorem hoff0_k0_off58_c4 : ∀ t : Fin cfg0.N, t.val % 2 = 0 → k0_off58 (grid0.coords t) = ![0, 0, 768] := by
  decide +kernel

/-- Where condition 4 holds, the offsets chain `k0_off59` gives `![0, 0, 896]`: the slot the
    body's accesses through it reach there. Each case whose run takes this as a hypothesis (`hl·`) cites this one theorem, decided over the grid. -/
theorem hoff0_k0_off59_c4 : ∀ t : Fin cfg0.N, t.val % 2 = 0 → k0_off59 (grid0.coords t) = ![0, 0, 896] := by
  decide +kernel

/-- Where condition 4 holds, the offsets chain `k0_off60` gives `![0, 0, 1024]`: the slot the
    body's accesses through it reach there. Each case whose run takes this as a hypothesis (`hl·`) cites this one theorem, decided over the grid. -/
theorem hoff0_k0_off60_c4 : ∀ t : Fin cfg0.N, t.val % 2 = 0 → k0_off60 (grid0.coords t) = ![0, 0, 1024] := by
  decide +kernel

/-- Where condition 4 holds, the offsets chain `k0_off61` gives `![0, 0, 1152]`: the slot the
    body's accesses through it reach there. Each case whose run takes this as a hypothesis (`hl·`) cites this one theorem, decided over the grid. -/
theorem hoff0_k0_off61_c4 : ∀ t : Fin cfg0.N, t.val % 2 = 0 → k0_off61 (grid0.coords t) = ![0, 0, 1152] := by
  decide +kernel

/-- Where condition 4 holds, the offsets chain `k0_off62` gives `![0, 0, 1280]`: the slot the
    body's accesses through it reach there. Each case whose run takes this as a hypothesis (`hl·`) cites this one theorem, decided over the grid. -/
theorem hoff0_k0_off62_c4 : ∀ t : Fin cfg0.N, t.val % 2 = 0 → k0_off62 (grid0.coords t) = ![0, 0, 1280] := by
  decide +kernel

/-- Where condition 4 holds, the offsets chain `k0_off63` gives `![0, 0, 1408]`: the slot the
    body's accesses through it reach there. Each case whose run takes this as a hypothesis (`hl·`) cites this one theorem, decided over the grid. -/
theorem hoff0_k0_off63_c4 : ∀ t : Fin cfg0.N, t.val % 2 = 0 → k0_off63 (grid0.coords t) = ![0, 0, 1408] := by
  decide +kernel

/-- Where condition 4 holds, the offsets chain `k0_off64` gives `![0, 0, 1536]`: the slot the
    body's accesses through it reach there. Each case whose run takes this as a hypothesis (`hl·`) cites this one theorem, decided over the grid. -/
theorem hoff0_k0_off64_c4 : ∀ t : Fin cfg0.N, t.val % 2 = 0 → k0_off64 (grid0.coords t) = ![0, 0, 1536] := by
  decide +kernel

/-- Where condition 4 holds, the offsets chain `k0_off65` gives `![0, 0, 1664]`: the slot the
    body's accesses through it reach there. Each case whose run takes this as a hypothesis (`hl·`) cites this one theorem, decided over the grid. -/
theorem hoff0_k0_off65_c4 : ∀ t : Fin cfg0.N, t.val % 2 = 0 → k0_off65 (grid0.coords t) = ![0, 0, 1664] := by
  decide +kernel

/-- Where condition 4 holds, the offsets chain `k0_off66` gives `![0, 0, 1792]`: the slot the
    body's accesses through it reach there. Each case whose run takes this as a hypothesis (`hl·`) cites this one theorem, decided over the grid. -/
theorem hoff0_k0_off66_c4 : ∀ t : Fin cfg0.N, t.val % 2 = 0 → k0_off66 (grid0.coords t) = ![0, 0, 1792] := by
  decide +kernel

/-- Where condition 4 holds, the offsets chain `k0_off67` gives `![0, 0, 1920]`: the slot the
    body's accesses through it reach there. Each case whose run takes this as a hypothesis (`hl·`) cites this one theorem, decided over the grid. -/
theorem hoff0_k0_off67_c4 : ∀ t : Fin cfg0.N, t.val % 2 = 0 → k0_off67 (grid0.coords t) = ![0, 0, 1920] := by
  decide +kernel

/-- Where condition 4 holds, the offsets chain `k0_off68` gives `![1, 0, 0]`: the slot the
    body's accesses through it reach there. Each case whose run takes this as a hypothesis (`hl·`) cites this one theorem, decided over the grid. -/
theorem hoff0_k0_off68_c4 : ∀ t : Fin cfg0.N, t.val % 2 = 0 → k0_off68 (grid0.coords t) = ![1, 0, 0] := by
  decide +kernel

/-- Where condition 3 holds, the offsets chain `k0_off69` gives `![1, 0, 0]`: the slot the
    body's accesses through it reach there. Each case whose run takes this as a hypothesis (`hl·`) cites this one theorem, decided over the grid. -/
theorem hoff0_k0_off69_c3 : ∀ t : Fin cfg0.N, t.val % 7 = 6 → k0_off69 (grid0.coords t) = ![1, 0, 0] := by
  decide +kernel

/-! ## What the outputs hold after each point -/
end Cert.KernelIdeal.Gen

end
-- ==== Proof.RunA.lean ====
/- The body run in case A: the pieces its stores leave are the witnesses of the run. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Cases

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1792000 in set_option sl_exec.closedPieces true in
/-- What the body leaves in each buffer it stores into, as pieces (last first), in case A, with the proof of the run: inputs and
    the scratch it only reads stay at their contents. -/
noncomputable def runA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (L6 : List (View.Piece (Elt F) S512x2048 .fp8e4m3)) ×' (L7 : List (View.Piece (Elt F) S512x16 .f32)) ×' (LS0 : List (View.Piece (Elt F) S16x128 .i32)) ×' (LS1 : List (View.Piece (Elt F) S16x128 .i32)) ×' (LS2 : List (View.Piece (Elt F) S2x512x2048 .bf16)) ×' (LS3 : List (View.Piece (Elt F) S3968x2048 .bf16)) ×'
    (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K) := by
  refine ⟨?_, ?_, ?_, ?_, ?_, ?_, fun E K => ?run⟩
  case run =>
    letI : ClosedOff (k0_off34 i) := ⟨![0, 0, 0], hl0⟩
    letI : ClosedOff (k0_off35 i) := ⟨![0, 0, 0], hl1⟩
    letI : ClosedOff (k0_off36 i) := ⟨![0, 0, 128], hl2⟩
    letI : ClosedOff (k0_off37 i) := ⟨![0, 0, 256], hl3⟩
    letI : ClosedOff (k0_off38 i) := ⟨![0, 0, 384], hl4⟩
    letI : ClosedOff (k0_off39 i) := ⟨![0, 0, 512], hl5⟩
    letI : ClosedOff (k0_off40 i) := ⟨![0, 0, 640], hl6⟩
    letI : ClosedOff (k0_off41 i) := ⟨![0, 0, 768], hl7⟩
    letI : ClosedOff (k0_off42 i) := ⟨![0, 0, 896], hl8⟩
    letI : ClosedOff (k0_off43 i) := ⟨![0, 0, 1024], hl9⟩
    letI : ClosedOff (k0_off44 i) := ⟨![0, 0, 1152], hl10⟩
    letI : ClosedOff (k0_off45 i) := ⟨![0, 0, 1280], hl11⟩
    letI : ClosedOff (k0_off46 i) := ⟨![0, 0, 1408], hl12⟩
    letI : ClosedOff (k0_off47 i) := ⟨![0, 0, 1536], hl13⟩
    letI : ClosedOff (k0_off48 i) := ⟨![0, 0, 1664], hl14⟩
    letI : ClosedOff (k0_off49 i) := ⟨![0, 0, 1792], hl15⟩
    letI : ClosedOff (k0_off50 i) := ⟨![0, 0, 1920], hl16⟩
    simp only [cc0_outlier_split_linear_eq_skeleton]; unfold cc0_outlier_split_linear_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part60_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Gen

end
-- ==== Proof.RunB.lean ====
/- The body run in case B: the pieces its stores leave are the witnesses of the run. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1372000 in set_option sl_exec.closedPieces true in
/-- What the body leaves in each buffer it stores into, as pieces (last first), in case B, with the proof of the run: inputs and
    the scratch it only reads stay at their contents. -/
noncomputable def runB (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (L5 : List (View.Piece (Elt F) S512x3968 .bf16)) ×' (L6 : List (View.Piece (Elt F) S512x2048 .fp8e4m3)) ×' (L7 : List (View.Piece (Elt F) S512x16 .f32)) ×' (LS2 : List (View.Piece (Elt F) S2x512x2048 .bf16)) ×'
    (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (arg11.view.loc (c : Thread nD τ) ↦[arg11.view.set]{fullShare} arg11.view.writes (Elt F) (harg11.unread xs2) LS2) ∗ owns (c : Thread nD τ) arg12 fullShare xs3) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K) := by
  refine ⟨?_, ?_, ?_, ?_, fun E K => ?run⟩
  case run =>
    letI : ClosedOff (k0_off51 i) := ⟨![1, 0, 0], hl0⟩
    letI : ClosedOff (k0_off52 i) := ⟨![1, 0, 0], hl1⟩
    letI : ClosedOff (k0_off53 i) := ⟨![1, 0, 128], hl2⟩
    letI : ClosedOff (k0_off54 i) := ⟨![1, 0, 256], hl3⟩
    letI : ClosedOff (k0_off55 i) := ⟨![1, 0, 384], hl4⟩
    letI : ClosedOff (k0_off56 i) := ⟨![1, 0, 512], hl5⟩
    letI : ClosedOff (k0_off57 i) := ⟨![1, 0, 640], hl6⟩
    letI : ClosedOff (k0_off58 i) := ⟨![1, 0, 768], hl7⟩
    letI : ClosedOff (k0_off59 i) := ⟨![1, 0, 896], hl8⟩
    letI : ClosedOff (k0_off60 i) := ⟨![1, 0, 1024], hl9⟩
    letI : ClosedOff (k0_off61 i) := ⟨![1, 0, 1152], hl10⟩
    letI : ClosedOff (k0_off62 i) := ⟨![1, 0, 1280], hl11⟩
    letI : ClosedOff (k0_off63 i) := ⟨![1, 0, 1408], hl12⟩
    letI : ClosedOff (k0_off64 i) := ⟨![1, 0, 1536], hl13⟩
    letI : ClosedOff (k0_off65 i) := ⟨![1, 0, 1664], hl14⟩
    letI : ClosedOff (k0_off66 i) := ⟨![1, 0, 1792], hl15⟩
    letI : ClosedOff (k0_off67 i) := ⟨![1, 0, 1920], hl16⟩
    letI : ClosedOff (k0_off68 i) := ⟨![0, 0, 0], hl17⟩
    simp only [cc0_outlier_split_linear_eq_skeleton]; unfold cc0_outlier_split_linear_skel
    simp only [k0_part100_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg11.eq_unread hfs2; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]
    · iexists _, _; isplitr; swap; · iexact HS1
      ipureintro; rfl
    isplitl [HS2]; · iexact HS2
    iexists _; isplitr; · ipureintro; exact harg12.read_unread _
    iexact HS3

end Cert.KernelIdeal.Gen

end
-- ==== Proof.RunC.lean ====
/- The body run in case C: the pieces its stores leave are the witnesses of the run. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1372000 in set_option sl_exec.closedPieces true in
/-- What the body leaves in each buffer it stores into, as pieces (last first), in case C, with the proof of the run: inputs and
    the scratch it only reads stay at their contents. -/
noncomputable def runC (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (L5 : List (View.Piece (Elt F) S512x3968 .bf16)) ×' (L6 : List (View.Piece (Elt F) S512x2048 .fp8e4m3)) ×' (L7 : List (View.Piece (Elt F) S512x16 .f32)) ×' (LS2 : List (View.Piece (Elt F) S2x512x2048 .bf16)) ×'
    (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs0 ∗ (∃ d, owns (c : Thread nD τ) arg10 fullShare d) ∗ (arg11.view.loc (c : Thread nD τ) ↦[arg11.view.set]{fullShare} arg11.view.writes (Elt F) (harg11.unread xs2) LS2) ∗ owns (c : Thread nD τ) arg12 fullShare xs3) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K) := by
  refine ⟨?_, ?_, ?_, ?_, fun E K => ?run⟩
  case run =>
    letI : ClosedOff (k0_off51 i) := ⟨![0, 0, 0], hl0⟩
    letI : ClosedOff (k0_off52 i) := ⟨![0, 0, 0], hl1⟩
    letI : ClosedOff (k0_off53 i) := ⟨![0, 0, 128], hl2⟩
    letI : ClosedOff (k0_off54 i) := ⟨![0, 0, 256], hl3⟩
    letI : ClosedOff (k0_off55 i) := ⟨![0, 0, 384], hl4⟩
    letI : ClosedOff (k0_off56 i) := ⟨![0, 0, 512], hl5⟩
    letI : ClosedOff (k0_off57 i) := ⟨![0, 0, 640], hl6⟩
    letI : ClosedOff (k0_off58 i) := ⟨![0, 0, 768], hl7⟩
    letI : ClosedOff (k0_off59 i) := ⟨![0, 0, 896], hl8⟩
    letI : ClosedOff (k0_off60 i) := ⟨![0, 0, 1024], hl9⟩
    letI : ClosedOff (k0_off61 i) := ⟨![0, 0, 1152], hl10⟩
    letI : ClosedOff (k0_off62 i) := ⟨![0, 0, 1280], hl11⟩
    letI : ClosedOff (k0_off63 i) := ⟨![0, 0, 1408], hl12⟩
    letI : ClosedOff (k0_off64 i) := ⟨![0, 0, 1536], hl13⟩
    letI : ClosedOff (k0_off65 i) := ⟨![0, 0, 1664], hl14⟩
    letI : ClosedOff (k0_off66 i) := ⟨![0, 0, 1792], hl15⟩
    letI : ClosedOff (k0_off67 i) := ⟨![0, 0, 1920], hl16⟩
    letI : ClosedOff (k0_off68 i) := ⟨![1, 0, 0], hl17⟩
    simp only [cc0_outlier_split_linear_eq_skeleton]; unfold cc0_outlier_split_linear_skel
    simp only [k0_part100_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg11.eq_unread hfs2; obtain rfl := harg12.eq_unread hfs3
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]
    · iexists _; isplitr; · ipureintro; exact harg9.read_unread _
      iexact HS0
    isplitl [HS1]
    · iexists _, _; isplitr; swap; · iexact HS1
      ipureintro; rfl
    isplitl [HS2]; · iexact HS2
    iexists _; isplitr; · ipureintro; exact harg12.read_unread _
    iexact HS3

end Cert.KernelIdeal.Gen

end
-- ==== Proof.RunD.lean ====
/- The body run in case D: the pieces its stores leave are the witnesses of the run. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in set_option sl_exec.closedPieces true in
/-- What the body leaves in each buffer it stores into, as pieces (last first), in case D, with the proof of the run: inputs and
    the scratch it only reads stay at their contents. -/
noncomputable def runD (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : ¬cond0_2 i) (hc3 : cond0_3 i) (hl0 : k0_off69 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (x6 : Vec F S512x2048 .fp8e4m3) (x7 : Vec F S512x16 .f32) :
    (L5 : List (View.Piece (Elt F) S512x3968 .bf16)) ×'
    (∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare xs0 ∗ (∃ d, owns (c : Thread nD τ) arg10 fullShare d) ∗ owns (c : Thread nD τ) arg11 fullShare xs2 ∗ owns (c : Thread nD τ) arg12 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare x6 ∗ owns (c : Thread nD τ) arg8 fullShare x7 ∗ owns (c : Thread nD τ) arg9 fullShare xs0 ∗ (∃ d, owns (c : Thread nD τ) arg10 fullShare d) ∗ owns (c : Thread nD τ) arg11 fullShare xs2 ∗ owns (c : Thread nD τ) arg12 fullShare xs3) -∗ K ⟨⟩))
          ⊢ wp frame (wpE (defs₀ (F := F)) Variants.none c none) E (cc0_outlier_split_linear i arg1 harg1 arg2 harg2 arg3 harg3 arg4 harg4 arg5 harg5 arg6 harg6 arg7 harg7 arg8 harg8 arg9 harg9 arg10 harg10 arg11 harg11 arg12 harg12) K) := by
  refine ⟨?_, fun E K => ?run⟩
  case run =>
    letI : ClosedOff (k0_off69 i) := ⟨![1, 0, 0], hl0⟩
    simp only [cc0_outlier_split_linear_eq_skeleton]; unfold cc0_outlier_split_linear_skel
    simp only [k0_part101_eq_skeleton, k0_part102_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg11.eq_unread hfs2; obtain rfl := harg12.eq_unread hfs3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _, _; isplitr; swap; · iexact HS1
      ipureintro; rfl
    isplitl [HS2]
    · iexists _; isplitr; · ipureintro; exact harg11.read_unread _
      iexact HS2
    iexists _; isplitr; · ipureintro; exact harg12.read_unread _
    iexact HS3

end Cert.KernelIdeal.Gen

end
-- ==== Proof.Ops.lean ====
/- The kernel's arithmetic on one block, as functions of what is loaded: one per kind of block, where the printed program
   repeats them once per block column. -/
module

public import proofs.«01_k».proof.Proof.Gen.KernelIdeal.Skeleton

@[expose] public section

noncomputable section

namespace Cert.KernelIdeal.Gen

open Idealize.ShloMosaic Idealize.ShloMosaic.TcCoe Idealize.ShloMosaic.Tactic

variable {F : FTy → Type} [FloatOps F]

/-- Where row `r` of the index column names column `n0 + c` of the whole matrix. -/
def hit (idx : Vec F S128x1 .i32) (n0 : BitVec 32) : IVec S128x128 1 :=
  cmpi .eq (broadcastTo S128x128 (shapeCast S128x1 idx shapeCasts_S128x1_S128x1) broadcasts_S128x1_S128x128)
    (addi (iota .tc S128x128 32 [1] iota_S128x128_d1_w32) (broadcast S128x128 n0))

/-- The keep mask of one block of columns: `0` at an outlier column, `-1` elsewhere. -/
def keepRow (idx : Vec F S128x1 .i32) (n0 : BitVec 32) : IVec S1x128 32 :=
  k0_pay1 (hit (F := F) idx n0) (broadcast S128x128 1#32) (broadcast S128x128 0#32)

/-- The row of the outlier weights that one block's outlier columns take. -/
def posRow (idx : Vec F S128x1 .i32) (n0 : BitVec 32) : IVec S1x128 32 :=
  k0_pay2 (iota .tc S128x128 32 [0] iota_S128x128_d0_w32) (hit (F := F) idx n0)

/-- The activations of one block with the outlier columns zeroed. -/
def qXin (x : Vec F S512x128 .bf16) (keep : Vec F S1x128 .i32) : FVec F S512x128 .bf16 :=
  have v18 : FVec F S512x128 .bf16 := shapeCast S512x128 x shapeCasts_S512x128_S512x128
  have v22 : IVec S1x128 1 := cmpi .ne keep (broadcast S1x128 0#32)
  have v24 : IVec S256x128 1 := broadcastTo S256x128 (shapeCast S1x128 v22 shapeCasts_S1x128_S1x128) broadcasts_S1x128_S256x128
  interleaveRows S512x128
    (select v24 (rowsOfParity 0 S256x128 v18 bitcasts_S512x128_w16_S256x128_w32) (constant S256x128 .bf16 0x0000#16))
    (select v24 (rowsOfParity 1 S256x128 v18 bitcasts_S512x128_w16_S256x128_w32) (constant S256x128 .bf16 0x0000#16))
    bitcasts_S512x128_w16_S256x128_w32

/-- The largest magnitude of each row, over 448. -/
def qT (xin : FVec F S512x128 .bf16) : FVec F S512x1 .f32 :=
  mulf (shapeCast S512x1 (multiReduction .maximumf [1] S512 (extf .f32 (absf xin) bitsLt_bf16_f32) 0xFF800000#32 reduces_S512x128_S512 (.inl rfl) rfl) shapeCasts_S512_S512x1)
    (broadcast S512x1 (Scalar.ofBits .f32 0x3B124925#32))

/-- One step of the search for the exponent field: the bit is set where the value reaches the power it names. -/
def exStep (t : FVec F S512x1 .f32) (b : BitVec 32) (ex : IVec S512x1 32) : IVec S512x1 32 :=
  select (cmpf .olt t (bitcastToFloat .f32 (ori ex (broadcast S512x1 b)))) ex (ori ex (broadcast S512x1 b))

/-- The exponent field of each row's value. -/
def exField (t : FVec F S512x1 .f32) : IVec S512x1 32 :=
  exStep t 8388608#32 (exStep t 16777216#32 (exStep t 33554432#32 (exStep t 67108864#32 (exStep t 134217728#32
    (exStep t 268435456#32 (exStep t 536870912#32 (exStep t 1073741824#32 (broadcast S512x1 0#32))))))))

/-- The word of the scale, from the exponent field. -/
def exWord (e : IVec S512x1 32) : IVec S512x1 32 :=
  addi (select (cmpi .eq e (broadcast S512x1 0#32)) (broadcast S512x1 1056964608#32) e) (broadcast S512x1 8388608#32)

/-- The word of each row's scale. -/
def qEx (x : Vec F S512x128 .bf16) (keep : Vec F S1x128 .i32) : IVec S512x1 32 := exWord (exField (qT (qXin x keep)))

/-- Each row's scale. -/
def qScale (x : Vec F S512x128 .bf16) (keep : Vec F S1x128 .i32) : FVec F S512x1 .f32 := bitcastToFloat .f32 (qEx x keep)

/-- The codes of one block. -/
def qCodes (x : Vec F S512x128 .bf16) (keep : Vec F S1x128 .i32) : FVec F S512x128 .fp8e4m3 :=
  truncf .fp8e4m3 (minimumf (broadcast S512x128 (Scalar.truncf .bf16 bitsLt_bf16_f32 (Scalar.ofBits .f32 0x43E00000#32)))
    (maximumf (broadcast S512x128 (Scalar.truncf .bf16 bitsLt_bf16_f32 (Scalar.ofBits .f32 0xC3E00000#32)))
      (mulf (qXin x keep) (broadcastTo S512x128 (truncf .bf16 (bitcastToFloat .f32 (subi (broadcast S512x1 2130706432#32) (qEx x keep))) bitsLt_bf16_f32) broadcasts_S512x1_S512x128))))
    bitsLt_fp8e4m3_bf16

/-- The block of activations the product uses: the codes times the scale, and the outlier columns as they were. -/
def qComb (x : Vec F S512x128 .bf16) (keep : Vec F S1x128 .i32) : FVec F S1x512x128 .bf16 :=
  have v18 : FVec F S512x128 .bf16 := shapeCast S512x128 x shapeCasts_S512x128_S512x128
  have v99 : FVec F S512x128 .bf16 := mulf (extf .bf16 (qCodes x keep) bitsLt_fp8e4m3_bf16)
    (broadcastTo S512x128 (truncf .bf16 (qScale x keep) bitsLt_bf16_f32) broadcasts_S512x1_S512x128)
  have v22 : IVec S1x128 1 := cmpi .ne keep (broadcast S1x128 0#32)
  have v24 : IVec S256x128 1 := broadcastTo S256x128 (shapeCast S1x128 v22 shapeCasts_S1x128_S1x128) broadcasts_S1x128_S256x128
  shapeCast S1x512x128 (shapeCast S512x128 (interleaveRows S512x128
    (select v24 (rowsOfParity 0 S256x128 v99 bitcasts_S512x128_w16_S256x128_w32) (rowsOfParity 0 S256x128 v18 bitcasts_S512x128_w16_S256x128_w32))
    (select v24 (rowsOfParity 1 S256x128 v99 bitcasts_S512x128_w16_S256x128_w32) (rowsOfParity 1 S256x128 v18 bitcasts_S512x128_w16_S256x128_w32))
    bitcasts_S512x128_w16_S256x128_w32) shapeCasts_S512x128_S512x128) shapeCasts_S512x128_S1x512x128

/-- The block's scale put into its lane of the collected scales. -/
def scStep (n : BitVec 32) (s : FVec F S512x1 .f32) (acc : FVec F S512x128 .f32) : FVec F S512x128 .f32 :=
  select (cmpi .eq (iota .tc S512x128 32 [1] iota_S512x128_d1_w32) (broadcast S512x128 n))
    (broadcastTo S512x128 (shapeCast S512x1 s shapeCasts_S512x1_S512x1) broadcasts_S512x1_S512x128) acc

/-- A block of the weights the product uses. -/
def wComb (wo : Vec F S128x128 .bf16) (keep pos : Vec F S1x128 .i32) (s : Elt F .f32) (w : Vec F S128x128 .fp8e4m3) : FVec F S128x128 .bf16 :=
  k0_pay16 (k0_pay14 wo) keep pos s w

end Cert.KernelIdeal.Gen

end
-- ==== Proof.Pieces.lean ====
/- The pieces each case's run leaves, written with the generic block functions. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.RunD
public import proofs.«01_k».proof.Proof.Ops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

/-- The block columns, last first. -/
def blks : List (Fin 16) := [15, 14, 13, 12, 11, 10, 9, 8, 7, 6, 5, 4, 3, 2, 1, 0]

/-- Block column `n` of a tile of activations. -/
def rC (n : Fin 16) : Rect S512x2048 := Rect.unit ![0, 128 * n.val] S512x128.size (by intro a; have := n.isLt; match a with | ⟨0, _⟩ => exact Nat.le_refl _ | ⟨1, _⟩ => show 128 * n.val + 128 ≤ 2048; omega)
/-- Row `n` of a mask. -/
def rK (n : Fin 16) : Rect S16x128 := Rect.unit ![n.val, 0] S1x128.size (by intro a; have := n.isLt; match a with | ⟨0, _⟩ => show n.val + 1 ≤ 16; omega | ⟨1, _⟩ => exact Nat.le_refl _)
/-- Block column `n` of slot `s` of the two combined tiles. -/
def rX (s : Fin 2) (n : Fin 16) : Rect S2x512x2048 := Rect.unit ![s.val, 0, 128 * n.val] S1x512x128.size (by intro a; have := n.isLt; have := s.isLt; match a with | ⟨0, _⟩ => show s.val + 1 ≤ 2; omega | ⟨1, _⟩ => exact Nat.le_refl _ | ⟨2, _⟩ => show 128 * n.val + 128 ≤ 2048; omega)
/-- The whole index column. -/
def rI : Rect S128x1 := Rect.unit ![0, 0] S128x1.size inb_S128x1_S128x1_0_0
/-- The whole of a tile's scales. -/
def rS : Rect S512x16 := Rect.unit ![0, 0] S512x16.size inb_S512x16_S512x16_0_0
/-- Rows `256 n` on of the weights. -/
def rW (n : Fin 15) : Rect S3968x2048 := Rect.unit ![256 * n.val, 0] S256x2048.size (by intro a; have := n.isLt; match a with | ⟨0, _⟩ => show 256 * n.val + 256 ≤ 3968; omega | ⟨1, _⟩ => exact Nat.le_refl _)
/-- The last rows of the weights. -/
def rWl : Rect S3968x2048 := Rect.unit ![3840, 0] S128x2048.size inb_S3968x2048_S128x2048_3840_0
/-- Columns `256 n` on of the product. -/
def rY (n : Fin 15) : Rect S512x3968 := Rect.unit ![0, 256 * n.val] S512x256.size (by intro a; have := n.isLt; match a with | ⟨0, _⟩ => exact Nat.le_refl _ | ⟨1, _⟩ => show 256 * n.val + 256 ≤ 3968; omega)
/-- The last columns of the product. -/
def rYl : Rect S512x3968 := Rect.unit ![0, 3840] S512x128.size inb_S512x3968_S512x128_0_3840

/-- The collected scales after the first `n` block columns. -/
def scAcc (S : ℕ → FVec F S512x1 .f32) : ℕ → FVec F S512x128 .f32
  | 0 => broadcast S512x128 (Scalar.ofBits .f32 0x00000000#32)
  | n + 1 => scStep (BitVec.ofNat 32 n) (S n) (scAcc S n)

/-- The block number of a natural number. -/
def nb (n : ℕ) : Fin 16 := Fin.ofNat 16 n

/-- The scales of a tile from its block columns' scales. -/
def scOut (S : ℕ → FVec F S512x1 .f32) : FVec F S512x16 .f32 :=
  extractStridedSlice S512x16 ![0, 0] (scAcc S 16) slices_S512x128_o0_0_S512x16

/-- The keep masks. -/
theorem keepA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1 =
      blks.map fun n => ⟨rK n, keepRow (F := F) (View.readAt (Elt F) arg2.view rI.toLoadRect (harg2.unread x1)) (BitVec.ofNat 32 (128 * n.val))⟩ := by sl_kernel_rfl

/-- The rows the outlier columns take. -/
theorem posA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.1 =
      blks.map fun n => ⟨rK n, posRow (F := F) (View.readAt (Elt F) arg2.view rI.toLoadRect (harg2.unread x1)) (BitVec.ofNat 32 (128 * n.val))⟩ := by sl_kernel_rfl

/-- The codes. -/
theorem codesA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).1 =
      blks.map fun n => ⟨rC n, qCodes (View.readAt (Elt F) arg3.view (rC n).toLoadRect (harg3.unread x2)) (arg9.view.readCov ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) (rK n).toLoadRect)⟩ := by sl_kernel_rfl

/-- The scales. -/
theorem scaleA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.1 =
      [⟨rS, scOut fun n => qScale (View.readAt (Elt F) arg3.view (rC (nb n)).toLoadRect (harg3.unread x2)) (arg9.view.readCov ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) (rK (nb n)).toLoadRect)⟩] := by sl_kernel_rfl

/-- The combined tile. -/
theorem xcA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.2.1 =
      blks.map fun n => ⟨rX 0 n, qComb (View.readAt (Elt F) arg3.view (rC n).toLoadRect (harg3.unread x2)) (arg9.view.readCov ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) (rK n).toLoadRect)⟩ := by sl_kernel_rfl

/-- The codes. -/
theorem codesB (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.1 =
      blks.map fun n => ⟨rC n, qCodes (View.readAt (Elt F) arg3.view (rC n).toLoadRect (harg3.unread x2)) (View.readAt (Elt F) arg9.view (rK n).toLoadRect (harg9.unread xs0))⟩ := by sl_kernel_rfl

/-- The scales. -/
theorem scaleB (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.1 =
      [⟨rS, scOut fun n => qScale (View.readAt (Elt F) arg3.view (rC (nb n)).toLoadRect (harg3.unread x2)) (View.readAt (Elt F) arg9.view (rK (nb n)).toLoadRect (harg9.unread xs0))⟩] := by sl_kernel_rfl

/-- The combined tile. -/
theorem xcB (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.2.1 =
      blks.map fun n => ⟨rX 1 n, qComb (View.readAt (Elt F) arg3.view (rC n).toLoadRect (harg3.unread x2)) (View.readAt (Elt F) arg9.view (rK n).toLoadRect (harg9.unread xs0))⟩ := by sl_kernel_rfl

/-- The product. -/
theorem yB (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).1 =
      (⟨rYl, k0_pay8 (shapeCast S512x2048 (View.readAt (Elt F) arg11.view (Rect.unit (s := S2x512x2048) (k0_off68 i) S1x512x2048.size (k0_off68_inb i hc2)).toLoadRect (harg11.unread xs2)) shapeCasts_S1x512x2048_S512x2048) (View.readAt (Elt F) arg12.view (rWl).toLoadRect (harg12.unread xs3))⟩ :: ([14, 13, 12, 11, 10, 9, 8, 7, 6, 5, 4, 3, 2, 1, 0] : List (Fin 15)).map fun n => ⟨rY n, k0_pay7 (shapeCast S512x2048 (View.readAt (Elt F) arg11.view (Rect.unit (s := S2x512x2048) (k0_off68 i) S1x512x2048.size (k0_off68_inb i hc2)).toLoadRect (harg11.unread xs2)) shapeCasts_S1x512x2048_S512x2048) (View.readAt (Elt F) arg12.view (rW n).toLoadRect (harg12.unread xs3))⟩) := by sl_kernel_rfl

/-- The codes. -/
theorem codesC (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.1 =
      blks.map fun n => ⟨rC n, qCodes (View.readAt (Elt F) arg3.view (rC n).toLoadRect (harg3.unread x2)) (View.readAt (Elt F) arg9.view (rK n).toLoadRect (harg9.unread xs0))⟩ := by sl_kernel_rfl

/-- The scales. -/
theorem scaleC (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.1 =
      [⟨rS, scOut fun n => qScale (View.readAt (Elt F) arg3.view (rC (nb n)).toLoadRect (harg3.unread x2)) (View.readAt (Elt F) arg9.view (rK (nb n)).toLoadRect (harg9.unread xs0))⟩] := by sl_kernel_rfl

/-- The combined tile. -/
theorem xcC (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.2.1 =
      blks.map fun n => ⟨rX 0 n, qComb (View.readAt (Elt F) arg3.view (rC n).toLoadRect (harg3.unread x2)) (View.readAt (Elt F) arg9.view (rK n).toLoadRect (harg9.unread xs0))⟩ := by sl_kernel_rfl

/-- The product. -/
theorem yC (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) :
    (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).1 =
      (⟨rYl, k0_pay8 (shapeCast S512x2048 (View.readAt (Elt F) arg11.view (Rect.unit (s := S2x512x2048) (k0_off68 i) S1x512x2048.size (k0_off68_inb i hc2)).toLoadRect (harg11.unread xs2)) shapeCasts_S1x512x2048_S512x2048) (View.readAt (Elt F) arg12.view (rWl).toLoadRect (harg12.unread xs3))⟩ :: ([14, 13, 12, 11, 10, 9, 8, 7, 6, 5, 4, 3, 2, 1, 0] : List (Fin 15)).map fun n => ⟨rY n, k0_pay7 (shapeCast S512x2048 (View.readAt (Elt F) arg11.view (Rect.unit (s := S2x512x2048) (k0_off68 i) S1x512x2048.size (k0_off68_inb i hc2)).toLoadRect (harg11.unread xs2)) shapeCasts_S1x512x2048_S512x2048) (View.readAt (Elt F) arg12.view (rW n).toLoadRect (harg12.unread xs3))⟩) := by sl_kernel_rfl

/-- The product. -/
theorem yD (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : ¬cond0_2 i) (hc3 : cond0_3 i) (hl0 : k0_off69 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (x6 : Vec F S512x2048 .fp8e4m3) (x7 : Vec F S512x16 .f32) :
    (runD c i arg1 harg1 arg2 harg2 arg3 harg3 arg4 harg4 arg5 harg5 arg6 harg6 arg7 harg7 arg8 harg8 arg9 harg9 arg10 harg10 arg11 harg11 arg12 harg12 hc0 hc1 hc2 hc3 hl0 x0 x1 x2 x3 x4 xs0 xs2 xs3 x6 x7).1 =
      (⟨rYl, k0_pay8 (shapeCast S512x2048 (View.readAt (Elt F) arg11.view (Rect.unit (s := S2x512x2048) (k0_off69 i) S1x512x2048.size (k0_off69_inb i hc3)).toLoadRect (harg11.unread xs2)) shapeCasts_S1x512x2048_S512x2048) (View.readAt (Elt F) arg12.view (rWl).toLoadRect (harg12.unread xs3))⟩ :: ([14, 13, 12, 11, 10, 9, 8, 7, 6, 5, 4, 3, 2, 1, 0] : List (Fin 15)).map fun n => ⟨rY n, k0_pay7 (shapeCast S512x2048 (View.readAt (Elt F) arg11.view (Rect.unit (s := S2x512x2048) (k0_off69 i) S1x512x2048.size (k0_off69_inb i hc3)).toLoadRect (harg11.unread xs2)) shapeCasts_S1x512x2048_S512x2048) (View.readAt (Elt F) arg12.view (rW n).toLoadRect (harg12.unread xs3))⟩) := by sl_kernel_rfl

end Cert.KernelIdeal.Gen

end
-- ==== Proof.Vals.lean ====
/- What the pieces of each buffer leave in it, as one function of what the body reads. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Pieces
public import Idealize.ShloMosaic.Lib.ValueIdxCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

open Idealize.ShloMosaic.ValueIdx

/-- The block column of a column. -/
def kbOf (k : Fin 2048) : Fin 16 := ⟨k.val / 128, by have := k.isLt; omega⟩
/-- The column's place in its block. -/
def lnOf (k : Fin 2048) : Fin 128 := ⟨k.val % 128, by omega⟩
/-- The block row of a weight row. -/
def obOf (o : Fin 3968) : Fin 31 := ⟨o.val / 128, by have := o.isLt; omega⟩
/-- The weight row's place in its block. -/
def rwOf (o : Fin 3968) : Fin 128 := ⟨o.val % 128, by omega⟩

/-- Block row `b`, block column `n` of the weights. -/
def rB (b : Fin 31) (n : Fin 16) : Rect S3968x2048 := Rect.unit ![128 * b.val, 128 * n.val] S128x128.size (by intro a; have := n.isLt; have := b.isLt; match a with | ⟨0, _⟩ => show 128 * b.val + 128 ≤ 3968; omega | ⟨1, _⟩ => show 128 * n.val + 128 ≤ 2048; omega)
/-- Block row `b` of the outlier weights. -/
def rO (b : Fin 31) : Rect S3968x128 := Rect.unit ![128 * b.val, 0] S128x128.size (by intro a; have := b.isLt; match a with | ⟨0, _⟩ => show 128 * b.val + 128 ≤ 3968; omega | ⟨1, _⟩ => exact Nat.le_refl _)

theorem mem_blks (n : Fin 16) : n ∈ blks := by revert n; decide

/-- Block column `n` of a tile. -/
def xblk (x2 : Vec F S512x2048 .bf16) (n : Fin 16) : Vec F S512x128 .bf16 := fun j => x2 ((rC n).emb j)
/-- Row `n` of a mask. -/
def krow (K : Vec F S16x128 .i32) (n : Fin 16) : Vec F S1x128 .i32 := fun j => K ((rK n).emb j)

/-- All keep masks. -/
def keepG (x1 : Vec F S128x1 .i32) : Vec F S16x128 .i32 := fun j => keepRow (F := F) x1 (BitVec.ofNat 32 (128 * (j 0).val)) (ix2 0 (j 1))
/-- All rows the outlier columns take. -/
def posG (x1 : Vec F S128x1 .i32) : Vec F S16x128 .i32 := fun j => posRow (F := F) x1 (BitVec.ofNat 32 (128 * (j 0).val)) (ix2 0 (j 1))
/-- The codes of a tile. -/
def codesG (x2 : Vec F S512x2048 .bf16) (K : Vec F S16x128 .i32) : Vec F S512x2048 .fp8e4m3 := fun j =>
  qCodes (xblk x2 (kbOf (j 1))) (krow K (kbOf (j 1))) (ix2 (j 0) (lnOf (j 1)))
/-- The scales of a tile. -/
def scaleG (x2 : Vec F S512x2048 .bf16) (K : Vec F S16x128 .i32) : Vec F S512x16 .f32 :=
  scOut fun n => qScale (xblk x2 (nb n)) (krow K (nb n))
/-- The combined activations of a tile. -/
def xcG (x2 : Vec F S512x2048 .bf16) (K : Vec F S16x128 .i32) : Vec F S512x2048 .bf16 := fun j =>
  qComb (xblk x2 (kbOf (j 1))) (krow K (kbOf (j 1))) (ix3 0 (j 0) (lnOf (j 1)))
/-- The combined weights. -/
def wcG (x0 : Vec F S31x16 .f32) (x3 : Vec F S3968x128 .bf16) (x4 : Vec F S3968x2048 .fp8e4m3) (K P : Vec F S16x128 .i32) : Vec F S3968x2048 .bf16 := fun j =>
  wComb (fun b => x3 ((rO (obOf (j 0))).emb b)) (krow K (kbOf (j 1))) (krow P (kbOf (j 1))) (x0 (ix2 (obOf (j 0)) (kbOf (j 1))))
    (fun b => x4 ((rB (obOf (j 0)) (kbOf (j 1))).emb b)) (ix2 (rwOf (j 0)) (lnOf (j 1)))

/-- A buffer written by pieces that all agree with one function and cover its shape reads that function. -/
theorem read_of {κ : Kind} {sp : Space} {s : Shape} {e : EltTy} (v : View sig κ sp s e) (f : v.ty.Contents (Elt F)) (G : s.Idx → Elt F e)
    (L : List (View.Piece (Elt F) s e)) (hG : ∀ p ∈ L, ∀ x : p.1.shape.Idx, p.2 x = G (p.1.emb x)) (hc : ∀ y, ∃ p ∈ L, y ∈ p.1.set) :
    v.read (Elt F) (v.writes (Elt F) f L) = G := funext fun y => View.read_writes_apply_of_pieces v f G L hG y (hc y)

theorem kbOf_rC (n : Fin 16) (x : S512x128.Idx) : kbOf ((rC n).emb x 1) = n := by
  have h : ((x 1 : Fin 128) : ℕ) < 128 := (x 1).isLt
  apply Fin.ext; show (128 * n.val + 1 * (x 1).val) / 128 = n.val; omega
theorem ix_rC (n : Fin 16) (x : S512x128.Idx) : (ix2 ((rC n).emb x 0) (lnOf ((rC n).emb x 1)) : S512x128.Idx) = x := by
  have h : ((x 1 : Fin 128) : ℕ) < 128 := (x 1).isLt
  funext a; apply Fin.ext
  match a with
  | ⟨0, _⟩ => show 0 + 1 * (x 0).val = (x 0).val; omega
  | ⟨1, _⟩ => show (128 * n.val + 1 * (x 1).val) % 128 = (x 1).val; omega

theorem cover_rC {e : EltTy} (f : (n : Fin 16) → (rC n).shape.Idx → Elt F e) (y : S512x2048.Idx) :
    ∃ p ∈ (blks.map fun n => (⟨rC n, f n⟩ : View.Piece (Elt F) S512x2048 e)), y ∈ p.1.set := by
  have h1 : ((y 1 : Fin 2048) : ℕ) < 2048 := (y 1).isLt
  have h0 : ((y 0 : Fin 512) : ℕ) < 512 := (y 0).isLt
  refine ⟨_, List.mem_map.mpr ⟨kbOf (y 1), mem_blks _, rfl⟩, ?_⟩
  show y ∈ (rC (kbOf (y 1))).set
  unfold rC; rw [Rect.mem_set_unit]; intro a
  match a with
  | ⟨0, _⟩ => exact ⟨Nat.zero_le _, by show (y 0).val < 0 + 512; omega⟩
  | ⟨1, _⟩ => exact ⟨by show 128 * ((y 1).val / 128) ≤ (y 1).val; omega, by show (y 1).val < 128 * ((y 1).val / 128) + 128; omega⟩

theorem cover_rK {e : EltTy} (f : (n : Fin 16) → (rK n).shape.Idx → Elt F e) (y : S16x128.Idx) :
    ∃ p ∈ (blks.map fun n => (⟨rK n, f n⟩ : View.Piece (Elt F) S16x128 e)), y ∈ p.1.set := by
  have h1 : ((y 1 : Fin 128) : ℕ) < 128 := (y 1).isLt
  have h0 : ((y 0 : Fin 16) : ℕ) < 16 := (y 0).isLt
  refine ⟨_, List.mem_map.mpr ⟨y 0, mem_blks _, rfl⟩, ?_⟩
  show y ∈ (rK (y 0)).set
  unfold rK; rw [Rect.mem_set_unit]; intro a
  match a with
  | ⟨0, _⟩ => exact ⟨Nat.le_refl _, by show (y 0).val < (y 0).val + 1; omega⟩
  | ⟨1, _⟩ => exact ⟨Nat.zero_le _, by show (y 1).val < 0 + 128; omega⟩

theorem codes_pt (x2 : Vec F S512x2048 .bf16) (K : Vec F S16x128 .i32) (n : Fin 16) (x : S512x128.Idx) :
    qCodes (xblk x2 n) (krow K n) x = codesG x2 K ((rC n).emb x) := by
  unfold codesG; rw [kbOf_rC, ix_rC]

/-- What the codes' pieces leave. -/
theorem codes_read {κ : Kind} {sp : Space} (v : View sig κ sp S512x2048 .fp8e4m3) (f : v.ty.Contents (Elt F)) (x2 : Vec F S512x2048 .bf16) (K : Vec F S16x128 .i32) :
    v.read (Elt F) (v.writes (Elt F) f (blks.map fun n => ⟨rC n, qCodes (xblk x2 n) (krow K n)⟩)) = codesG x2 K := by
  refine read_of v f _ _ (fun p hp x => ?_) (cover_rC _)
  obtain ⟨n, -, rfl⟩ := List.mem_map.mp hp
  exact codes_pt x2 K n x

theorem ix_rK (n : Fin 16) (x : S1x128.Idx) : (ix2 0 ((rK n).emb x 1) : S1x128.Idx) = x := by
  funext a; apply Fin.ext
  match a with
  | ⟨0, _⟩ => have h : ((x 0 : Fin 1) : ℕ) < 1 := (x 0).isLt; show 0 = (x 0).val; omega
  | ⟨1, _⟩ => show 0 + 1 * (x 1).val = (x 1).val; omega
theorem row_rK (n : Fin 16) (x : S1x128.Idx) : ((rK n).emb x 0).val = n.val := by
  have h : ((x 0 : Fin 1) : ℕ) < 1 := (x 0).isLt
  show n.val + 1 * (x 0).val = n.val; omega

theorem keep_pt (x1 : Vec F S128x1 .i32) (n : Fin 16) (x : S1x128.Idx) :
    keepRow (F := F) x1 (BitVec.ofNat 32 (128 * n.val)) x = keepG (F := F) x1 ((rK n).emb x) := by
  unfold keepG; rw [row_rK, ix_rK]

/-- What the keep masks' pieces leave. -/
theorem keep_read {κ : Kind} {sp : Space} (v : View sig κ sp S16x128 .i32) (f : v.ty.Contents (Elt F)) (x1 : Vec F S128x1 .i32) :
    v.read (Elt F) (v.writes (Elt F) f (blks.map fun n => ⟨rK n, keepRow (F := F) x1 (BitVec.ofNat 32 (128 * n.val))⟩)) = keepG (F := F) x1 := by
  refine read_of (F := F) v f _ _ (fun p hp x => ?_) (cover_rK _)
  obtain ⟨n, -, rfl⟩ := List.mem_map.mp hp
  dsimp only
  exact keep_pt (F := F) x1 n x

theorem pos_pt (x1 : Vec F S128x1 .i32) (n : Fin 16) (x : S1x128.Idx) :
    posRow (F := F) x1 (BitVec.ofNat 32 (128 * n.val)) x = posG (F := F) x1 ((rK n).emb x) := by
  unfold posG; rw [row_rK, ix_rK]

/-- What the row masks' pieces leave. -/
theorem pos_read {κ : Kind} {sp : Space} (v : View sig κ sp S16x128 .i32) (f : v.ty.Contents (Elt F)) (x1 : Vec F S128x1 .i32) :
    v.read (Elt F) (v.writes (Elt F) f (blks.map fun n => ⟨rK n, posRow (F := F) x1 (BitVec.ofNat 32 (128 * n.val))⟩)) = posG (F := F) x1 := by
  refine read_of (F := F) v f _ _ (fun p hp x => ?_) (cover_rK _)
  obtain ⟨n, -, rfl⟩ := List.mem_map.mp hp
  dsimp only
  exact pos_pt (F := F) x1 n x

/-- What the scales' piece leaves. -/
theorem scale_read {κ : Kind} {sp : Space} (v : View sig κ sp S512x16 .f32) (f : v.ty.Contents (Elt F)) (w : Vec F S512x16 .f32) :
    v.read (Elt F) (v.writes (Elt F) f [⟨rS, w⟩]) = w := by
  have he : ∀ x : S512x16.Idx, rS.emb x = x := fun x => by
    funext a; apply Fin.ext
    match a with
    | ⟨0, _⟩ => show 0 + 1 * (x 0).val = (x 0).val; omega
    | ⟨1, _⟩ => show 0 + 1 * (x 1).val = (x 1).val; omega
  refine read_of v f _ _ (fun p hp x => ?_) fun y => ?_
  · obtain rfl := List.mem_singleton.mp hp
    exact (congrArg w (he x)).symm
  · refine ⟨_, List.mem_singleton.mpr rfl, ?_⟩
    have : rS.emb y ∈ rS.set := by rw [← Rect.map_emb_univ]; exact Finset.mem_map_of_mem _ (Finset.mem_univ y)
    rwa [he] at this

theorem kbOf_rX (s : Fin 2) (n : Fin 16) (x : S1x512x128.Idx) : kbOf ((rX s n).emb x 2) = n := by
  have h : ((x 2 : Fin 128) : ℕ) < 128 := (x 2).isLt
  apply Fin.ext; show (128 * n.val + 1 * (x 2).val) / 128 = n.val; omega
theorem ix_rX (s : Fin 2) (n : Fin 16) (x : S1x512x128.Idx) : (ix3 0 ((rX s n).emb x 1) (lnOf ((rX s n).emb x 2)) : S1x512x128.Idx) = x := by
  have h : ((x 2 : Fin 128) : ℕ) < 128 := (x 2).isLt
  have h0 : ((x 0 : Fin 1) : ℕ) < 1 := (x 0).isLt
  funext a; apply Fin.ext
  match a with
  | ⟨0, _⟩ => show 0 = (x 0).val; omega
  | ⟨1, _⟩ => show 0 + 1 * (x 1).val = (x 1).val; omega
  | ⟨2, _⟩ => show (128 * n.val + 1 * (x 2).val) % 128 = (x 2).val; omega

theorem xc_pt (s : Fin 2) (x2 : Vec F S512x2048 .bf16) (K : Vec F S16x128 .i32) (n : Fin 16) (x : S1x512x128.Idx) :
    qComb (xblk x2 n) (krow K n) x = xcG x2 K (ix2 ((rX s n).emb x 1) ((rX s n).emb x 2)) := by
  unfold xcG
  show _ = qComb (xblk x2 (kbOf ((rX s n).emb x 2))) (krow K (kbOf ((rX s n).emb x 2))) (ix3 0 ((rX s n).emb x 1) (lnOf ((rX s n).emb x 2)))
  rw [kbOf_rX, ix_rX]

/-- What the combined tile's pieces leave in the slot they are written to. -/
theorem xc_read {κ : Kind} {sp : Space} (v : View sig κ sp S2x512x2048 .bf16) (f : v.ty.Contents (Elt F)) (s : Fin 2) (x2 : Vec F S512x2048 .bf16) (K : Vec F S16x128 .i32)
    (r : Fin 512) (k : Fin 2048) :
    v.read (Elt F) (v.writes (Elt F) f (blks.map fun n => ⟨rX s n, qComb (xblk x2 n) (krow K n)⟩)) (ix3 s r k) = xcG x2 K (ix2 r k) := by
  refine (View.read_writes_apply_of_pieces v f (fun y => xcG x2 K (ix2 (y 1) (y 2))) _ (fun p hp x => ?_) (ix3 s r k) ?_).trans rfl
  · obtain ⟨n, -, rfl⟩ := List.mem_map.mp hp
    exact xc_pt s x2 K n x
  · have h1 := k.isLt
    have h0 := r.isLt
    have hs := s.isLt
    refine ⟨_, List.mem_map.mpr ⟨kbOf k, mem_blks _, rfl⟩, ?_⟩
    show (ix3 s r k : S2x512x2048.Idx) ∈ (rX s (kbOf k)).set
    unfold rX; rw [Rect.mem_set_unit]; intro a
    match a with
    | ⟨0, _⟩ => exact ⟨Nat.le_refl _, by show s.val < s.val + 1; omega⟩
    | ⟨1, _⟩ => exact ⟨Nat.zero_le _, by show r.val < 0 + 512; omega⟩
    | ⟨2, _⟩ => exact ⟨by show 128 * (k.val / 128) ≤ k.val; omega, by show k.val < 128 * (k.val / 128) + 128; omega⟩

/-! ## The weights, built block row by block row -/

/-- The piece one block of the weights leaves. -/
def tPiece (arg1 : Memref sig .tc .smem S31x16 .f32) (arg4 : Memref sig .tc .vmem S3968x128 .bf16) (arg5 : Memref sig .tc .vmem S3968x2048 .fp8e4m3) (arg9 : Memref sig .tc .vmem S16x128 .i32) (arg10 : Memref sig .tc .vmem S16x128 .i32) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty)
    (o1 : Fin 2 → ℕ) (h1 : ∀ a, o1 a + S128x128.size a ≤ S3968x128.size a) (o2 : Fin 2 → ℕ) (h2 : ∀ a, o2 a + S1x1.size a ≤ S31x16.size a) (o3 : Fin 2 → ℕ) (h3 : ∀ a, o3 a + S128x128.size a ≤ S3968x2048.size a) (n : Fin 16) :
    View.Piece (Elt F) S3968x2048 .bf16 :=
  ⟨Rect.unit (s := S3968x2048) o3 S128x128.size h3, wComb (View.readAt (Elt F) arg4.view (Rect.unit (s := S3968x128) o1 S128x128.size h1).toLoadRect X_arg4)
    (View.readAt (Elt F) arg9.view (rK n).toLoadRect X_arg9) (View.readAt (Elt F) arg10.view (rK n).toLoadRect X_arg10)
    (View.readAt (Elt F) arg1.view (Rect.unit (s := S31x16) o2 S1x1.size h2).toLoadRect X_arg1 (Shape.Idx.first (s := S1x1) Nat.one_pos))
    (View.readAt (Elt F) arg5.view (Rect.unit (s := S3968x2048) o3 S128x128.size h3).toLoadRect X_arg5)⟩

theorem trip_list (𝒱 : Variants) (c : Dev nD) (bd : Option 𝒱.V) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (k0_h1 : k0_cond1 i = 1#1) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (k : Fin k0_t1_loop.trips) :
    (trip_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k).1 =
      [tPiece arg1 arg4 arg5 arg9 arg10 X_arg1 X_arg4 X_arg5 X_arg9 X_arg10 (k0_off1 k) (k0_off1_inb i k k0_h1) (k0_off32 k) (k0_off32_inb i k k0_h1) (k0_off33 k) (k0_off33_inb i k k0_h1) 15,
       tPiece arg1 arg4 arg5 arg9 arg10 X_arg1 X_arg4 X_arg5 X_arg9 X_arg10 (k0_off1 k) (k0_off1_inb i k k0_h1) (k0_off30 k) (k0_off30_inb i k k0_h1) (k0_off31 k) (k0_off31_inb i k k0_h1) 14,
       tPiece arg1 arg4 arg5 arg9 arg10 X_arg1 X_arg4 X_arg5 X_arg9 X_arg10 (k0_off1 k) (k0_off1_inb i k k0_h1) (k0_off28 k) (k0_off28_inb i k k0_h1) (k0_off29 k) (k0_off29_inb i k k0_h1) 13,
       tPiece arg1 arg4 arg5 arg9 arg10 X_arg1 X_arg4 X_arg5 X_arg9 X_arg10 (k0_off1 k) (k0_off1_inb i k k0_h1) (k0_off26 k) (k0_off26_inb i k k0_h1) (k0_off27 k) (k0_off27_inb i k k0_h1) 12,
       tPiece arg1 arg4 arg5 arg9 arg10 X_arg1 X_arg4 X_arg5 X_arg9 X_arg10 (k0_off1 k) (k0_off1_inb i k k0_h1) (k0_off24 k) (k0_off24_inb i k k0_h1) (k0_off25 k) (k0_off25_inb i k k0_h1) 11,
       tPiece arg1 arg4 arg5 arg9 arg10 X_arg1 X_arg4 X_arg5 X_arg9 X_arg10 (k0_off1 k) (k0_off1_inb i k k0_h1) (k0_off22 k) (k0_off22_inb i k k0_h1) (k0_off23 k) (k0_off23_inb i k k0_h1) 10,
       tPiece arg1 arg4 arg5 arg9 arg10 X_arg1 X_arg4 X_arg5 X_arg9 X_arg10 (k0_off1 k) (k0_off1_inb i k k0_h1) (k0_off20 k) (k0_off20_inb i k k0_h1) (k0_off21 k) (k0_off21_inb i k k0_h1) 9,
       tPiece arg1 arg4 arg5 arg9 arg10 X_arg1 X_arg4 X_arg5 X_arg9 X_arg10 (k0_off1 k) (k0_off1_inb i k k0_h1) (k0_off18 k) (k0_off18_inb i k k0_h1) (k0_off19 k) (k0_off19_inb i k k0_h1) 8,
       tPiece arg1 arg4 arg5 arg9 arg10 X_arg1 X_arg4 X_arg5 X_arg9 X_arg10 (k0_off1 k) (k0_off1_inb i k k0_h1) (k0_off16 k) (k0_off16_inb i k k0_h1) (k0_off17 k) (k0_off17_inb i k k0_h1) 7,
       tPiece arg1 arg4 arg5 arg9 arg10 X_arg1 X_arg4 X_arg5 X_arg9 X_arg10 (k0_off1 k) (k0_off1_inb i k k0_h1) (k0_off14 k) (k0_off14_inb i k k0_h1) (k0_off15 k) (k0_off15_inb i k k0_h1) 6,
       tPiece arg1 arg4 arg5 arg9 arg10 X_arg1 X_arg4 X_arg5 X_arg9 X_arg10 (k0_off1 k) (k0_off1_inb i k k0_h1) (k0_off12 k) (k0_off12_inb i k k0_h1) (k0_off13 k) (k0_off13_inb i k k0_h1) 5,
       tPiece arg1 arg4 arg5 arg9 arg10 X_arg1 X_arg4 X_arg5 X_arg9 X_arg10 (k0_off1 k) (k0_off1_inb i k k0_h1) (k0_off10 k) (k0_off10_inb i k k0_h1) (k0_off11 k) (k0_off11_inb i k k0_h1) 4,
       tPiece arg1 arg4 arg5 arg9 arg10 X_arg1 X_arg4 X_arg5 X_arg9 X_arg10 (k0_off1 k) (k0_off1_inb i k k0_h1) (k0_off8 k) (k0_off8_inb i k k0_h1) (k0_off9 k) (k0_off9_inb i k k0_h1) 3,
       tPiece arg1 arg4 arg5 arg9 arg10 X_arg1 X_arg4 X_arg5 X_arg9 X_arg10 (k0_off1 k) (k0_off1_inb i k k0_h1) (k0_off6 k) (k0_off6_inb i k k0_h1) (k0_off7 k) (k0_off7_inb i k k0_h1) 2,
       tPiece arg1 arg4 arg5 arg9 arg10 X_arg1 X_arg4 X_arg5 X_arg9 X_arg10 (k0_off1 k) (k0_off1_inb i k k0_h1) (k0_off4 k) (k0_off4_inb i k k0_h1) (k0_off5 k) (k0_off5_inb i k k0_h1) 1,
       tPiece arg1 arg4 arg5 arg9 arg10 X_arg1 X_arg4 X_arg5 X_arg9 X_arg10 (k0_off1 k) (k0_off1_inb i k k0_h1) (k0_off2 k) (k0_off2_inb i k k0_h1) (k0_off3 k) (k0_off3_inb i k k0_h1) 0] := by sl_kernel_rfl

theorem obOf_rB (b : Fin 31) (n : Fin 16) (x : S128x128.Idx) : obOf ((rB b n).emb x 0) = b := by
  have h : ((x 0 : Fin 128) : ℕ) < 128 := (x 0).isLt
  apply Fin.ext; show (128 * b.val + 1 * (x 0).val) / 128 = b.val; omega
theorem kbOf_rB (b : Fin 31) (n : Fin 16) (x : S128x128.Idx) : kbOf ((rB b n).emb x 1) = n := by
  have h : ((x 1 : Fin 128) : ℕ) < 128 := (x 1).isLt
  apply Fin.ext; show (128 * n.val + 1 * (x 1).val) / 128 = n.val; omega
theorem ix_rB (b : Fin 31) (n : Fin 16) (x : S128x128.Idx) : (ix2 (rwOf ((rB b n).emb x 0)) (lnOf ((rB b n).emb x 1)) : S128x128.Idx) = x := by
  have h : ((x 1 : Fin 128) : ℕ) < 128 := (x 1).isLt
  have h0 : ((x 0 : Fin 128) : ℕ) < 128 := (x 0).isLt
  funext a; apply Fin.ext
  match a with
  | ⟨0, _⟩ => show (128 * b.val + 1 * (x 0).val) % 128 = (x 0).val; omega
  | ⟨1, _⟩ => show (128 * n.val + 1 * (x 1).val) % 128 = (x 1).val; omega

theorem wc_pt (x0 : Vec F S31x16 .f32) (x3 : Vec F S3968x128 .bf16) (x4 : Vec F S3968x2048 .fp8e4m3) (K P : Vec F S16x128 .i32) (b : Fin 31) (n : Fin 16) (x : S128x128.Idx) :
    wComb (fun a => x3 ((rO b).emb a)) (krow K n) (krow P n) (x0 (ix2 b n)) (fun a => x4 ((rB b n).emb a)) x = wcG x0 x3 x4 K P ((rB b n).emb x) := by
  unfold wcG
  rw [obOf_rB, kbOf_rB, ix_rB]

/-- One block's piece agrees with the combined weights, whatever spelling its offsets have. -/
theorem tPiece_ok (arg1 : Memref sig .tc .smem S31x16 .f32) (arg4 : Memref sig .tc .vmem S3968x128 .bf16) (arg5 : Memref sig .tc .vmem S3968x2048 .fp8e4m3) (arg9 : Memref sig .tc .vmem S16x128 .i32) (arg10 : Memref sig .tc .vmem S16x128 .i32) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty)
    (o1 : Fin 2 → ℕ) (h1 : ∀ a, o1 a + S128x128.size a ≤ S3968x128.size a) (o2 : Fin 2 → ℕ) (h2 : ∀ a, o2 a + S1x1.size a ≤ S31x16.size a) (o3 : Fin 2 → ℕ) (h3 : ∀ a, o3 a + S128x128.size a ≤ S3968x2048.size a) (n : Fin 16)
    (b : Fin 31) (e1 : o1 = ![128 * b.val, 0]) (e2 : o2 = ![b.val, n.val]) (e3 : o3 = ![128 * b.val, 128 * n.val])
    (x0 : Vec F S31x16 .f32) (x3 : Vec F S3968x128 .bf16) (x4 : Vec F S3968x2048 .fp8e4m3) (K P : Vec F S16x128 .i32)
    (g1 : arg1.view.read (Elt F) X_arg1 = x0) (g4 : arg4.view.read (Elt F) X_arg4 = x3) (g5 : arg5.view.read (Elt F) X_arg5 = x4)
    (g9 : arg9.view.read (Elt F) X_arg9 = K) (g10 : arg10.view.read (Elt F) X_arg10 = P) :
    (∀ x, (tPiece arg1 arg4 arg5 arg9 arg10 X_arg1 X_arg4 X_arg5 X_arg9 X_arg10 o1 h1 o2 h2 o3 h3 n).2 x
      = wcG x0 x3 x4 K P ((tPiece arg1 arg4 arg5 arg9 arg10 X_arg1 X_arg4 X_arg5 X_arg9 X_arg10 o1 h1 o2 h2 o3 h3 n).1.emb x))
    ∧ (tPiece arg1 arg4 arg5 arg9 arg10 X_arg1 X_arg4 X_arg5 X_arg9 X_arg10 o1 h1 o2 h2 o3 h3 n).1 = rB b n := by
  subst e1 e2 e3 g1 g4 g5 g9 g10
  refine ⟨fun x => ?_, rfl⟩
  have hix : (Rect.unit (s := S31x16) ![b.val, n.val] S1x1.size h2).toLoadRect.idx (Shape.Idx.first (s := S1x1) Nat.one_pos) = ix2 b n := by
    funext a; apply Fin.ext
    match a with
    | ⟨0, _⟩ => show b.val + 1 * 0 = b.val; omega
    | ⟨1, _⟩ => show n.val + 1 * 0 = n.val; omega
  refine Eq.trans ?_ (wc_pt _ _ _ _ _ b n x)
  rw [← hix]
  rfl

theorem trip_ok (𝒱 : Variants) (c : Dev nD) (bd : Option 𝒱.V) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (k0_h1 : k0_cond1 i = 1#1) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (k : Fin k0_t1_loop.trips) (b : Fin 31) (hb : b.val = k.val)
    (x0 : Vec F S31x16 .f32) (x3 : Vec F S3968x128 .bf16) (x4 : Vec F S3968x2048 .fp8e4m3) (K P : Vec F S16x128 .i32)
    (g1 : arg1.view.read (Elt F) X_arg1 = x0) (g4 : arg4.view.read (Elt F) X_arg4 = x3) (g5 : arg5.view.read (Elt F) X_arg5 = x4)
    (g9 : arg9.view.read (Elt F) X_arg9 = K) (g10 : arg10.view.read (Elt F) X_arg10 = P) :
    (∀ p ∈ (trip_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k).1, ∀ x, p.2 x = wcG x0 x3 x4 K P (p.1.emb x))
    ∧ ∀ n : Fin 16, ∃ p ∈ (trip_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k).1, p.1 = rB b n := by
  rw [trip_list]
  have T := fun o1 h1 o2 h2 o3 h3 n e1 e2 e3 => tPiece_ok arg1 arg4 arg5 arg9 arg10 X_arg1 X_arg4 X_arg5 X_arg9 X_arg10 o1 h1 o2 h2 o3 h3 n b e1 e2 e3 x0 x3 x4 K P g1 g4 g5 g9 g10
  have T0 := T (k0_off1 k) (k0_off1_inb i k k0_h1) (k0_off2 k) (k0_off2_inb i k k0_h1) (k0_off3 k) (k0_off3_inb i k k0_h1) 0 (by rw [hb]; exact k0_off1_eq k) (by rw [hb]; exact k0_off2_eq k) (by rw [hb]; exact k0_off3_eq k)
  have T1 := T (k0_off1 k) (k0_off1_inb i k k0_h1) (k0_off4 k) (k0_off4_inb i k k0_h1) (k0_off5 k) (k0_off5_inb i k k0_h1) 1 (by rw [hb]; exact k0_off1_eq k) (by rw [hb]; exact k0_off4_eq k) (by rw [hb]; exact k0_off5_eq k)
  have T2 := T (k0_off1 k) (k0_off1_inb i k k0_h1) (k0_off6 k) (k0_off6_inb i k k0_h1) (k0_off7 k) (k0_off7_inb i k k0_h1) 2 (by rw [hb]; exact k0_off1_eq k) (by rw [hb]; exact k0_off6_eq k) (by rw [hb]; exact k0_off7_eq k)
  have T3 := T (k0_off1 k) (k0_off1_inb i k k0_h1) (k0_off8 k) (k0_off8_inb i k k0_h1) (k0_off9 k) (k0_off9_inb i k k0_h1) 3 (by rw [hb]; exact k0_off1_eq k) (by rw [hb]; exact k0_off8_eq k) (by rw [hb]; exact k0_off9_eq k)
  have T4 := T (k0_off1 k) (k0_off1_inb i k k0_h1) (k0_off10 k) (k0_off10_inb i k k0_h1) (k0_off11 k) (k0_off11_inb i k k0_h1) 4 (by rw [hb]; exact k0_off1_eq k) (by rw [hb]; exact k0_off10_eq k) (by rw [hb]; exact k0_off11_eq k)
  have T5 := T (k0_off1 k) (k0_off1_inb i k k0_h1) (k0_off12 k) (k0_off12_inb i k k0_h1) (k0_off13 k) (k0_off13_inb i k k0_h1) 5 (by rw [hb]; exact k0_off1_eq k) (by rw [hb]; exact k0_off12_eq k) (by rw [hb]; exact k0_off13_eq k)
  have T6 := T (k0_off1 k) (k0_off1_inb i k k0_h1) (k0_off14 k) (k0_off14_inb i k k0_h1) (k0_off15 k) (k0_off15_inb i k k0_h1) 6 (by rw [hb]; exact k0_off1_eq k) (by rw [hb]; exact k0_off14_eq k) (by rw [hb]; exact k0_off15_eq k)
  have T7 := T (k0_off1 k) (k0_off1_inb i k k0_h1) (k0_off16 k) (k0_off16_inb i k k0_h1) (k0_off17 k) (k0_off17_inb i k k0_h1) 7 (by rw [hb]; exact k0_off1_eq k) (by rw [hb]; exact k0_off16_eq k) (by rw [hb]; exact k0_off17_eq k)
  have T8 := T (k0_off1 k) (k0_off1_inb i k k0_h1) (k0_off18 k) (k0_off18_inb i k k0_h1) (k0_off19 k) (k0_off19_inb i k k0_h1) 8 (by rw [hb]; exact k0_off1_eq k) (by rw [hb]; exact k0_off18_eq k) (by rw [hb]; exact k0_off19_eq k)
  have T9 := T (k0_off1 k) (k0_off1_inb i k k0_h1) (k0_off20 k) (k0_off20_inb i k k0_h1) (k0_off21 k) (k0_off21_inb i k k0_h1) 9 (by rw [hb]; exact k0_off1_eq k) (by rw [hb]; exact k0_off20_eq k) (by rw [hb]; exact k0_off21_eq k)
  have T10 := T (k0_off1 k) (k0_off1_inb i k k0_h1) (k0_off22 k) (k0_off22_inb i k k0_h1) (k0_off23 k) (k0_off23_inb i k k0_h1) 10 (by rw [hb]; exact k0_off1_eq k) (by rw [hb]; exact k0_off22_eq k) (by rw [hb]; exact k0_off23_eq k)
  have T11 := T (k0_off1 k) (k0_off1_inb i k k0_h1) (k0_off24 k) (k0_off24_inb i k k0_h1) (k0_off25 k) (k0_off25_inb i k k0_h1) 11 (by rw [hb]; exact k0_off1_eq k) (by rw [hb]; exact k0_off24_eq k) (by rw [hb]; exact k0_off25_eq k)
  have T12 := T (k0_off1 k) (k0_off1_inb i k k0_h1) (k0_off26 k) (k0_off26_inb i k k0_h1) (k0_off27 k) (k0_off27_inb i k k0_h1) 12 (by rw [hb]; exact k0_off1_eq k) (by rw [hb]; exact k0_off26_eq k) (by rw [hb]; exact k0_off27_eq k)
  have T13 := T (k0_off1 k) (k0_off1_inb i k k0_h1) (k0_off28 k) (k0_off28_inb i k k0_h1) (k0_off29 k) (k0_off29_inb i k k0_h1) 13 (by rw [hb]; exact k0_off1_eq k) (by rw [hb]; exact k0_off28_eq k) (by rw [hb]; exact k0_off29_eq k)
  have T14 := T (k0_off1 k) (k0_off1_inb i k k0_h1) (k0_off30 k) (k0_off30_inb i k k0_h1) (k0_off31 k) (k0_off31_inb i k k0_h1) 14 (by rw [hb]; exact k0_off1_eq k) (by rw [hb]; exact k0_off30_eq k) (by rw [hb]; exact k0_off31_eq k)
  have T15 := T (k0_off1 k) (k0_off1_inb i k k0_h1) (k0_off32 k) (k0_off32_inb i k k0_h1) (k0_off33 k) (k0_off33_inb i k k0_h1) 15 (by rw [hb]; exact k0_off1_eq k) (by rw [hb]; exact k0_off32_eq k) (by rw [hb]; exact k0_off33_eq k)
  constructor
  · intro p hp
    simp only [List.mem_cons, List.not_mem_nil, or_false] at hp
    rcases hp with rfl | rfl | rfl | rfl | rfl | rfl | rfl | rfl | rfl | rfl | rfl | rfl | rfl | rfl | rfl | rfl
    · exact T15.1
    · exact T14.1
    · exact T13.1
    · exact T12.1
    · exact T11.1
    · exact T10.1
    · exact T9.1
    · exact T8.1
    · exact T7.1
    · exact T6.1
    · exact T5.1
    · exact T4.1
    · exact T3.1
    · exact T2.1
    · exact T1.1
    · exact T0.1
  · intro n
    match n with
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), T0.2⟩
    | ⟨1, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), T1.2⟩
    | ⟨2, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), T2.2⟩
    | ⟨3, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), T3.2⟩
    | ⟨4, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), T4.2⟩
    | ⟨5, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), T5.2⟩
    | ⟨6, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), T6.2⟩
    | ⟨7, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), T7.2⟩
    | ⟨8, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), T8.2⟩
    | ⟨9, _⟩ => exact ⟨_, List.mem_cons_of_mem _ (List.mem_cons_of_mem _ (List.mem_cons_of_mem _ (List.mem_cons_of_mem _ (List.mem_cons_of_mem _ (List.mem_cons_of_mem _ (List.mem_cons_self)))))), T9.2⟩
    | ⟨10, _⟩ => exact ⟨_, List.mem_cons_of_mem _ (List.mem_cons_of_mem _ (List.mem_cons_of_mem _ (List.mem_cons_of_mem _ (List.mem_cons_of_mem _ (List.mem_cons_self))))), T10.2⟩
    | ⟨11, _⟩ => exact ⟨_, List.mem_cons_of_mem _ (List.mem_cons_of_mem _ (List.mem_cons_of_mem _ (List.mem_cons_of_mem _ (List.mem_cons_self)))), T11.2⟩
    | ⟨12, _⟩ => exact ⟨_, List.mem_cons_of_mem _ (List.mem_cons_of_mem _ (List.mem_cons_of_mem _ (List.mem_cons_self))), T12.2⟩
    | ⟨13, _⟩ => exact ⟨_, List.mem_cons_of_mem _ (List.mem_cons_of_mem _ (List.mem_cons_self)), T13.2⟩
    | ⟨14, _⟩ => exact ⟨_, List.mem_cons_of_mem _ (List.mem_cons_self), T14.2⟩
    | ⟨15, _⟩ => exact ⟨_, List.mem_cons_self, T15.2⟩
    | ⟨n + 16, h⟩ => exact absurd h (by omega)

theorem pb_mem (𝒱 : Variants) (c : Dev nD) (bd : Option 𝒱.V) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (k0_h1 : k0_cond1 i = 1#1) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (k : Fin k0_t1_loop.trips) (p : View.Piece (Elt F) S3968x2048 .bf16) (hp : p ∈ (trip_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k).1) :
    ∀ N, k.val < N → N ≤ k0_t1_loop.trips → p ∈ pb_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 N
  | 0, h, _ => absurd h (Nat.not_lt_zero _)
  | N + 1, h, hN => by
    have e := pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 ⟨N, hN⟩
    rw [show N + 1 = (⟨N, hN⟩ : Fin k0_t1_loop.trips).val + 1 from rfl, e]
    rcases Nat.lt_succ_iff_lt_or_eq.mp h with h | h
    · exact List.mem_append_right _ (pb_mem 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k p hp N h (Nat.le_of_succ_le hN))
    · refine List.mem_append_left _ ?_
      obtain rfl : k = ⟨N, hN⟩ := Fin.ext h
      exact hp

theorem mem_pb (𝒱 : Variants) (c : Dev nD) (bd : Option 𝒱.V) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (k0_h1 : k0_cond1 i = 1#1) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (p : View.Piece (Elt F) S3968x2048 .bf16) :
    ∀ N, N ≤ k0_t1_loop.trips → p ∈ pb_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 N → ∃ k : Fin k0_t1_loop.trips, p ∈ (trip_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k).1
  | 0, _, h => by rw [pb_k0_t1.eq_1] at h; exact absurd h List.not_mem_nil
  | N + 1, hN, h => by
    have e := pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 ⟨N, hN⟩
    rw [show N + 1 = (⟨N, hN⟩ : Fin k0_t1_loop.trips).val + 1 from rfl, e] at h
    rcases List.mem_append.mp h with h | h
    · exact ⟨⟨N, hN⟩, h⟩
    · exact mem_pb 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 p N (Nat.le_of_succ_le hN) h

theorem trips31 : k0_t1_loop.trips = 31 := by decide +kernel

/-- What the built weights read. -/
theorem wc_read (𝒱 : Variants) (c : Dev nD) (bd : Option 𝒱.V) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (k0_h1 : k0_cond1 i = 1#1) (X_arg1 : BufTy.Contents (Elt F) arg1.view.ty) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (f : BufTy.Contents (Elt F) arg12.view.ty)
    (x0 : Vec F S31x16 .f32) (x3 : Vec F S3968x128 .bf16) (x4 : Vec F S3968x2048 .fp8e4m3) (K P : Vec F S16x128 .i32)
    (g1 : arg1.view.read (Elt F) X_arg1 = x0) (g4 : arg4.view.read (Elt F) X_arg4 = x3) (g5 : arg5.view.read (Elt F) X_arg5 = x4)
    (g9 : arg9.view.read (Elt F) X_arg9 = K) (g10 : arg10.view.read (Elt F) X_arg10 = P) :
    arg12.view.read (Elt F) (arg12.view.writes (Elt F) f (pb_k0_t1 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k0_t1_loop.trips)) = wcG x0 x3 x4 K P := by
  refine read_of arg12.view f _ _ (fun p hp => ?_) fun y => ?_
  · obtain ⟨k, hk⟩ := mem_pb 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 p _ (Nat.le_refl _) hp
    exact (trip_ok 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k ⟨k.val, trips31 ▸ k.isLt⟩ rfl x0 x3 x4 K P g1 g4 g5 g9 g10).1 p hk
  · have h1 : ((y 1 : Fin 2048) : ℕ) < 2048 := (y 1).isLt
    have h0 : ((y 0 : Fin 3968) : ℕ) < 3968 := (y 0).isLt
    let k : Fin k0_t1_loop.trips := ⟨(obOf (y 0)).val, by rw [trips31]; exact (obOf (y 0)).isLt⟩
    obtain ⟨p, hp, e⟩ := (trip_ok 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k (obOf (y 0)) rfl x0 x3 x4 K P g1 g4 g5 g9 g10).2 (kbOf (y 1))
    refine ⟨p, pb_mem 𝒱 c bd i arg1 harg1 arg2 harg2 arg3 harg3 arg4 harg4 arg5 harg5 arg6 harg6 arg7 harg7 arg8 harg8 arg9 harg9 arg10 harg10 arg11 harg11 arg12 harg12 k0_h1 X_arg1 X_arg4 X_arg5 X_arg9 X_arg10 k p hp _ k.isLt (Nat.le_refl _), ?_⟩
    rw [e]
    unfold rB; rw [Rect.mem_set_unit]; intro a
    match a with
    | ⟨0, _⟩ => exact ⟨by show 128 * ((y 0).val / 128) ≤ (y 0).val; omega, by show (y 0).val < 128 * ((y 0).val / 128) + 128; omega⟩
    | ⟨1, _⟩ => exact ⟨by show 128 * ((y 1).val / 128) ≤ (y 1).val; omega, by show (y 1).val < 128 * ((y 1).val / 128) + 128; omega⟩

end Cert.KernelIdeal.Gen

end
-- ==== Proof.YVal.lean ====
/- The product over the extended reals. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Vals
public import Idealize.ShloMosaic.Lib.ValueIdxCore
public import Idealize.ShloMosaic.Lib.ValueLayout
public import Idealize.ShloMosaic.Lib.MatmulPlain

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000

open Idealize.ShloMosaic.ValueIdx

/-- The product of a tile of combined activations and all combined weights. -/
def yG (X : Vec Ideal S512x2048 .bf16) (W : Vec Ideal S3968x2048 .bf16) : Vec Ideal S512x3968 .bf16 := fun j =>
  (∑ k : Fin 2048, (X (ix2 (j 0) k) * W (ix2 (j 1) k) : EReal) : EReal)

theorem pay7_apply (X : Vec Ideal S512x2048 .bf16) (W : Vec Ideal S256x2048 .bf16) (x : S512x256.Idx) :
    k0_pay7 (F := Ideal) X W x = (∑ k : Fin 2048, (X (ix2 (x 0) k) * W (ix2 (x 1) k) : EReal) : EReal) := by
  rw [eq_ix2 x]
  refine (Ideal.matmul_transposedRhs_apply (M := 512) (K := 2048) (N := 256) (φ₁ := .bf16) (φ₂ := .bf16) none X W (constant (F := Ideal) S512x256 .f32 0x00000000#32) (x 0) (x 1)).trans ?_
  exact (congrArg (· + _) (show (constant (F := Ideal) S512x256 .f32 0x00000000#32) (ix2 (x 0) (x 1)) = (0 : EReal) from Ideal.ofBits_zero_f32)).trans (zero_add (_ : EReal))

theorem pay8_apply (X : Vec Ideal S512x2048 .bf16) (W : Vec Ideal S128x2048 .bf16) (x : S512x128.Idx) :
    k0_pay8 (F := Ideal) X W x = (∑ k : Fin 2048, (X (ix2 (x 0) k) * W (ix2 (x 1) k) : EReal) : EReal) := by
  rw [eq_ix2 x]
  refine (Ideal.matmul_transposedRhs_apply (M := 512) (K := 2048) (N := 128) (φ₁ := .bf16) (φ₂ := .bf16) none X W (constant (F := Ideal) S512x128 .f32 0x00000000#32) (x 0) (x 1)).trans ?_
  exact (congrArg (· + _) (show (constant (F := Ideal) S512x128 .f32 0x00000000#32) (ix2 (x 0) (x 1)) = (0 : EReal) from Ideal.ofBits_zero_f32)).trans (zero_add (_ : EReal))

theorem y_pt (X : Vec Ideal S512x2048 .bf16) (W : Vec Ideal S3968x2048 .bf16) (n : Fin 15) (x : S512x256.Idx) :
    k0_pay7 (F := Ideal) X (fun a => W ((rW n).emb a)) x = yG X W ((rY n).emb x) := by
  rw [pay7_apply]
  unfold yG
  refine Finset.sum_congr rfl fun k _ => ?_
  congr 2
  · funext a; apply Fin.ext
    match a with
    | ⟨0, _⟩ => show (x 0).val = 0 + 1 * (x 0).val; omega
    | ⟨1, _⟩ => rfl
  · funext a; apply Fin.ext
    match a with
    | ⟨0, _⟩ => rfl
    | ⟨1, _⟩ => show 0 + 1 * k.val = k.val; omega

theorem yl_pt (X : Vec Ideal S512x2048 .bf16) (W : Vec Ideal S3968x2048 .bf16) (x : S512x128.Idx) :
    k0_pay8 (F := Ideal) X (fun a => W (rWl.emb a)) x = yG X W (rYl.emb x) := by
  rw [pay8_apply]
  unfold yG
  refine Finset.sum_congr rfl fun k _ => ?_
  congr 2
  · funext a; apply Fin.ext
    match a with
    | ⟨0, _⟩ => show (x 0).val = 0 + 1 * (x 0).val; omega
    | ⟨1, _⟩ => rfl
  · funext a; apply Fin.ext
    match a with
    | ⟨0, _⟩ => rfl
    | ⟨1, _⟩ => show 0 + 1 * k.val = k.val; omega

theorem mem_fin15 (n : Fin 15) : n ∈ ([14, 13, 12, 11, 10, 9, 8, 7, 6, 5, 4, 3, 2, 1, 0] : List (Fin 15)) := by revert n; decide

/-- What the product's pieces leave. -/
theorem y_read {κ : Kind} {sp : Space} (v : View sig κ sp S512x3968 .bf16) (f : v.ty.Contents (Elt Ideal)) (X : Vec Ideal S512x2048 .bf16) (W : Vec Ideal S3968x2048 .bf16) :
    v.read (Elt Ideal) (v.writes (Elt Ideal) f (⟨rYl, k0_pay8 (F := Ideal) X (fun a => W (rWl.emb a))⟩ ::
      ([14, 13, 12, 11, 10, 9, 8, 7, 6, 5, 4, 3, 2, 1, 0] : List (Fin 15)).map fun n => ⟨rY n, k0_pay7 (F := Ideal) X (fun a => W ((rW n).emb a))⟩)) = yG X W := by
  refine read_of (F := Ideal) v f _ _ (fun p hp x => ?_) fun y => ?_
  · rcases List.mem_cons.mp hp with rfl | hp
    · exact yl_pt X W x
    · obtain ⟨n, -, rfl⟩ := List.mem_map.mp hp
      exact y_pt X W n x
  · have h1 : ((y 1 : Fin 3968) : ℕ) < 3968 := (y 1).isLt
    have h0 : ((y 0 : Fin 512) : ℕ) < 512 := (y 0).isLt
    by_cases h : (y 1).val < 3840
    · refine ⟨_, List.mem_cons_of_mem _ (List.mem_map.mpr ⟨⟨(y 1).val / 256, by omega⟩, mem_fin15 _, rfl⟩), ?_⟩
      show y ∈ (rY ⟨(y 1).val / 256, by omega⟩).set
      unfold rY; rw [Rect.mem_set_unit]; intro a
      match a with
      | ⟨0, _⟩ => exact ⟨Nat.zero_le _, by show (y 0).val < 0 + 512; omega⟩
      | ⟨1, _⟩ => exact ⟨by show 256 * ((y 1).val / 256) ≤ (y 1).val; omega, by show (y 1).val < 256 * ((y 1).val / 256) + 256; omega⟩
    · refine ⟨_, List.mem_cons_self, ?_⟩
      show y ∈ rYl.set
      unfold rYl; rw [Rect.mem_set_unit]; intro a
      match a with
      | ⟨0, _⟩ => exact ⟨Nat.zero_le _, by show (y 0).val < 0 + 512; omega⟩
      | ⟨1, _⟩ => exact ⟨by show 3840 ≤ (y 1).val; omega, by show (y 1).val < 3840 + 128; omega⟩

/-- The slot the product reads. -/
def slotOf (s : Fin 2) (X : Vec Ideal S2x512x2048 .bf16) : Vec Ideal S512x2048 .bf16 := fun j => X (ix3 s (j 0) (j 1))

theorem slot_read (s : Fin 2) (o : Fin 3 → ℕ) (h : ∀ a, o a + S1x512x2048.size a ≤ S2x512x2048.size a) (e : o = ![s.val, 0, 0])
    {κ : Kind} {sp : Space} (v : View sig κ sp S2x512x2048 .bf16) (f : v.ty.Contents (Elt Ideal)) :
    shapeCast S512x2048 (View.readAt (Elt Ideal) v (Rect.unit (s := S2x512x2048) o S1x512x2048.size h).toLoadRect f) shapeCasts_S1x512x2048_S512x2048 = slotOf s (v.read (Elt Ideal) f) := by
  subst e
  funext j
  rw [eq_ix2 j]
  refine (shapeCast_1ab_ab_apply _ _ _ _).trans ?_
  show v.read (Elt Ideal) f _ = v.read (Elt Ideal) f _
  congr 1
  funext a; apply Fin.ext
  match a with
  | ⟨0, _⟩ => show s.val + 1 * 0 = s.val; omega
  | ⟨1, _⟩ => show 0 + 1 * (j 0).val = (j 0).val; omega
  | ⟨2, _⟩ => show 0 + 1 * (j 1).val = (j 1).val; omega

end Cert.KernelIdeal.Gen

end
-- ==== Proof.Fin.lean ====
/- What each run of the body leaves in every buffer. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.YVal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000

open Idealize.ShloMosaic.ValueIdx

theorem rI_read {κ : Kind} {sp : Space} (v : View sig κ sp S128x1 .i32) (f : v.ty.Contents (Elt F)) :
    View.readAt (Elt F) v rI.toLoadRect f = v.read (Elt F) f := by
  funext j
  show v.read (Elt F) f (rI.emb j) = v.read (Elt F) f j
  congr 1
  funext a; apply Fin.ext
  match a with
  | ⟨0, _⟩ => show 0 + 1 * (j 0).val = (j 0).val; omega
  | ⟨1, _⟩ => show 0 + 1 * (j 1).val = (j 1).val; omega

theorem codes_out {κ κ' κ'' : Kind} {sp sp' sp'' : Space} (v : View sig κ sp S512x2048 .fp8e4m3) (f : v.ty.Contents (Elt F))
    (v3 : View sig κ' sp' S512x2048 .bf16) (f3 : v3.ty.Contents (Elt F)) (v9 : View sig κ'' sp'' S16x128 .i32) (f9 : v9.ty.Contents (Elt F))
    (x2 : Vec F S512x2048 .bf16) (K : Vec F S16x128 .i32) (h3 : v3.read (Elt F) f3 = x2) (h9 : v9.read (Elt F) f9 = K) :
    v.read (Elt F) (v.writes (Elt F) f (blks.map fun n => ⟨rC n, qCodes (View.readAt (Elt F) v3 (rC n).toLoadRect f3) (View.readAt (Elt F) v9 (rK n).toLoadRect f9)⟩)) = codesG x2 K := by
  subst h3 h9; exact codes_read v f _ _

theorem scale_out {κ κ' κ'' : Kind} {sp sp' sp'' : Space} (v : View sig κ sp S512x16 .f32) (f : v.ty.Contents (Elt F))
    (v3 : View sig κ' sp' S512x2048 .bf16) (f3 : v3.ty.Contents (Elt F)) (v9 : View sig κ'' sp'' S16x128 .i32) (f9 : v9.ty.Contents (Elt F))
    (x2 : Vec F S512x2048 .bf16) (K : Vec F S16x128 .i32) (h3 : v3.read (Elt F) f3 = x2) (h9 : v9.read (Elt F) f9 = K) :
    v.read (Elt F) (v.writes (Elt F) f [⟨rS, scOut fun n => qScale (View.readAt (Elt F) v3 (rC (nb n)).toLoadRect f3) (View.readAt (Elt F) v9 (rK (nb n)).toLoadRect f9)⟩]) = scaleG x2 K := by
  subst h3 h9; exact scale_read v f _

theorem xc_out {κ κ' κ'' : Kind} {sp sp' sp'' : Space} (v : View sig κ sp S2x512x2048 .bf16) (f : v.ty.Contents (Elt F)) (s : Fin 2)
    (v3 : View sig κ' sp' S512x2048 .bf16) (f3 : v3.ty.Contents (Elt F)) (v9 : View sig κ'' sp'' S16x128 .i32) (f9 : v9.ty.Contents (Elt F))
    (x2 : Vec F S512x2048 .bf16) (K : Vec F S16x128 .i32) (h3 : v3.read (Elt F) f3 = x2) (h9 : v9.read (Elt F) f9 = K) (r : Fin 512) (k : Fin 2048) :
    v.read (Elt F) (v.writes (Elt F) f (blks.map fun n => ⟨rX s n, qComb (View.readAt (Elt F) v3 (rC n).toLoadRect f3) (View.readAt (Elt F) v9 (rK n).toLoadRect f9)⟩)) (ix3 s r k) = xcG x2 K (ix2 r k) := by
  subst h3 h9; exact xc_read v f s _ _ r k

/-- The build loop. -/
theorem wcA (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) :
    (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.2.2.1 = pb_k0_t1 Variants.none c none i arg1 harg1 arg2 harg2 arg3 harg3 arg4 harg4 arg5 harg5 arg6 harg6 arg7 harg7 arg8 harg8 arg9 harg9 arg10 harg10 arg11 harg11 arg12 harg12 hc0 (harg1.unread x0) (harg4.unread x3) (harg5.unread x4) (arg9.view.writes (Elt F) arg9.view.junk ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4)).2.2.1) (arg10.view.writes (Elt F) arg10.view.junk ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4)).2.2.2.1) k0_t1_loop.trips := by
  sl_kernel_rfl

/-- The keep masks. -/
theorem keepA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg9.view.ty) :
    arg9.view.read (Elt F) (arg9.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) = keepG (F := F) x1 := by
  rw [keepA, rI_read, harg2.read_unread]
  exact keep_read _ _ _

/-- The row masks. -/
theorem posA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg10.view.ty) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.1) = posG (F := F) x1 := by
  rw [posA, rI_read, harg2.read_unread]
  exact pos_read _ _ _

/-- The codes. -/
theorem codesA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg7.view.ty) :
    arg7.view.read (Elt F) (arg7.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).1) = codesG x2 (keepG (F := F) x1) := by
  rw [codesA]
  exact codes_out _ _ _ _ arg9.view (arg9.view.writes (Elt F) arg9.view.junk (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) _ _ (harg3.read_unread _) (keepA_fin c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4 _)

/-- The scales. -/
theorem scaleA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg8.view.ty) :
    arg8.view.read (Elt F) (arg8.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.1) = scaleG x2 (keepG (F := F) x1) := by
  rw [scaleA]
  exact scale_out _ _ _ _ arg9.view (arg9.view.writes (Elt F) arg9.view.junk (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) _ _ (harg3.read_unread _) (keepA_fin c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4 _)

/-- The combined tile. -/
theorem xcA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg11.view.ty) (r : Fin 512) (k : Fin 2048) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.2.1) (ix3 0 r k) = xcG x2 (keepG (F := F) x1) (ix2 r k) := by
  rw [xcA]
  exact xc_out _ _ _ _ _ arg9.view (arg9.view.writes (Elt F) arg9.view.junk (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.1) _ _ (harg3.read_unread _) (keepA_fin c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4 _) r k

/-- The combined weights. -/
theorem wcA_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : cond0_0 i) (hc1 : cond0_1 i) (hc2 : ¬cond0_2 i) (hc3 : ¬cond0_3 i) (hl0 : k0_off34 i = ![0, 0, 0]) (hl1 : k0_off35 i = ![0, 0, 0]) (hl2 : k0_off36 i = ![0, 0, 128]) (hl3 : k0_off37 i = ![0, 0, 256]) (hl4 : k0_off38 i = ![0, 0, 384]) (hl5 : k0_off39 i = ![0, 0, 512]) (hl6 : k0_off40 i = ![0, 0, 640]) (hl7 : k0_off41 i = ![0, 0, 768]) (hl8 : k0_off42 i = ![0, 0, 896]) (hl9 : k0_off43 i = ![0, 0, 1024]) (hl10 : k0_off44 i = ![0, 0, 1152]) (hl11 : k0_off45 i = ![0, 0, 1280]) (hl12 : k0_off46 i = ![0, 0, 1408]) (hl13 : k0_off47 i = ![0, 0, 1536]) (hl14 : k0_off48 i = ![0, 0, 1664]) (hl15 : k0_off49 i = ![0, 0, 1792]) (hl16 : k0_off50 i = ![0, 0, 1920])
    (x0 : Vec F S31x16 .f32) (x1 : Vec F S128x1 .i32) (x2 : Vec F S512x2048 .bf16) (x3 : Vec F S3968x128 .bf16) (x4 : Vec F S3968x2048 .fp8e4m3) (f : BufTy.Contents (Elt F) arg12.view.ty) :
    arg12.view.read (Elt F) (arg12.view.writes (Elt F) f (runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4).2.2.2.2.2.1) = wcG x0 x3 x4 (keepG (F := F) x1) (posG (F := F) x1) := by
  rw [wcA]
  exact wc_read Variants.none c none i arg1 harg1 arg2 harg2 arg3 harg3 arg4 harg4 arg5 harg5 arg6 harg6 arg7 harg7 arg8 harg8 arg9 harg9 arg10 harg10 arg11 harg11 arg12 harg12 hc0 (harg1.unread x0) (harg4.unread x3) (harg5.unread x4) (arg9.view.writes (Elt F) arg9.view.junk ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4)).2.2.1) (arg10.view.writes (Elt F) arg10.view.junk ((runA c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4)).2.2.2.1) _ _ _ _ _ _ (harg1.read_unread _) (harg4.read_unread _) (harg5.read_unread _) (keepA_fin c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4 _) (posA_fin c i arg1 harg1 arg2 harg2 arg3 harg3 arg4 harg4 arg5 harg5 arg6 harg6 arg7 harg7 arg8 harg8 arg9 harg9 arg10 harg10 arg11 harg11 arg12 harg12 hc0 hc1 hc2 hc3 hl0 hl1 hl2 hl3 hl4 hl5 hl6 hl7 hl8 hl9 hl10 hl11 hl12 hl13 hl14 hl15 hl16 x0 x1 x2 x3 x4 _)

/-- The codes. -/
theorem codesB_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg7.view.ty) :
    arg7.view.read (Elt F) (arg7.view.writes (Elt F) f (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.1) = codesG x2 xs0 := by
  rw [codesB]
  exact codes_out _ _ _ _ arg9.view (harg9.unread xs0) _ _ (harg3.read_unread _) (harg9.read_unread _)

/-- The scales. -/
theorem scaleB_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg8.view.ty) :
    arg8.view.read (Elt F) (arg8.view.writes (Elt F) f (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.1) = scaleG x2 xs0 := by
  rw [scaleB]
  exact scale_out _ _ _ _ arg9.view (harg9.unread xs0) _ _ (harg3.read_unread _) (harg9.read_unread _)

/-- The combined tile. -/
theorem xcB_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg11.view.ty) (r : Fin 512) (k : Fin 2048) :
    arg11.view.read (Elt F) (arg11.view.writes (Elt F) f (runB c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.2.1) (ix3 1 r k) = xcG x2 xs0 (ix2 r k) := by
  rw [xcB]
  exact xc_out _ _ _ _ _ arg9.view (harg9.unread xs0) _ _ (harg3.read_unread _) (harg9.read_unread _) r k

/-- The codes. -/
theorem codesC_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg7.view.ty) :
    arg7.view.read (Elt F) (arg7.view.writes (Elt F) f (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.1) = codesG x2 xs0 := by
  rw [codesC]
  exact codes_out _ _ _ _ arg9.view (harg9.unread xs0) _ _ (harg3.read_unread _) (harg9.read_unread _)

/-- The scales. -/
theorem scaleC_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg8.view.ty) :
    arg8.view.read (Elt F) (arg8.view.writes (Elt F) f (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.1) = scaleG x2 xs0 := by
  rw [scaleC]
  exact scale_out _ _ _ _ arg9.view (harg9.unread xs0) _ _ (harg3.read_unread _) (harg9.read_unread _)

/-- The combined tile. -/
theorem xcC_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec F S31x16 .f32) (x1 : Vec F S128x1 .i32) (x2 : Vec F S512x2048 .bf16) (x3 : Vec F S3968x128 .bf16) (x4 : Vec F S3968x2048 .fp8e4m3) (xs0 : Vec F S16x128 .i32) (xs2 : Vec F S2x512x2048 .bf16) (xs3 : Vec F S3968x2048 .bf16) (f : BufTy.Contents (Elt F) arg11.view.ty) (r : Fin 512) (k : Fin 2048) :
    arg11.view.read (Elt F) (arg11.view.writes (Elt F) f (runC c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).2.2.2.1) (ix3 0 r k) = xcG x2 xs0 (ix2 r k) := by
  rw [xcC]
  exact xc_out _ _ _ _ _ arg9.view (harg9.unread xs0) _ _ (harg3.read_unread _) (harg9.read_unread _) r k

/-- The product. -/
theorem yB_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : ¬cond0_4 i) (hl0 : k0_off51 i = ![1, 0, 0]) (hl1 : k0_off52 i = ![1, 0, 0]) (hl2 : k0_off53 i = ![1, 0, 128]) (hl3 : k0_off54 i = ![1, 0, 256]) (hl4 : k0_off55 i = ![1, 0, 384]) (hl5 : k0_off56 i = ![1, 0, 512]) (hl6 : k0_off57 i = ![1, 0, 640]) (hl7 : k0_off58 i = ![1, 0, 768]) (hl8 : k0_off59 i = ![1, 0, 896]) (hl9 : k0_off60 i = ![1, 0, 1024]) (hl10 : k0_off61 i = ![1, 0, 1152]) (hl11 : k0_off62 i = ![1, 0, 1280]) (hl12 : k0_off63 i = ![1, 0, 1408]) (hl13 : k0_off64 i = ![1, 0, 1536]) (hl14 : k0_off65 i = ![1, 0, 1664]) (hl15 : k0_off66 i = ![1, 0, 1792]) (hl16 : k0_off67 i = ![1, 0, 1920]) (hl17 : k0_off68 i = ![0, 0, 0])
    (x0 : Vec Ideal S31x16 .f32) (x1 : Vec Ideal S128x1 .i32) (x2 : Vec Ideal S512x2048 .bf16) (x3 : Vec Ideal S3968x128 .bf16) (x4 : Vec Ideal S3968x2048 .fp8e4m3) (xs0 : Vec Ideal S16x128 .i32) (xs2 : Vec Ideal S2x512x2048 .bf16) (xs3 : Vec Ideal S3968x2048 .bf16) (f : BufTy.Contents (Elt Ideal) arg6.view.ty) :
    arg6.view.read (Elt Ideal) (arg6.view.writes (Elt Ideal) f (runB (F := Ideal) c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).1) = yG (slotOf 0 xs2) xs3 := by
  rw [yB]
  have e := slot_read 0 (k0_off68 i) (k0_off68_inb i hc2) hl17 arg11.view (harg11.unread xs2)
  rw [harg11.read_unread] at e
  rw [e]
  refine Eq.trans ?_ (y_read arg6.view f (slotOf 0 xs2) xs3)
  obtain ⟨f12, h12⟩ : ∃ f12, f12 = harg12.unread xs3 := ⟨_, rfl⟩
  have h := harg12.read_unread xs3
  rw [← h12] at h ⊢
  subst h
  rfl

/-- The product. -/
theorem yC_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : cond0_2 i) (hc3 : ¬cond0_3 i) (hc4 : cond0_4 i) (hl0 : k0_off51 i = ![0, 0, 0]) (hl1 : k0_off52 i = ![0, 0, 0]) (hl2 : k0_off53 i = ![0, 0, 128]) (hl3 : k0_off54 i = ![0, 0, 256]) (hl4 : k0_off55 i = ![0, 0, 384]) (hl5 : k0_off56 i = ![0, 0, 512]) (hl6 : k0_off57 i = ![0, 0, 640]) (hl7 : k0_off58 i = ![0, 0, 768]) (hl8 : k0_off59 i = ![0, 0, 896]) (hl9 : k0_off60 i = ![0, 0, 1024]) (hl10 : k0_off61 i = ![0, 0, 1152]) (hl11 : k0_off62 i = ![0, 0, 1280]) (hl12 : k0_off63 i = ![0, 0, 1408]) (hl13 : k0_off64 i = ![0, 0, 1536]) (hl14 : k0_off65 i = ![0, 0, 1664]) (hl15 : k0_off66 i = ![0, 0, 1792]) (hl16 : k0_off67 i = ![0, 0, 1920]) (hl17 : k0_off68 i = ![1, 0, 0])
    (x0 : Vec Ideal S31x16 .f32) (x1 : Vec Ideal S128x1 .i32) (x2 : Vec Ideal S512x2048 .bf16) (x3 : Vec Ideal S3968x128 .bf16) (x4 : Vec Ideal S3968x2048 .fp8e4m3) (xs0 : Vec Ideal S16x128 .i32) (xs2 : Vec Ideal S2x512x2048 .bf16) (xs3 : Vec Ideal S3968x2048 .bf16) (f : BufTy.Contents (Elt Ideal) arg6.view.ty) :
    arg6.view.read (Elt Ideal) (arg6.view.writes (Elt Ideal) f (runC (F := Ideal) c i arg1 harg1 arg2 harg2 arg3 harg3 arg4 harg4 arg5 harg5 arg6 harg6 arg7 harg7 arg8 harg8 arg9 harg9 arg10 harg10 arg11 harg11 arg12 harg12 hc0 hc1 hc2 hc3 hc4 hl0 hl1 hl2 hl3 hl4 hl5 hl6 hl7 hl8 hl9 hl10 hl11 hl12 hl13 hl14 hl15 hl16 hl17 x0 x1 x2 x3 x4 xs0 xs2 xs3).1) = yG (slotOf 1 xs2) xs3 := by
  rw [yC]
  have e := slot_read 1 (k0_off68 i) (k0_off68_inb i hc2) hl17 arg11.view (harg11.unread xs2)
  rw [harg11.read_unread] at e
  rw [e]
  refine Eq.trans ?_ (y_read arg6.view f (slotOf 1 xs2) xs3)
  obtain ⟨f12, h12⟩ : ∃ f12, f12 = harg12.unread xs3 := ⟨_, rfl⟩
  have h := harg12.read_unread xs3
  rw [← h12] at h ⊢
  subst h
  rfl

/-- The product. -/
theorem yD_fin (c : Dev nD) (i : grid0.Coords) (arg1 : Memref sig .tc .smem S31x16 .f32) (harg1 : arg1.IsWhole) (arg2 : Memref sig .tc .vmem S128x1 .i32) (harg2 : arg2.IsWhole) (arg3 : Memref sig .tc .vmem S512x2048 .bf16) (harg3 : arg3.IsWhole) (arg4 : Memref sig .tc .vmem S3968x128 .bf16) (harg4 : arg4.IsWhole) (arg5 : Memref sig .tc .vmem S3968x2048 .fp8e4m3) (harg5 : arg5.IsWhole) (arg6 : Memref sig .tc .vmem S512x3968 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S16x128 .i32) (harg9 : arg9.IsWhole) (arg10 : Memref sig .tc .vmem S16x128 .i32) (harg10 : arg10.IsWhole) (arg11 : Memref sig .tc .vmem S2x512x2048 .bf16) (harg11 : arg11.IsWhole) (arg12 : Memref sig .tc .vmem S3968x2048 .bf16) (harg12 : arg12.IsWhole) (hc0 : ¬cond0_0 i) (hc1 : ¬cond0_1 i) (hc2 : ¬cond0_2 i) (hc3 : cond0_3 i) (hl0 : k0_off69 i = ![1, 0, 0])
    (x0 : Vec Ideal S31x16 .f32) (x1 : Vec Ideal S128x1 .i32) (x2 : Vec Ideal S512x2048 .bf16) (x3 : Vec Ideal S3968x128 .bf16) (x4 : Vec Ideal S3968x2048 .fp8e4m3) (xs0 : Vec Ideal S16x128 .i32) (xs2 : Vec Ideal S2x512x2048 .bf16) (xs3 : Vec Ideal S3968x2048 .bf16) (x6 : Vec Ideal S512x2048 .fp8e4m3) (x7 : Vec Ideal S512x16 .f32) (f : BufTy.Contents (Elt Ideal) arg6.view.ty) :
    arg6.view.read (Elt Ideal) (arg6.view.writes (Elt Ideal) f (runD (F := Ideal) c i arg1 harg1 arg2 harg2 arg3 harg3 arg4 harg4 arg5 harg5 arg6 harg6 arg7 harg7 arg8 harg8 arg9 harg9 arg10 harg10 arg11 harg11 arg12 harg12 hc0 hc1 hc2 hc3 hl0 x0 x1 x2 x3 x4 xs0 xs2 xs3 x6 x7).1) = yG (slotOf 1 xs2) xs3 := by
  rw [yD]
  have e := slot_read 1 (k0_off69 i) (k0_off69_inb i hc3) hl0 arg11.view (harg11.unread xs2)
  rw [harg11.read_unread] at e
  rw [e]
  refine Eq.trans ?_ (y_read arg6.view f (slotOf 1 xs2) xs3)
  obtain ⟨f12, h12⟩ : ∃ f12, f12 = harg12.unread xs3 := ⟨_, rfl⟩
  have h := harg12.read_unread xs3
  rw [← h12] at h ⊢
  subst h
  rfl

end Cert.KernelIdeal.Gen

end
-- ==== Proof.Body.lean ====
/- The idealized kernel's run: the contents every buffer holds at every grid point, the body against them, the launch. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Fin
public import Idealize.ShloMosaic.Lib.Claim
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx

/-! ## The contents the run leaves, named -/

/-- A point by its number, the last tile from point 5 on. -/
def pt (n : ℕ) : Fin cfg0.N := ⟨min n 5, by have : cfg0.N = 7 := N_0; omega⟩
/-- The last point. -/
def t6 : Fin cfg0.N := ⟨6, by decide⟩
/-- The slot a point's tile goes to. -/
def sl (n : ℕ) : Fin 2 := ⟨n % 2, by omega⟩
/-- The keep masks. -/
def KEEP (c : Dev nD) : Vec Ideal S16x128 .i32 := keepG (F := Ideal) (iblk m c 1 (pt 0))
/-- The rows the outlier columns take. -/
def POS (c : Dev nD) : Vec Ideal S16x128 .i32 := posG (F := Ideal) (iblk m c 1 (pt 0))
/-- The combined weights. -/
def WC (c : Dev nD) : Vec Ideal S3968x2048 .bf16 := wcG (F := Ideal) (iblk m c 0 (pt 0)) (iblk m c 3 (pt 0)) (iblk m c 4 (pt 0)) (KEEP m c) (POS m c)
/-- A tile of activations. -/
def XT (c : Dev nD) (n : ℕ) : Vec Ideal S512x2048 .bf16 := iblk m c 2 (pt n)
/-- Its combined activations. -/
def XC (c : Dev nD) (n : ℕ) : Vec Ideal S512x2048 .bf16 := xcG (F := Ideal) (XT m c n) (KEEP m c)
/-- Its codes. -/
def CT (c : Dev nD) (n : ℕ) : Vec Ideal S512x2048 .fp8e4m3 := codesG (F := Ideal) (XT m c n) (KEEP m c)
/-- Its scales. -/
def ST (c : Dev nD) (n : ℕ) : Vec Ideal S512x16 .f32 := scaleG (F := Ideal) (XT m c n) (KEEP m c)
/-- The product the body forms at a point: that of the tile before. -/
def YT (c : Dev nD) (n : ℕ) : Vec Ideal S512x3968 .bf16 := yG (XC m c (n - 1)) (WC m c)

/-- The invariant after point `n`: masks and combined weights built, and while there is a tile to multiply, its slot at its combined
    activations. -/
def PhiAt (c : Dev nD) (n : ℕ) : sProp 𝕄 :=
  iprop(iprop(owns (c : Thread nD τ) scM0_0 fullShare (KEEP m c) ∗ (∃ d, owns (c : Thread nD τ) scM0_1 fullShare d) ∗ (∃ d, ⌜n < 6 → slotOf (sl n) d = XC m c n⌝ ∗ owns (c : Thread nD τ) scM0_2 fullShare d) ∗ owns (c : Thread nD τ) scM0_3 fullShare (WC m c)) ∗ (∃ r, prngReg c r))

/-- The invariant before point `n`. -/
def PhiS (c : Dev nD) : (n : ℕ) → n ≤ cfg0.N → sProp 𝕄
  | 0, _ => Pipeline.ΦA spec0 c
  | n + 1, _ => PhiAt m c n

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = PhiAt m c (n - 1) := by
  cases n with
  | zero => exact absurd rfl hz
  | succ n => rfl

/-- The proof data: what the region finds, what the body leaves in each buffer, the invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => YT m c t.val
    | ⟨6, _⟩ => CT m c t.val
    | ⟨7, _⟩ => ST m c t.val
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_5 (c : Dev nD) (t : Fin cfg0.N) : (dats m 0 c).after 5 t = YT m c t.val := by dsimp only [dats]
theorem after0_6 (c : Dev nD) (t : Fin cfg0.N) : (dats m 0 c).after 6 t = CT m c t.val := by dsimp only [dats]
theorem after0_7 (c : Dev nD) (t : Fin cfg0.N) : (dats m 0 c).after 7 t = ST m c t.val := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the outputs are stored and written back -/

theorem idle5_A : ∀ t : Fin cfg0.N, t.val = 0 → cfg0.idle 5 (grid0.coords t) = true := by decide +kernel
theorem idle5_L : ∀ t : Fin cfg0.N, t.val ≠ 0 → cfg0.idle 5 (grid0.coords t) = false := by decide +kernel
theorem flush5_A : ∀ t : Fin cfg0.N, t.val = 0 → (cfg0.win 5).flush t = false := by decide +kernel
theorem fetch5 : ∀ t : Fin cfg0.N, (cfg0.win 5).fetch t = false := by decide +kernel
theorem idle6_L : ∀ t : Fin cfg0.N, t.val ≠ 6 → cfg0.idle 6 (grid0.coords t) = false := by decide +kernel
theorem idle6_D : ∀ t : Fin cfg0.N, t.val = 6 → cfg0.idle 6 (grid0.coords t) = true := by decide +kernel
theorem flush6_D : ∀ t : Fin cfg0.N, t.val = 6 → (cfg0.win 6).flush t = true := by decide +kernel
theorem flush6_5 : ∀ t : Fin cfg0.N, t.val = 5 → (cfg0.win 6).flush t = false := by decide +kernel
theorem fetch6 : ∀ t : Fin cfg0.N, (cfg0.win 6).fetch t = false := by decide +kernel
theorem idle7_L : ∀ t : Fin cfg0.N, t.val ≠ 6 → cfg0.idle 7 (grid0.coords t) = false := by decide +kernel
theorem idle7_D : ∀ t : Fin cfg0.N, t.val = 6 → cfg0.idle 7 (grid0.coords t) = true := by decide +kernel
theorem flush7_D : ∀ t : Fin cfg0.N, t.val = 6 → (cfg0.win 7).flush t = true := by decide +kernel
theorem flush7_5 : ∀ t : Fin cfg0.N, t.val = 5 → (cfg0.win 7).flush t = false := by decide +kernel
theorem fetch7 : ∀ t : Fin cfg0.N, (cfg0.win 7).fetch t = false := by decide +kernel

theorem before5_A (c : Dev nD) (t : Fin cfg0.N) (h : t.val = 0) (d) : (dats m 0 c).before 5 t d = d := by
  unfold Dat.before; rw [fetch5 t, if_neg Bool.false_ne_true, if_pos h]

theorem leaves5_A (c : Dev nD) (t : Fin cfg0.N) (h : t.val = 0) :
    (dats m 0 c).leavesExact 5 t = iprop(∃ d, owns (c : Thread nD τ) (ms0_5 t) fullShare d) := by
  unfold Dat.leavesExact
  rw [idle5_A t h, flush5_A t h]
  simp only [before5_A m c t h]
  rfl

theorem leaves5_L (c : Dev nD) (t : Fin cfg0.N) (h : t.val ≠ 0) :
    (dats m 0 c).leavesExact 5 t = owns (c : Thread nD τ) (ms0_5 t) fullShare (YT m c t.val) := by
  unfold Dat.leavesExact
  rw [idle5_L t h, after0_5]

theorem leaves6_L (c : Dev nD) (t : Fin cfg0.N) (h : t.val ≠ 6) :
    (dats m 0 c).leavesExact 6 t = owns (c : Thread nD τ) (ms0_6 t) fullShare (CT m c t.val) := by
  unfold Dat.leavesExact
  rw [idle6_L t h, after0_6]

theorem leaves6_D (c : Dev nD) (t : Fin cfg0.N) (h : t.val = 6) :
    (dats m 0 c).leavesExact 6 t = owns (c : Thread nD τ) (ms0_6 t) fullShare (CT m c 5) := by
  unfold Dat.leavesExact
  rw [idle6_D t h, flush6_D t h, after0_6, h]
  rfl

theorem before6_D (c : Dev nD) (t : Fin cfg0.N) (h : t.val = 6) (d) : (dats m 0 c).before 6 t d = CT m c 5 := by
  obtain rfl : t = t6 := Fin.ext h
  rw [(dats m 0 c).before_of_pos 6 _ (by decide) (fetch6 _), if_neg (by rw [flush6_5 _ rfl]; exact Bool.false_ne_true)]
  unfold Dat.left
  rw [idle6_L _ (by decide)]
  show (dats m 0 c).after 6 _ = _
  rw [after0_6]
  rfl

theorem leaves7_L (c : Dev nD) (t : Fin cfg0.N) (h : t.val ≠ 6) :
    (dats m 0 c).leavesExact 7 t = owns (c : Thread nD τ) (ms0_7 t) fullShare (ST m c t.val) := by
  unfold Dat.leavesExact
  rw [idle7_L t h, after0_7]

theorem leaves7_D (c : Dev nD) (t : Fin cfg0.N) (h : t.val = 6) :
    (dats m 0 c).leavesExact 7 t = owns (c : Thread nD τ) (ms0_7 t) fullShare (ST m c 5) := by
  unfold Dat.leavesExact
  rw [idle7_D t h, flush7_D t h, after0_7, h]
  rfl

theorem before7_D (c : Dev nD) (t : Fin cfg0.N) (h : t.val = 6) (d) : (dats m 0 c).before 7 t d = ST m c 5 := by
  obtain rfl : t = t6 := Fin.ext h
  rw [(dats m 0 c).before_of_pos 7 _ (by decide) (fetch7 _), if_neg (by rw [flush7_5 _ rfl]; exact Bool.false_ne_true)]
  unfold Dat.left
  rw [idle7_L _ (by decide)]
  show (dats m 0 c).after 7 _ = _
  rw [after0_7]
  rfl

/-- A buffer written by pieces that read `G` is held at `G`. -/
theorem owns_of_writes (c : Dev nD) {sp : Space} {s : Shape} {e : EltTy} (a : Memref sig .tc sp s e) (f : a.view.ty.Contents (Elt Ideal))
    (L : List (View.Piece (Elt Ideal) s e)) (G : s.Idx → Elt Ideal e) (h : a.view.read (Elt Ideal) (a.view.writes (Elt Ideal) f L) = G) :
    (a.view.loc (c : Thread nD τ) ↦[a.view.set]{fullShare} a.view.writes (Elt Ideal) f L) ⊢ (owns (c : Thread nD τ) a fullShare G : sProp 𝕄) := by
  unfold owns
  iintro H
  iexists _
  isplitr
  · ipureintro; exact h
  iexact H

/-! ## The body -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The first point. -/
theorem sound_A (c : Dev nD) (t : Fin cfg0.N) (hz : t.val = 0) :
    bodyPre m c t ⊢ wp frame (wpE (defs₀ (F := Ideal)) Variants.none c none) Set.univ (bodyAt0 t) (fun _ => bodyPost m c t) := by
  have h0 : t.val % 7 = 0 := by omega
  have h1 : t.val % 7 = 0 := h0
  have h2 : ¬(1 ≤ t.val % 7 ∧ t.val % 7 ≤ 5) := by omega
  have h3 : ¬t.val % 7 = 6 := by omega
  obtain rfl : t = pt 0 := Fin.ext hz
  unfold bodyPre bodyPost bodyAt0
  simp only [before0_0, before0_1, before0_2, before0_3, before0_4]
  rw [show (dats m 0 c).owesAt () (Fin.succ (pt 0)) = (dats m 0 c).owesAt () (Fin.castSucc (pt 0)) from rfl]
  rw [show (dats m 0 c).Φ (Fin.succ (pt 0)) = PhiAt m c (Fin.val (pt 0)) from rfl]
  unfold PhiAt
  rw [show (dats m 0 c).leavesExact 0 (pt 0) = owns (c : Thread nD τ) (ms0_0 (pt 0)) fullShare ((dats m 0 c).after 0 (pt 0)) from by
    unfold Dat.leavesExact; rw [liveAt0_0 (pt 0)], after0_0]
  rw [show (dats m 0 c).leavesExact 1 (pt 0) = owns (c : Thread nD τ) (ms0_1 (pt 0)) fullShare ((dats m 0 c).after 1 (pt 0)) from by
    unfold Dat.leavesExact; rw [liveAt0_1 (pt 0)], after0_1]
  rw [show (dats m 0 c).leavesExact 2 (pt 0) = owns (c : Thread nD τ) (ms0_2 (pt 0)) fullShare ((dats m 0 c).after 2 (pt 0)) from by
    unfold Dat.leavesExact; rw [liveAt0_2 (pt 0)], after0_2]
  rw [show (dats m 0 c).leavesExact 3 (pt 0) = owns (c : Thread nD τ) (ms0_3 (pt 0)) fullShare ((dats m 0 c).after 3 (pt 0)) from by
    unfold Dat.leavesExact; rw [liveAt0_3 (pt 0)], after0_3]
  rw [show (dats m 0 c).leavesExact 4 (pt 0) = owns (c : Thread nD τ) (ms0_4 (pt 0)) fullShare ((dats m 0 c).after 4 (pt 0)) from by
    unfold Dat.leavesExact; rw [liveAt0_4 (pt 0)], after0_4]
  rw [leaves5_A m c (pt 0) rfl, leaves6_L m c (pt 0) (by decide), leaves7_L m c (pt 0) (by decide)]
  rw [PhiS_castSucc m c (pt 0), PhiS_zero m c (pt 0).val _ rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA (F := Ideal) c (grid0.coords (pt 0)) _ _ _ _ _ _ _ _ _ _ _ _ _ _ _ _ _ _ _ _ _ _ _ _ ((hcond0_0 (pt 0)).mpr h0) ((hcond0_1 (pt 0)).mpr h1) (fun h => h2 ((hcond0_2 (pt 0)).mp h)) (fun h => h3 ((hcond0_3 (pt 0)).mp h)) (hoff0_k0_off34_c1 (pt 0) h1) (hoff0_k0_off35_c1 (pt 0) h1) (hoff0_k0_off36_c1 (pt 0) h1) (hoff0_k0_off37_c1 (pt 0) h1) (hoff0_k0_off38_c1 (pt 0) h1) (hoff0_k0_off39_c1 (pt 0) h1) (hoff0_k0_off40_c1 (pt 0) h1) (hoff0_k0_off41_c1 (pt 0) h1) (hoff0_k0_off42_c1 (pt 0) h1) (hoff0_k0_off43_c1 (pt 0) h1) (hoff0_k0_off44_c1 (pt 0) h1) (hoff0_k0_off45_c1 (pt 0) h1) (hoff0_k0_off46_c1 (pt 0) h1) (hoff0_k0_off47_c1 (pt 0) h1) (hoff0_k0_off48_c1 (pt 0) h1) (hoff0_k0_off49_c1 (pt 0) h1) (hoff0_k0_off50_c1 (pt 0) h1) (iblk m c 0 (pt 0)) (iblk m c 1 (pt 0)) (iblk m c 2 (pt 0)) (iblk m c 3 (pt 0)) (iblk m c 4 (pt 0))).2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, ⟨%e5, H5⟩, ⟨%f6, H6⟩, ⟨%f7, H7⟩, ⟨%fs0, HS0⟩, ⟨%fs1, HS1⟩, ⟨%fs2, HS2⟩, ⟨%fs3, HS3⟩⟩
  isplitl [HS0 HS1 HS2 HS3 Hg]
  · isplitl [HS0 HS1 HS2 HS3]
    · isplitl [HS0]
      · iapply (owns_of_writes c _ _ _ (KEEP m c) (keepA_fin _ _ _ _ _ _ _ _ _ _ _ _ _ _ _ _ _ _ _ _ _ _ _ _ _ _ _ _ _ _ _ _ _ _ _ _ _ _ _ _ _ _ _ _ _ _ _ _ _ _ _ _ _))
        iexact HS0
      isplitl [HS1]
      · iexists _
        iapply (owns_of_writes c _ _ _ _ rfl)
        iexact HS1
      isplitl [HS2]
      · iexists _
        isplitr
        swap
        · iapply (owns_of_writes c _ _ _ _ rfl)
          iexact HS2
        · ipureintro
          intro _
          funext j
          rw [eq_ix2 j]
          exact xcA_fin _ _ _ _ _ _ _ _ _ _ _ _ _ _ _ _ _ _ _ _ _ _ _ _ _ _ _ _ _ _ _ _ _ _ _ _ _ _ _ _ _ _ _ _ _ _ _ _ _ _ _ _ _ _ _
      iapply (owns_of_writes c _ _ _ (WC m c) (wcA_fin _ _ _ _ _ _ _ _ _ _ _ _ _ _ _ _ _ _ _ _ _ _ _ _ _ _ _ _ _ _ _ _ _ _ _ _ _ _ _ _ _ _ _ _ _ _ _ _ _ _ _ _ _))
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists e5; iexact H5
  isplitl [H6]
  · iapply (owns_of_writes c _ _ _ (CT m c 0) (codesA_fin _ _ _ _ _ _ _ _ _ _ _ _ _ _ _ _ _ _ _ _ _ _ _ _ _ _ _ _ _ _ _ _ _ _ _ _ _ _ _ _ _ _ _ _ _ _ _ _ _ _ _ _ _))
    iexact H6
  iapply (owns_of_writes c _ _ _ (ST m c 0) (scaleA_fin _ _ _ _ _ _ _ _ _ _ _ _ _ _ _ _ _ _ _ _ _ _ _ _ _ _ _ _ _ _ _ _ _ _ _ _ _ _ _ _ _ _ _ _ _ _ _ _ _ _ _ _ _))
  iexact H7

set_option maxHeartbeats 8000000 in
/-- A middle point whose tile goes to slot 1. -/
theorem sound_B (c : Dev nD) (t : Fin cfg0.N) (h2 : 1 ≤ t.val % 7 ∧ t.val % 7 ≤ 5) (h4 : ¬t.val % 2 = 0) :
    bodyPre m c t ⊢ wp frame (wpE (defs₀ (F := Ideal)) Variants.none c none) Set.univ (bodyAt0 t) (fun _ => bodyPost m c t) := by
  have hN : t.val < 7 := lt_of_lt_of_eq t.isLt (show cfg0.N = 7 from N_0)
  have h0 : ¬t.val % 7 = 0 := by omega
  have h1 : ¬t.val % 7 = 0 := h0
  have h3 : ¬t.val % 7 = 6 := by omega
  have hz : t.val ≠ 0 := by omega
  have hp : pt t.val = t := Fin.ext (by show min t.val 5 = t.val; omega)
  have hs : sl t.val = 1 := Fin.ext (by show t.val % 2 = 1; omega)
  have hr : sl (t.val - 1) = 0 := Fin.ext (by show (t.val - 1) % 2 = 0; omega)
  unfold bodyPre bodyPost bodyAt0
  simp only [before0_0, before0_1, before0_2, before0_3, before0_4]
  rw [show (dats m 0 c).owesAt () (Fin.succ t) = (dats m 0 c).owesAt () (Fin.castSucc t) from rfl]
  rw [show (dats m 0 c).Φ (Fin.succ t) = PhiAt m c (Fin.val t) from rfl]
  unfold PhiAt
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [leaves5_L m c t hz, leaves6_L m c t (by omega), leaves7_L m c t (by omega)]
  rw [PhiS_castSucc m c t, PhiS_pos m c _ _ hz]
  unfold PhiAt
  iintro ⟨⟨⟨HS0, HS1, ⟨%dx, %hx, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hx' : slotOf 0 dx = XC m c (t.val - 1) := by rw [← hr]; exact hx (by omega)
  iapply ((runB (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (hoff0_k0_off51_n4 t h4) (hoff0_k0_off52_n4 t h4) (hoff0_k0_off53_n4 t h4) (hoff0_k0_off54_n4 t h4) (hoff0_k0_off55_n4 t h4) (hoff0_k0_off56_n4 t h4) (hoff0_k0_off57_n4 t h4) (hoff0_k0_off58_n4 t h4) (hoff0_k0_off59_n4 t h4) (hoff0_k0_off60_n4 t h4) (hoff0_k0_off61_n4 t h4) (hoff0_k0_off62_n4 t h4) (hoff0_k0_off63_n4 t h4) (hoff0_k0_off64_n4 t h4) (hoff0_k0_off65_n4 t h4) (hoff0_k0_off66_n4 t h4) (hoff0_k0_off67_n4 t h4) (hoff0_k0_off68_n4 t h4) (iblk m c 0 t) (iblk m c 1 t) (iblk m c 2 t) (iblk m c 3 t) (iblk m c 4 t) (KEEP m c) dx (WC m c)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, ⟨%f5, H5⟩, ⟨%f6, H6⟩, ⟨%f7, H7⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexists _
        isplitr
        swap
        · iapply (owns_of_writes c _ _ _ _ rfl)
          iexact HS2
        · ipureintro
          intro _
          funext j
          obtain ⟨r, k, rfl⟩ : ∃ r k, j = ix2 r k := ⟨j 0, j 1, eq_ix2 j⟩
          rw [hs]
          refine (xcB_fin _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
          unfold XC XT
          rw [hp]
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (owns_of_writes c _ _ _ (YT m c t.val) ((yB_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold YT; rw [hx'])))
    iexact H5
  isplitl [H6]
  · iapply (owns_of_writes c _ _ _ (CT m c t.val) ((codesB_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold CT XT; rw [hp])))
    iexact H6
  iapply (owns_of_writes c _ _ _ (ST m c t.val) ((scaleB_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold ST XT; rw [hp])))
  iexact H7

set_option maxHeartbeats 8000000 in
/-- A middle point whose tile goes to slot 0. -/
theorem sound_C (c : Dev nD) (t : Fin cfg0.N) (h2 : 1 ≤ t.val % 7 ∧ t.val % 7 ≤ 5) (h4 : t.val % 2 = 0) :
    bodyPre m c t ⊢ wp frame (wpE (defs₀ (F := Ideal)) Variants.none c none) Set.univ (bodyAt0 t) (fun _ => bodyPost m c t) := by
  have hN : t.val < 7 := lt_of_lt_of_eq t.isLt (show cfg0.N = 7 from N_0)
  have h0 : ¬t.val % 7 = 0 := by omega
  have h1 : ¬t.val % 7 = 0 := h0
  have h3 : ¬t.val % 7 = 6 := by omega
  have hz : t.val ≠ 0 := by omega
  have hp : pt t.val = t := Fin.ext (by show min t.val 5 = t.val; omega)
  have hs : sl t.val = 0 := Fin.ext (by show t.val % 2 = 0; omega)
  have hr : sl (t.val - 1) = 1 := Fin.ext (by show (t.val - 1) % 2 = 1; omega)
  unfold bodyPre bodyPost bodyAt0
  simp only [before0_0, before0_1, before0_2, before0_3, before0_4]
  rw [show (dats m 0 c).owesAt () (Fin.succ t) = (dats m 0 c).owesAt () (Fin.castSucc t) from rfl]
  rw [show (dats m 0 c).Φ (Fin.succ t) = PhiAt m c (Fin.val t) from rfl]
  unfold PhiAt
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [leaves5_L m c t hz, leaves6_L m c t (by omega), leaves7_L m c t (by omega)]
  rw [PhiS_castSucc m c t, PhiS_pos m c _ _ hz]
  unfold PhiAt
  iintro ⟨⟨⟨HS0, HS1, ⟨%dx, %hx, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hx' : slotOf 1 dx = XC m c (t.val - 1) := by rw [← hr]; exact hx (by omega)
  iapply ((runC (F := Ideal) c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) ((hcond0_4 t).mpr h4) (hoff0_k0_off51_c4 t h4) (hoff0_k0_off52_c4 t h4) (hoff0_k0_off53_c4 t h4) (hoff0_k0_off54_c4 t h4) (hoff0_k0_off55_c4 t h4) (hoff0_k0_off56_c4 t h4) (hoff0_k0_off57_c4 t h4) (hoff0_k0_off58_c4 t h4) (hoff0_k0_off59_c4 t h4) (hoff0_k0_off60_c4 t h4) (hoff0_k0_off61_c4 t h4) (hoff0_k0_off62_c4 t h4) (hoff0_k0_off63_c4 t h4) (hoff0_k0_off64_c4 t h4) (hoff0_k0_off65_c4 t h4) (hoff0_k0_off66_c4 t h4) (hoff0_k0_off67_c4 t h4) (hoff0_k0_off68_c4 t h4) (iblk m c 0 t) (iblk m c 1 t) (iblk m c 2 t) (iblk m c 3 t) (iblk m c 4 t) (KEEP m c) dx (WC m c)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, ⟨%f5, H5⟩, ⟨%f6, H6⟩, ⟨%f7, H7⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexists _
        isplitr
        swap
        · iapply (owns_of_writes c _ _ _ _ rfl)
          iexact HS2
        · ipureintro
          intro _
          funext j
          obtain ⟨r, k, rfl⟩ : ∃ r k, j = ix2 r k := ⟨j 0, j 1, eq_ix2 j⟩
          rw [hs]
          refine (xcC_fin _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
          unfold XC XT
          rw [hp]
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (owns_of_writes c _ _ _ (YT m c t.val) ((yC_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold YT; rw [hx'])))
    iexact H5
  isplitl [H6]
  · iapply (owns_of_writes c _ _ _ (CT m c t.val) ((codesC_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold CT XT; rw [hp])))
    iexact H6
  iapply (owns_of_writes c _ _ _ (ST m c t.val) ((scaleC_fin _ _ _ _ _ _ _ _ _ _ _ _ _ _ _ _ _ _ _ _ _ _ _ _ _ _ _ _ _ _ _ _ _ _ _ _ _ _ _ _ _ _ _ _ _ _ _ _ _ _ _ _ _ _ _ _ _ _).trans (by unfold ST XT; rw [hp])))
  iexact H7

set_option maxHeartbeats 8000000 in
/-- The last point. -/
theorem sound_D (c : Dev nD) (t : Fin cfg0.N) (h3 : t.val % 7 = 6) :
    bodyPre m c t ⊢ wp frame (wpE (defs₀ (F := Ideal)) Variants.none c none) Set.univ (bodyAt0 t) (fun _ => bodyPost m c t) := by
  have hN : t.val < 7 := lt_of_lt_of_eq t.isLt (show cfg0.N = 7 from N_0)
  have h0 : ¬t.val % 7 = 0 := by omega
  have h1 : ¬t.val % 7 = 0 := h0
  have h2 : ¬(1 ≤ t.val % 7 ∧ t.val % 7 ≤ 5) := by omega
  have hz : t.val ≠ 0 := by omega
  have h6 : t.val = 6 := by omega
  have hr : sl (t.val - 1) = 1 := Fin.ext (by show (t.val - 1) % 2 = 1; omega)
  unfold bodyPre bodyPost bodyAt0
  simp only [before0_0, before0_1, before0_2, before0_3, before0_4]
  rw [show (dats m 0 c).owesAt () (Fin.succ t) = (dats m 0 c).owesAt () (Fin.castSucc t) from rfl]
  rw [show (dats m 0 c).Φ (Fin.succ t) = PhiAt m c (Fin.val t) from rfl]
  unfold PhiAt
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [leaves5_L m c t hz, leaves6_D m c t h6, leaves7_D m c t h6]
  simp only [before6_D m c t h6, before7_D m c t h6]
  rw [PhiS_castSucc m c t, PhiS_pos m c _ _ hz]
  unfold PhiAt
  iintro ⟨⟨⟨HS0, HS1, ⟨%dx, %hx, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hx' : slotOf 1 dx = XC m c (t.val - 1) := by rw [← hr]; exact hx (by omega)
  iapply ((runD (F := Ideal) c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (hoff0_k0_off69_c3 t h3) (iblk m c 0 t) (iblk m c 1 t) (iblk m c 2 t) (iblk m c 3 t) (iblk m c 4 t) (KEEP m c) dx (WC m c) (CT m c 5) (ST m c 5)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, ⟨%f5, H5⟩, H6, H7, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexists dx
        isplitr
        · ipureintro
          intro h; omega
        iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (owns_of_writes c _ _ _ (YT m c t.val) ((yD_fin _ _ _ _ _ _ _ _ _ _ _ _ _ _ _ _ _ _ _ _ _ _ _ _ _ _ _ _ _ _ _ _ _ _ _ _ _ _ _ _ _ _).trans (by unfold YT; rw [hx'])))
    iexact H5
  isplitl [H6]; · iexact H6
  iexact H7

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 7 := lt_of_lt_of_eq t.isLt (show cfg0.N = 7 from N_0)
  by_cases hz : t.val = 0
  · exact sound_A m c t hz
  · by_cases h3 : t.val % 7 = 6
    · exact sound_D m c t h3
    · by_cases h4 : t.val % 2 = 0
      · exact sound_C m c t (by omega) h4
      · exact sound_B m c t (by omega) h4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 7 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA0_eq]
  unfold PhiAt
  iintro ⟨⟨HS0, HS1, ⟨%dx, %hx, HS2⟩, HS3⟩, Hg⟩
  isplitl [HS0 HS1 HS2 HS3]
  · isplitl [HS0]
    · iexists _; iexact HS0
    isplitl [HS1]
    · iexact HS1
    isplitl [HS2]
    · iexists _; iexact HS2
    iexists _; iexact HS3
  iexact Hg

set_option backward.isDefEq.respectTransparency.types false in
/-- The launch. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame, with every semaphore counter back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Expo.lean ====
/- The scale of one block, as numbers: the search that finds a float's exponent field bit by bit, and the power of two the
   reference takes by a logarithm, are one function of the block's largest magnitude over 448. -/
module

public import Idealize.ShloMosaic.PureOps.Ideal
public import Idealize.ShloMosaic.PureOps.IdealRules

@[expose] public section

noncomputable section

namespace Cert.Proof.Expo

open Idealize.ShloMosaic

/-- The float word with exponent field `E`, no sign and no fraction. -/
def ew (E : ℕ) : BitVec 32 := BitVec.ofNat 32 (E * 8388608)

theorem ew_fields : ∀ E : Fin 256, (((ew E.val).extractLsb' 31 1 == 1#1) = false) ∧ ((ew E.val).extractLsb' 23 8).toNat = E.val ∧ ((ew E.val).extractLsb' 0 23).toNat = 0 := by
  decide +kernel

theorem ofBits_ew (E : ℕ) (h1 : 1 ≤ E) (h2 : E ≤ 254) : Ideal.ofBits .f32 (ew E) = (((2 : ℝ) ^ ((E : ℤ) - 127) : ℝ) : EReal) := by
  obtain ⟨a, b, c⟩ := ew_fields ⟨E, by omega⟩
  show Ideal.ieee 8 23 (ew E) = _
  unfold Ideal.ieee
  dsimp only at a b c ⊢
  rw [show (8 + 23 : ℕ) = 31 from rfl, a, b, c, if_neg (by omega), if_neg (by omega)]
  congr 1
  have h : ((E : ℤ) - ((2 : ℤ) ^ (8 - 1) - 1) - (23 : ℕ)) = ((E : ℤ) - 127) - 23 := by norm_num
  rw [h, zpow_sub₀ (by norm_num : (2 : ℝ) ≠ 0) _ 23]
  norm_num
  field_simp

theorem ofBits_ew_top : Ideal.ofBits .f32 (ew 255) = ⊤ := by
  obtain ⟨a, b, c⟩ := ew_fields ⟨255, by omega⟩
  show Ideal.ieee 8 23 (ew 255) = _
  unfold Ideal.ieee
  dsimp only at a b c ⊢
  rw [show (8 + 23 : ℕ) = 31 from rfl, a, b, c]
  norm_num

/-- One step of the search: the bit is set where the value reaches the power it names. -/
def stp (t : EReal) (b ex : BitVec 32) : BitVec 32 :=
  Scalar.select (Ideal.cmp .olt t (Ideal.ofBits .f32 (IntOp.ori ex b))) ex (IntOp.ori ex b)

/-- The exponent field of a value. -/
def exE (t : EReal) : BitVec 32 :=
  stp t 8388608#32 (stp t 16777216#32 (stp t 33554432#32 (stp t 67108864#32 (stp t 134217728#32
    (stp t 268435456#32 (stp t 536870912#32 (stp t 1073741824#32 0#32)))))))

/-- The word the scale has, from the exponent field. -/
def exW (e : BitVec 32) : BitVec 32 :=
  IntOp.addi (Scalar.select (IntOp.cmpi .eq e 0#32) 1056964608#32 e) 8388608#32

/-- The kernel's scale. -/
def kSc (t : EReal) : EReal := Ideal.ofBits .f32 (exW (exE t))
/-- The kernel's inverse of it. -/
def kInv (t : EReal) : EReal := Ideal.ofBits .f32 (IntOp.subi 2130706432#32 (exW (exE t)))

/-- The reference's exponent. -/
def rE (t : EReal) : EReal :=
  Scalar.select (Ideal.cmp .olt t (Ideal.ofBits .f32 0x00800000#32)) (Ideal.ofBits .f32 0x00000000#32)
    (Ideal.liftRound Int.floor (Ideal.div (Ideal.log t) (Ideal.log (Ideal.ofBits .f32 0x40000000#32))) + Ideal.ofBits .f32 0x3F800000#32)
/-- The reference's scale. -/
def rSc (t : EReal) : EReal := Ideal.exp2 (rE t)
/-- The reference's inverse of it. -/
def rInv (t : EReal) : EReal := Ideal.exp2 (Ideal.ofBits .f32 0x00000000#32 - rE t)

theorem cmp_olt (x y : EReal) : Ideal.cmp .olt x y = 1 ↔ x < y := by
  unfold Ideal.cmp
  by_cases h : x < y
  · simp [h]
  · simp [h]

/-- The search's candidates are words of one exponent field, the next bit added. -/
theorem or_ew : ∀ i : Fin 8, ∀ q : Fin 256, q.val % 2 ^ (i.val + 1) = 0 → IntOp.ori (ew q.val) (ew (2 ^ i.val)) = ew (q.val + 2 ^ i.val) ∧ q.val + 2 ^ i.val < 256 := by
  decide +kernel

/-- A step against a threshold: the exponents the value reaches are those up to `s`. -/
theorem stp_ew (t : EReal) (s : ℕ) (hs : ∀ E, 1 ≤ E → E ≤ 255 → (Ideal.ofBits .f32 (ew E) ≤ t ↔ E ≤ s)) (i : Fin 8) (q : ℕ) (hq : q < 256)
    (hm : q % 2 ^ (i.val + 1) = 0) : stp t (ew (2 ^ i.val)) (ew q) = ew (if q + 2 ^ i.val ≤ s then q + 2 ^ i.val else q) := by
  obtain ⟨a, b⟩ := or_ew i ⟨q, hq⟩ hm
  dsimp only at a b
  unfold stp Scalar.select
  rw [a]
  have h2 : 1 ≤ 2 ^ i.val := Nat.one_le_two_pow
  have h := hs (q + 2 ^ i.val) (by omega) (by omega)
  by_cases hc : q + 2 ^ i.val ≤ s
  · rw [if_neg (by rw [cmp_olt]; exact not_lt.mpr (h.mpr hc)), if_pos hc]
  · rw [if_pos (by rw [cmp_olt]; exact not_le.mp (fun hh => hc (h.mp hh))), if_neg hc]

/-- The search finds the threshold. -/
theorem exE_eq (t : EReal) (s : ℕ) (h255 : s ≤ 255) (hs : ∀ E, 1 ≤ E → E ≤ 255 → (Ideal.ofBits .f32 (ew E) ≤ t ↔ E ≤ s)) : exE t = ew s := by
  have st := fun (i : Fin 8) (q : ℕ) hq hm => stp_ew t s hs i q hq hm
  unfold exE
  rw [show (0#32 : BitVec 32) = ew 0 from rfl,
    show (1073741824#32 : BitVec 32) = ew (2 ^ (7 : Fin 8).val) from rfl,
    show (536870912#32 : BitVec 32) = ew (2 ^ (6 : Fin 8).val) from rfl,
    show (268435456#32 : BitVec 32) = ew (2 ^ (5 : Fin 8).val) from rfl,
    show (134217728#32 : BitVec 32) = ew (2 ^ (4 : Fin 8).val) from rfl,
    show (67108864#32 : BitVec 32) = ew (2 ^ (3 : Fin 8).val) from rfl,
    show (33554432#32 : BitVec 32) = ew (2 ^ (2 : Fin 8).val) from rfl,
    show (16777216#32 : BitVec 32) = ew (2 ^ (1 : Fin 8).val) from rfl,
    show (8388608#32 : BitVec 32) = ew (2 ^ (0 : Fin 8).val) from rfl]
  have e7 : ((7 : Fin 8).val) = 7 := rfl
  have e6 : ((6 : Fin 8).val) = 6 := rfl
  have e5 : ((5 : Fin 8).val) = 5 := rfl
  have e4 : ((4 : Fin 8).val) = 4 := rfl
  have e3 : ((3 : Fin 8).val) = 3 := rfl
  have e2 : ((2 : Fin 8).val) = 2 := rfl
  have e1 : ((1 : Fin 8).val) = 1 := rfl
  have e0 : ((0 : Fin 8).val) = 0 := rfl
  have one : ∀ (i : Fin 8) (q : ℕ), q ≤ s → s < q + 2 ^ (i.val + 1) → q % 2 ^ (i.val + 1) = 0 →
      ∃ q', stp t (ew (2 ^ i.val)) (ew q) = ew q' ∧ q' ≤ s ∧ s < q' + 2 ^ i.val ∧ q' % 2 ^ i.val = 0 := by
    intro i q h1 h2 h3
    refine ⟨_, st i q (by omega) h3, ?_⟩
    have hp : 2 ^ (i.val + 1) = 2 * 2 ^ i.val := by rw [pow_succ]; ring
    rw [hp] at h2 h3
    have h3' : q % 2 ^ i.val = 0 := by
      obtain ⟨k, rfl⟩ := Nat.dvd_of_mod_eq_zero h3
      rw [show 2 * 2 ^ i.val * k = 2 ^ i.val * (2 * k) by ring]
      exact Nat.mul_mod_right _ _
    by_cases hc : q + 2 ^ i.val ≤ s
    · rw [if_pos hc]; exact ⟨hc, by omega, by rw [Nat.add_mod_right]; exact h3'⟩
    · rw [if_neg hc]; exact ⟨h1, by omega, h3'⟩
  obtain ⟨q7, r7, a7, b7, c7⟩ := one 7 0 (Nat.zero_le _) (by rw [e7]; omega) (Nat.zero_mod _)
  rw [r7]; rw [e7] at b7 c7
  obtain ⟨q6, r6, a6, b6, c6⟩ := one 6 q7 a7 b7 c7
  rw [r6]; rw [e6] at b6 c6
  obtain ⟨q5, r5, a5, b5, c5⟩ := one 5 q6 a6 b6 c6
  rw [r5]; rw [e5] at b5 c5
  obtain ⟨q4, r4, a4, b4, c4⟩ := one 4 q5 a5 b5 c5
  rw [r4]; rw [e4] at b4 c4
  obtain ⟨q3, r3, a3, b3, c3⟩ := one 3 q4 a4 b4 c4
  rw [r3]; rw [e3] at b3 c3
  obtain ⟨q2, r2, a2, b2, c2⟩ := one 2 q3 a3 b3 c3
  rw [r2]; rw [e2] at b2 c2
  obtain ⟨q1, r1, a1, b1, c1⟩ := one 1 q2 a2 b2 c2
  rw [r1]; rw [e1] at b1 c1
  obtain ⟨q0, r0, a0, b0, c0⟩ := one 0 q1 a1 b1 c1
  rw [r0]; rw [e0] at b0 c0
  exact congrArg ew (by omega)

/-- The scale's word and its inverse's, from a threshold. -/
theorem exW_ew : ∀ s : Fin 247, exW (ew s.val) = ew (if s.val = 0 then 127 else s.val + 1)
    ∧ IntOp.subi 2130706432#32 (exW (ew s.val)) = ew (if s.val = 0 then 127 else 253 - s.val) := by
  decide +kernel

theorem ofBits_one : Ideal.ofBits .f32 0x3F800000#32 = ((1 : ℝ) : EReal) := by
  have h := ofBits_ew 127 (by omega) (by omega)
  rw [show (0x3F800000#32 : BitVec 32) = ew 127 from by decide, h]; norm_num
theorem ofBits_two : Ideal.ofBits .f32 0x40000000#32 = ((2 : ℝ) : EReal) := by
  have h := ofBits_ew 128 (by omega) (by omega)
  rw [show (0x40000000#32 : BitVec 32) = ew 128 from by decide, h]; norm_num
theorem ofBits_tiny : Ideal.ofBits .f32 0x00800000#32 = (((2 : ℝ) ^ (-126 : ℤ) : ℝ) : EReal) := by
  have h := ofBits_ew 1 (by omega) (by omega)
  rw [show (0x00800000#32 : BitVec 32) = ew 1 from by decide, h]; norm_num
theorem ofBits_nil : Ideal.ofBits .f32 0x00000000#32 = ((0 : ℝ) : EReal) := by
  rw [EReal.coe_zero]; exact IdealRules.sign_bit.ideal_zero .f32

/-- A power of two is reached exactly when its exponent is at most the floor of the logarithm. -/
theorem zpow_le_iff (r : ℝ) (hr : 0 < r) (z : ℤ) : (2 : ℝ) ^ z ≤ r ↔ z ≤ ⌊Real.log r / Real.log 2⌋ := by
  have h2 : 0 < Real.log 2 := Real.log_pos (by norm_num)
  rw [Int.le_floor, le_div_iff₀ h2, ← Real.log_zpow, Real.log_le_log_iff (by positivity) hr]

theorem exp2_int (z : ℤ) : Ideal.exp2 ((z : ℝ) : EReal) = (((2 : ℝ) ^ z : ℝ) : EReal) := by
  rw [Ideal.exp2_coe]; exact congrArg _ (Real.rpow_intCast 2 z)

/-- Scale and inverse agree, for every magnitude a block of finite activations can have. -/
theorem sc_eq (r : ℝ) (h0 : 0 ≤ r) (h1 : r < (2 : ℝ) ^ (120 : ℤ)) : kSc (r : EReal) = rSc (r : EReal) ∧ kInv (r : EReal) = rInv (r : EReal) := by
  by_cases ht : r < (2 : ℝ) ^ (-126 : ℤ)
  · have hE : exE (r : EReal) = ew 0 := by
      refine exE_eq _ 0 (by omega) fun E a b => ⟨fun h => ?_, fun h => absurd h (by omega)⟩
      exfalso
      rcases Nat.lt_or_ge E 255 with hl | hl
      · rw [ofBits_ew E a (by omega), EReal.coe_le_coe_iff] at h
        have : (2 : ℝ) ^ (-126 : ℤ) ≤ (2 : ℝ) ^ ((E : ℤ) - 127) := zpow_le_zpow_right₀ (by norm_num) (by omega)
        linarith
      · obtain rfl : E = 255 := by omega
        rw [ofBits_ew_top] at h
        exact absurd (top_le_iff.mp h) (EReal.coe_ne_top r)
    have hr : rE (r : EReal) = (((0 : ℤ) : ℝ) : EReal) := by
      unfold rE Scalar.select
      rw [ofBits_tiny, if_pos (by rw [cmp_olt, EReal.coe_lt_coe_iff]; exact ht), ofBits_nil]; norm_num
    obtain ⟨w1, w2⟩ := exW_ew ⟨0, by omega⟩
    dsimp only at w1 w2
    rw [if_pos rfl] at w1 w2
    unfold kSc kInv rSc rInv
    rw [hE, hr, w2, w1, exp2_int, ofBits_nil, ← EReal.coe_sub, ofBits_ew 127 (by omega) (by omega),
      show (0 : ℝ) - ((0 : ℤ) : ℝ) = ((0 : ℤ) : ℝ) by norm_num, exp2_int]
    norm_num
  · rw [not_lt] at ht
    have hpos : 0 < r := lt_of_lt_of_le (by positivity) ht
    have hle := zpow_le_iff r hpos
    generalize hn : ⌊Real.log r / Real.log 2⌋ = n at hle
    have hn1 : -126 ≤ n := (hle _).mp ht
    have hn2 : n < 120 := by
      by_contra hc
      have := (hle 120).mpr (by omega)
      linarith
    obtain ⟨s, rfl⟩ : ∃ s : ℕ, n = (s : ℤ) - 127 := ⟨(n + 127).toNat, by omega⟩
    have hE : exE (r : EReal) = ew s := by
      refine exE_eq _ s (by omega) fun E a b => ?_
      rcases Nat.lt_or_ge E 255 with hl | hl
      · rw [ofBits_ew E a (by omega), EReal.coe_le_coe_iff, hle]; omega
      · obtain rfl : E = 255 := by omega
        rw [ofBits_ew_top]
        exact ⟨fun h => absurd (top_le_iff.mp h) (EReal.coe_ne_top r), fun h => absurd h (by omega)⟩
    have hlog2 : Real.log 2 ≠ 0 := (Real.log_pos (by norm_num)).ne'
    have hr : rE (r : EReal) = ((((s : ℤ) - 126 : ℤ) : ℝ) : EReal) := by
      unfold rE Scalar.select
      rw [ofBits_tiny, if_neg (by rw [cmp_olt, EReal.coe_lt_coe_iff]; exact not_lt.mpr ht), ofBits_two, ofBits_one, Ideal.log_coe, Ideal.log_coe,
        if_neg (not_le.mpr hpos), if_neg (by norm_num)]
      unfold Ideal.div
      rw [if_neg (by rw [← EReal.coe_zero, EReal.coe_eq_coe_iff]; exact hlog2), ← EReal.coe_inv, ← EReal.coe_mul, Ideal.liftRound_coe,
        ← div_eq_mul_inv, hn, ← EReal.coe_add]
      congr 1
      push_cast; ring
    obtain ⟨w1, w2⟩ := exW_ew ⟨s, by omega⟩
    dsimp only at w1 w2
    unfold kSc kInv rSc rInv
    have hs0 : s ≠ 0 := by omega
    rw [hE, hr, w2, w1, exp2_int, ofBits_nil, ← EReal.coe_sub, if_neg hs0, if_neg hs0, ofBits_ew _ (by omega) (by omega),
      ofBits_ew _ (by omega) (by omega),
      show (0 : ℝ) - (((s : ℤ) - 126 : ℤ) : ℝ) = ((126 - (s : ℤ) : ℤ) : ℝ) by push_cast; ring, exp2_int]
    have x1 : ((s + 1 : ℕ) : ℤ) - 127 = (s : ℤ) - 126 := by push_cast; ring
    have x2 : ((253 - s : ℕ) : ℤ) - 127 = 126 - (s : ℤ) := by omega
    rw [x1, x2]
    exact ⟨rfl, rfl⟩

end Cert.Proof.Expo

end
-- ==== Proof.Shared.lean ====
/- What both programs compute, as numbers: a block's largest magnitude over 448, a clipped code, an outlier column; and readings of
   the layout operations at an index. -/
module

public import proofs.«01_k».proof.Proof.Expo
public import Idealize.ShloMosaic.Lib.ValueIdxCore
public import Idealize.ShloMosaic.Lib.ValueLayout
public import Idealize.ShloMosaic.Lib.ValueLayoutCasts
public import Idealize.ShloMosaic.Lib.Pipeline.Value
public import Idealize.ShloMosaic.Lib.Bf16Pair
public import Idealize.ShloMosaic.Lib.SortNet.Extract

@[expose] public section

noncomputable section

namespace Cert.Proof.Expo

open Idealize.ShloMosaic Idealize.ShloMosaic.ValueIdx

/-- A magnitude. -/
def ab (x : EReal) : EReal := max x (-x)
/-- The largest magnitude of a block, times the float next to 1/448. -/
def tv (v : Fin 128 → EReal) : EReal :=
  (Finset.univ : Finset (Fin 128)).fold max (Ideal.ofBits .f32 0xFF800000#32) (fun j => ab (v j)) * Ideal.ofBits .f32 0x3B124925#32
/-- A code: clipped to ±448. -/
def clp (x : EReal) : EReal := min (Ideal.ofBits .f32 0x43E00000#32) (max (Ideal.ofBits .f32 0xC3E00000#32) x)
/-- A value, zeroed where the bit is not set. -/
def zi (b : BitVec 1) (x : EReal) : EReal := Scalar.select b x (Ideal.ofBits .bf16 0x0000#16)

/-- A column broadcast over lanes. -/
theorem bc_a1 {α : Type} {a b : ℕ} (v : (⟨2, ![a, 1]⟩ : Shape).Idx → α) (h : (⟨2, ![a, 1]⟩ : Shape).Broadcasts ⟨2, ![a, b]⟩) (p : Fin a) (c : Fin b) :
    broadcastTo (⟨2, ![a, b]⟩ : Shape) v h (ix2 p c) = v (ix2 p 0) := by
  refine broadcastTo_apply v h _ _ fun ax => ?_
  match ax with
  | ⟨0, _⟩ =>
    show p.val = if a = 1 then 0 else p.val
    have := p.isLt
    split_ifs <;> omega
  | ⟨1, _⟩ => rfl

/-- The rows of one parity, at an index. -/
theorem rows_at {α : Type} {M N L : ℕ} (p : Fin 2) (x : (⟨2, ![M, L]⟩ : Shape).Idx → α) (h : (⟨2, ![M, L]⟩ : Shape).Bitcasts 16 (⟨2, ![N, L]⟩ : Shape) 32)
    (j : (⟨2, ![N, L]⟩ : Shape).Idx) : ∃ i : (⟨2, ![M, L]⟩ : Shape).Idx, (i 1 : Fin L) = j 1 ∧
      ∀ y : (⟨2, ![M, L]⟩ : Shape).Idx → α, rowsOfParity p (⟨2, ![N, L]⟩ : Shape) y h j = y i :=
  ⟨_, rfl, fun y => rfl⟩

/-- A lane mask selects on the whole rows what it selects on the rows of each parity. -/
theorem sel_rows {α : Type} {M N L : ℕ} (cb : Fin L → BitVec 1) (c : (⟨2, ![N, L]⟩ : Shape).Idx → BitVec 1) (hc : ∀ j, c j = cb (j 1))
    (x y : (⟨2, ![M, L]⟩ : Shape).Idx → α) (h : (⟨2, ![M, L]⟩ : Shape).Bitcasts 16 (⟨2, ![N, L]⟩ : Shape) 32) (p : Fin 2) :
    select c (rowsOfParity p (⟨2, ![N, L]⟩ : Shape) x h) (rowsOfParity p (⟨2, ![N, L]⟩ : Shape) y h)
      = rowsOfParity p (⟨2, ![N, L]⟩ : Shape) (fun j => Scalar.select (cb (j 1)) (x j) (y j)) h := by
  funext j
  obtain ⟨i, hi, hy⟩ := rows_at p x h j
  rw [hy]
  show Scalar.select (c j) (rowsOfParity p _ x h j) (rowsOfParity p _ y h j) = _
  rw [hy, hy, hc, hi]

/-- So the rows interleaved again are the select of the whole rows. -/
theorem il_sel {α : Type} {M N L : ℕ} (cb : Fin L → BitVec 1) (c : (⟨2, ![N, L]⟩ : Shape).Idx → BitVec 1) (hc : ∀ j, c j = cb (j 1))
    (x y : (⟨2, ![M, L]⟩ : Shape).Idx → α) (h : (⟨2, ![M, L]⟩ : Shape).Bitcasts 16 (⟨2, ![N, L]⟩ : Shape) 32) :
    interleaveRows (⟨2, ![M, L]⟩ : Shape) (select c (rowsOfParity 0 (⟨2, ![N, L]⟩ : Shape) x h) (rowsOfParity 0 (⟨2, ![N, L]⟩ : Shape) y h))
      (select c (rowsOfParity 1 (⟨2, ![N, L]⟩ : Shape) x h) (rowsOfParity 1 (⟨2, ![N, L]⟩ : Shape) y h)) h
      = fun j => Scalar.select (cb (j 1)) (x j) (y j) := by
  rw [sel_rows cb c hc, sel_rows cb c hc]
  exact interleaveRows_rowsOfParity h _

/-- The largest word of a column of words, by its bounds. -/
theorem maxsi_col {n : ℕ} (g : Fin n → BitVec 32) (v : BitVec 32) (h0 : 0 ≤ v.toInt) (i : Fin n) (hi : g i = v) (hg : ∀ k, (g k).toInt ≤ v.toInt) :
    (Finset.univ : Finset (Fin n)).fold IntOp.maxsi 2147483648#32 g = v := by
  obtain ⟨a, b, c⟩ := Idealize.ShloMosaic.SortNet.fold_maxsi_spec g Finset.univ 2147483648#32
  have hb := b i (Finset.mem_univ i)
  rw [hi] at hb
  rcases c with c | ⟨k, -, c⟩
  · rw [c] at hb
    exact absurd hb (by have : (2147483648#32 : BitVec 32).toInt = -2147483648 := by decide
                        omega)
  · rw [c] at hb ⊢
    exact BitVec.eq_of_toInt_eq (le_antisymm (hg k) hb)

end Cert.Proof.Expo

end
-- ==== Proof.KPt.lean ====
/- The kernel's blocks at an index, over the reals. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Pieces
public import proofs.«01_k».proof.Proof.Vals
public import proofs.«01_k».proof.Proof.Shared
public import Idealize.ShloMosaic.PureOps.Ideal.Laws

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Proof.Expo

/-- Whether a lane's mask is set. -/
def kb (keep : Vec Ideal S1x128 .i32) (l : Fin 128) : BitVec 1 := IntOp.cmpi .ne (keep (ix2 0 l)) 0#32

theorem kb_bc {N : ℕ} (keep : Vec Ideal S1x128 .i32) (h1 : S1x128.ShapeCasts S1x128) (h : S1x128.Broadcasts (⟨2, ![N, 128]⟩ : Shape)) (j : (⟨2, ![N, 128]⟩ : Shape).Idx) :
    broadcastTo (⟨2, ![N, 128]⟩ : Shape) (shapeCast S1x128 (cmpi .ne keep (broadcast S1x128 0#32)) h1) h j = kb keep (j 1) := by
  obtain ⟨r, l, rfl⟩ : ∃ r l, j = ix2 r l := ⟨j 0, j 1, eq_ix2 j⟩
  rw [shapeCast_self, broadcastTo_1b_ab_apply]
  rfl

theorem qXin_eq (x : Vec Ideal S512x128 .bf16) (keep : Vec Ideal S1x128 .i32) :
    qXin (F := Ideal) x keep = fun j => zi (kb keep (j 1)) (x j) := by
  unfold qXin
  rw [shapeCast_self]
  exact il_sel (M := 512) (N := 256) (L := 128) (kb keep) _ (fun j => kb_bc keep _ _ j) x (constant (F := Ideal) S512x128 .bf16 0x0000#16) bitcasts_S512x128_w16_S256x128_w32

theorem qT_at (x : FVec Ideal S512x128 .bf16) (r : Fin 512) (u : Fin 1) : qT (F := Ideal) x (ix2 r u) = tv fun l => x (ix2 r l) := by
  unfold qT tv
  show shapeCast S512x1 _ _ (ix2 r u) * _ = _
  refine congrArg₂ (· * ·) ?_ rfl
  rw [shapeCast_a_a1_apply]
  refine (Ideal.multiReduction_maximumf_single _ _ _ _ _ _).trans ?_
  refine congrArg (fun f => (Finset.univ : Finset (Fin 128)).fold max _ f) (funext fun l => ?_)
  show ab (x _) = ab (x _)
  refine congrArg (fun i => ab (x i)) ?_
  funext a
  match a with
  | ⟨0, _⟩ => rfl
  | ⟨1, _⟩ => rfl

/-- A row's largest magnitude over 448, outlier columns left out. -/
def rowT (x : Vec Ideal S512x128 .bf16) (keep : Vec Ideal S1x128 .i32) (r : Fin 512) : EReal :=
  tv fun l => zi (kb keep l) (x (ix2 r l))

theorem exStep_at (t : FVec Ideal S512x1 .f32) (b : BitVec 32) (ex : IVec S512x1 32) (j : S512x1.Idx) :
    exStep (F := Ideal) t b ex j = stp (t j) b (ex j) := rfl

theorem exField_at (t : FVec Ideal S512x1 .f32) (j : S512x1.Idx) : exField (F := Ideal) t j = exE (t j) := by
  unfold exField exE
  simp only [exStep_at]
  rfl

theorem exWord_at (e : IVec S512x1 32) (j : S512x1.Idx) : exWord e j = exW (e j) := rfl

theorem qEx_at (x : Vec Ideal S512x128 .bf16) (keep : Vec Ideal S1x128 .i32) (r : Fin 512) (u : Fin 1) :
    qEx (F := Ideal) x keep (ix2 r u) = exW (exE (rowT x keep r)) := by
  unfold qEx
  rw [exWord_at, exField_at, qT_at, qXin_eq]; rfl

theorem qScale_at (x : Vec Ideal S512x128 .bf16) (keep : Vec Ideal S1x128 .i32) (r : Fin 512) (u : Fin 1) :
    qScale (F := Ideal) x keep (ix2 r u) = kSc (rowT x keep r) :=
  congrArg (Ideal.ofBits .f32) (qEx_at x keep r u)

/-- The clipped codes at an index, for any bounds. -/
theorem clip_at (w1 w2 : BitVec 32) (X B : FVec Ideal S512x128 .bf16) (j : S512x128.Idx) :
    truncf (F := Ideal) .fp8e4m3 (minimumf (broadcast S512x128 (Scalar.truncf (F := Ideal) .bf16 bitsLt_bf16_f32 (Scalar.ofBits .f32 w1)))
      (maximumf (broadcast S512x128 (Scalar.truncf (F := Ideal) .bf16 bitsLt_bf16_f32 (Scalar.ofBits .f32 w2))) (mulf X B))) bitsLt_fp8e4m3_bf16 j
      = (min (Ideal.ofBits .f32 w1) (max (Ideal.ofBits .f32 w2) (X j * B j)) : EReal) := rfl

/-- A column of values broadcast over a block, rounded on the way. -/
theorem tb_at (v : FVec Ideal S512x1 .f32) (r : Fin 512) (l : Fin 128) :
    broadcastTo S512x128 (truncf (F := Ideal) .bf16 v bitsLt_bf16_f32) broadcasts_S512x1_S512x128 (ix2 r l) = v (ix2 r 0) := by
  rw [bc_a1]; rfl

/-- The inverse scale's value, from the scale's word. -/
theorem inv_at (w : BitVec 32) (E : IVec S512x1 32) (j : S512x1.Idx) :
    bitcastToFloat (F := Ideal) .f32 (subi (broadcast S512x1 w) E) j = Ideal.ofBits .f32 (IntOp.subi w (E j)) := rfl

theorem qCodes_at (x : Vec Ideal S512x128 .bf16) (keep : Vec Ideal S1x128 .i32) (r : Fin 512) (l : Fin 128) :
    qCodes (F := Ideal) x keep (ix2 r l) = clp (zi (kb keep l) (x (ix2 r l)) * kInv (rowT x keep r)) := by
  unfold qCodes
  rw [clip_at, tb_at, inv_at, qEx_at, qXin_eq]
  unfold clp kInv
  rfl

/-- A block's product at an index. -/
theorem mul_at (X : FVec Ideal S512x128 .fp8e4m3) (B : FVec Ideal S512x128 .bf16) (j : S512x128.Idx) :
    mulf (F := Ideal) (extf .bf16 X bitsLt_fp8e4m3_bf16) B j = (X j * B j : EReal) := rfl

theorem qComb_at (x : Vec Ideal S512x128 .bf16) (keep : Vec Ideal S1x128 .i32) (r : Fin 512) (l : Fin 128) :
    qComb (F := Ideal) x keep (ix3 0 r l)
      = Scalar.select (kb keep l) (clp (zi (kb keep l) (x (ix2 r l)) * kInv (rowT x keep r)) * kSc (rowT x keep r)) (x (ix2 r l)) := by
  unfold qComb
  refine (shapeCast_ab_1ab_apply _ _ _ _ _).trans ((congrFun (shapeCast_self _ _) _).trans ?_)
  refine (congrFun (il_sel (M := 512) (N := 256) (L := 128) (kb keep) _ (fun j => kb_bc keep shapeCasts_S1x128_S1x128 broadcasts_S1x128_S256x128 j) _ _ bitcasts_S512x128_w16_S256x128_w32) _).trans ?_
  rw [shapeCast_self]
  beta_reduce
  rw [mul_at, tb_at, qCodes_at, qScale_at]

/-- The lane a position names, negative positions counted from the end. -/
def lnAt (p : BitVec 32) : Fin 128 :=
  ⟨(Scalar.select (IntOp.cmpi .slt p 0#32) (IntOp.addi p 128#32) p).toNat % 128, Nat.mod_lt _ (by omega)⟩

theorem wComb_at (wo : Vec Ideal S128x128 .bf16) (keep pos : Vec Ideal S1x128 .i32) (s : EReal) (w : Vec Ideal S128x128 .fp8e4m3) (a l : Fin 128) :
    wComb (F := Ideal) wo keep pos s w (ix2 a l)
      = Scalar.select (kb keep l) (w (ix2 a l) * s) (wo (ix2 a (lnAt (pos (ix2 0 l))))) := by
  unfold wComb k0_pay16
  refine (congrFun (shapeCast_self _ _) _).trans ?_
  refine (congrFun (il_sel (M := 128) (N := 64) (L := 128) (kb keep) _ (fun j => kb_bc keep shapeCasts_S1x128_S1x128 broadcasts_S1x128_S64x128 j) _ _ bitcasts_S128x128_w16_S64x128_w32) _).trans ?_
  have hg : ∀ v : IVec S128x128 32, shapeCast S128x128 (shapeCast S128x128x1 v shapeCasts_S128x128_S128x128x1) shapeCasts_S128x128x1_S128x128 = v := by
    intro v; funext j
    unfold shapeCast
    exact congrArg v (by
      apply (S128x128.rowMajor).injective
      simp [Shape.reshapeEquiv])
  rw [hg, shapeCast_self]
  show Scalar.select (kb keep l) (w (ix2 a l) * s) (dynamicGather 1 (k0_pay14 (F := Ideal) wo) _ (ix2 a l)) = _
  refine congrArg (Scalar.select (kb keep l) (w (ix2 a l) * s)) ?_
  show wo _ = wo _
  refine congrArg wo ?_
  funext b
  match b with
  | ⟨0, _⟩ => rfl
  | ⟨1, _⟩ =>
    apply Fin.ext
    show (Scalar.select (IntOp.cmpi .slt (broadcastTo S128x128 pos broadcasts_S1x128_S128x128 (ix2 a l)) 0#32) (IntOp.addi (broadcastTo S128x128 pos broadcasts_S1x128_S128x128 (ix2 a l)) 128#32)
      (broadcastTo S128x128 pos broadcasts_S1x128_S128x128 (ix2 a l))).toNat % 128 = _
    rw [broadcastTo_1b_ab_apply]; rfl

theorem cmpi_eq_one (x y : BitVec 32) : IntOp.cmpi .eq x y = 1 ↔ x = y := by
  show BitVec.ofBool (x == y) = 1 ↔ _
  by_cases h : x = y
  · simp [h]
  · rw [beq_false_of_ne h]; simp [h]

theorem hit_at (idx : Vec Ideal S128x1 .i32) (n0 : BitVec 32) (r l : Fin 128) :
    hit (F := Ideal) idx n0 (ix2 r l) = IntOp.cmpi .eq (idx (ix2 r 0)) (BitVec.ofNat 32 l.val + n0) := by
  unfold hit
  show IntOp.cmpi .eq (broadcastTo S128x128 _ _ (ix2 r l)) (iota .tc S128x128 32 [1] iota_S128x128_d1_w32 (ix2 r l) + n0) = _
  rw [bc_a1, shapeCast_self]
  refine congrArg (fun z => IntOp.cmpi .eq (idx (ix2 r 0)) (z + n0)) ?_
  rw [iota_single_apply]

/-- The largest word over the rows, at a lane. -/
theorem col_at (g : IVec S128x128 32) (l : Fin 128) (u : Fin 1) :
    shapeCast S1x128 (multiReductionI .maxsi [0] S128 g 2147483648#32 reduces_S128x128_S128 rfl) shapeCasts_S128_S1x128 (ix2 u l)
      = (Finset.univ : Finset (Fin 128)).fold IntOp.maxsi 2147483648#32 fun r => g (ix2 r l) := by
  rw [shapeCast_a_1a_apply]
  refine (multiReductionI_eq_fold .maxsi g _ _ _ _).trans ((Shape.Reduces.fold_filter_drop_single _ _ _ _ _).trans ?_)
  refine congrArg (fun f => (Finset.univ : Finset (Fin 128)).fold IntOp.maxsi _ f) (funext fun r => ?_)
  show g _ = g _
  refine congrArg g ?_
  funext a
  match a with
  | ⟨0, _⟩ => rfl
  | ⟨1, _⟩ => rfl

theorem keepRow_at (idx : Vec Ideal S128x1 .i32) (n0 : BitVec 32) (l : Fin 128) (u : Fin 1) :
    IntOp.cmpi .ne (keepRow (F := Ideal) idx n0 (ix2 u l)) 0#32 = BitVec.ofBool (decide (¬ ∃ r : Fin 128, idx (ix2 r 0) = BitVec.ofNat 32 l.val + n0)) := by
  have hu : keepRow (F := Ideal) idx n0 (ix2 u l)
      = Scalar.select (IntOp.cmpi .sgt ((Finset.univ : Finset (Fin 128)).fold IntOp.maxsi 2147483648#32 fun r =>
          Scalar.select (hit (F := Ideal) idx n0 (ix2 r l)) 1#32 0#32) 0#32) 0#32 4294967295#32 := by
    unfold keepRow k0_pay1
    dsimp only
    rw [shapeCast_self]
    show Scalar.select (IntOp.cmpi .sgt (shapeCast S1x128 _ _ (ix2 u l)) 0#32) 0#32 4294967295#32 = _
    rw [col_at]; rfl
  rw [hu]
  have hh : ∀ r, hit (F := Ideal) idx n0 (ix2 r l) = 1 ↔ idx (ix2 r 0) = BitVec.ofNat 32 l.val + n0 := by
    intro r; rw [hit_at]; exact cmpi_eq_one _ _
  by_cases h : ∃ r : Fin 128, idx (ix2 r 0) = BitVec.ofNat 32 l.val + n0
  · obtain ⟨r, hr⟩ := h
    rw [maxsi_col _ 1#32 (by decide) r (by unfold Scalar.select; rw [if_pos ((hh r).mpr hr)])
      (fun k => by unfold Scalar.select; split_ifs <;> decide)]
    rw [decide_eq_false (by exact not_not.mpr ⟨r, hr⟩)]; decide
  · rw [maxsi_col _ 0#32 (by decide) 0 (by unfold Scalar.select; rw [if_neg (fun hc => h ⟨0, (hh 0).mp hc⟩)])
      (fun k => by unfold Scalar.select; rw [if_neg (fun hc => h ⟨k, (hh k).mp hc⟩)])]
    rw [decide_eq_true h]; decide

theorem posRow_at (idx : Vec Ideal S128x1 .i32) (n0 : BitVec 32) (l r0 : Fin 128) (u : Fin 1) (h0 : idx (ix2 r0 0) = BitVec.ofNat 32 l.val + n0)
    (hq : ∀ r, idx (ix2 r 0) = BitVec.ofNat 32 l.val + n0 → r = r0) :
    posRow (F := Ideal) idx n0 (ix2 u l) = BitVec.ofNat 32 r0.val := by
  have hh : ∀ r, hit (F := Ideal) idx n0 (ix2 r l) = 1 ↔ idx (ix2 r 0) = BitVec.ofNat 32 l.val + n0 := by
    intro r; rw [hit_at]; exact cmpi_eq_one _ _
  have hu : posRow (F := Ideal) idx n0 (ix2 u l)
      = (Finset.univ : Finset (Fin 128)).fold IntOp.maxsi 2147483648#32 fun r =>
          Scalar.select (hit (F := Ideal) idx n0 (ix2 r l)) (iota .tc S128x128 32 [0] iota_S128x128_d0_w32 (ix2 r l)) 0#32 := by
    unfold posRow k0_pay2
    dsimp only
    rw [shapeCast_self, col_at]; rfl
  have hi : ∀ r : Fin 128, iota .tc S128x128 32 [0] iota_S128x128_d0_w32 (ix2 r l) = BitVec.ofNat 32 r.val := by
    intro r; rw [iota_single_apply]
  have hn : ∀ r : Fin 128, 0 ≤ (BitVec.ofNat 32 r.val).toInt := by decide
  rw [hu]
  refine maxsi_col _ _ (hn r0) r0 ?_ fun k => ?_
  · unfold Scalar.select; rw [if_pos ((hh r0).mpr h0), hi]
  · unfold Scalar.select
    by_cases hk : hit (F := Ideal) idx n0 (ix2 k l) = 1
    · rw [if_pos hk, hi, hq k ((hh k).mp hk)]
    · rw [if_neg hk]; exact hn r0

theorem lnAt_ofNat : ∀ r : Fin 128, lnAt (BitVec.ofNat 32 r.val) = r := by decide

end Cert.KernelIdeal.Gen

end
-- ==== Proof.Spec.lean ====
/- The two programs' results as functions of one row of activations, the outlier indices and one row of each weight. The scale
   and its inverse are parameters: the kernel and the reference differ in how they compute them. -/
module

public import proofs.«01_k».proof.Proof.Shared

@[expose] public section

noncomputable section

namespace Cert.Proof.Expo

open Idealize.ShloMosaic Idealize.ShloMosaic.ValueIdx

/-- Column `l` of block `n`. -/
def col (n : Fin 16) (l : Fin 128) : Fin 2048 := ⟨128 * n.val + l.val, by have := n.isLt; have := l.isLt; omega⟩
/-- The block of a column. -/
def bk (k : Fin 2048) : Fin 16 := ⟨k.val / 128, by have := k.isLt; omega⟩
/-- The block of a weight row. -/
def obk (o : Fin 3968) : Fin 31 := ⟨o.val / 128, by have := o.isLt; omega⟩

/-- Set where a column is no outlier column. -/
def no (a : Fin 128 → BitVec 32) (k : Fin 2048) : BitVec 1 := BitVec.ofBool (decide (¬ ∃ r : Fin 128, a r = BitVec.ofNat 32 k.val))
/-- One where row `r` of the outlier indices names column `k`, zero elsewhere. -/
def oh (a : Fin 128 → BitVec 32) (r : Fin 128) (k : Fin 2048) : EReal := if a r = BitVec.ofNat 32 k.val then 1 else 0
/-- A block's largest magnitude over 448, the outlier columns left out. -/
def blockT (a : Fin 128 → BitVec 32) (x : Fin 2048 → EReal) (n : Fin 16) : EReal := tv fun l => zi (no a (col n l)) (x (col n l))
/-- The code of an activation. -/
def codeS (inv : EReal → EReal) (a : Fin 128 → BitVec 32) (x : Fin 2048 → EReal) (k : Fin 2048) : EReal := clp (zi (no a k) (x k) * inv (blockT a x (bk k)))
/-- The activation the product uses: the code times the scale, or the activation itself in an outlier column. -/
def xS (sc inv : EReal → EReal) (a : Fin 128 → BitVec 32) (x : Fin 2048 → EReal) (k : Fin 2048) : EReal :=
  Scalar.select (no a k) (codeS inv a x k * sc (blockT a x (bk k))) (x k)
/-- The weight the product uses: the code times the scale, or the outlier weight scattered to its column. -/
def wS (a : Fin 128 → BitVec 32) (w : Fin 2048 → EReal) (wo : Fin 128 → EReal) (s : Fin 16 → EReal) (k : Fin 2048) : EReal :=
  Scalar.select (no a k) (w k * s (bk k)) (∑ r : Fin 128, wo r * oh a r k)
/-- One element of the product. -/
def yS (sc inv : EReal → EReal) (a : Fin 128 → BitVec 32) (x w : Fin 2048 → EReal) (wo : Fin 128 → EReal) (s : Fin 16 → EReal) : EReal :=
  ∑ k : Fin 2048, xS sc inv a x k * wS a w wo s k

/-- Row `i` of the activations, both batches' rows in one count. -/
def xrow (x : (⟨3, ![2, 1536, 2048]⟩ : Shape).Idx → EReal) (i : Fin 3072) (k : Fin 2048) : EReal :=
  x (ix3 ⟨i.val / 1536, by have := i.isLt; omega⟩ ⟨i.val % 1536, Nat.mod_lt _ (by omega)⟩ k)
/-- The outlier indices by row. -/
def ixs (a : (⟨1, ![128]⟩ : Shape).Idx → BitVec 32) (r : Fin 128) : BitVec 32 := a (ix1 r)

/-- The codes of all rows. -/
def codesA (inv : EReal → EReal) (x : (⟨3, ![2, 1536, 2048]⟩ : Shape).Idx → EReal) (a : (⟨1, ![128]⟩ : Shape).Idx → BitVec 32) :
    (⟨2, ![3072, 2048]⟩ : Shape).Idx → EReal := fun j => codeS inv (ixs a) (xrow x (j 0)) (j 1)
/-- The scales of all rows. -/
def scalesA (sc : EReal → EReal) (x : (⟨3, ![2, 1536, 2048]⟩ : Shape).Idx → EReal) (a : (⟨1, ![128]⟩ : Shape).Idx → BitVec 32) :
    (⟨2, ![3072, 16]⟩ : Shape).Idx → EReal := fun j => sc (blockT (ixs a) (xrow x (j 0)) (j 1))
/-- The whole product. -/
def yA (sc inv : EReal → EReal) (x : (⟨3, ![2, 1536, 2048]⟩ : Shape).Idx → EReal) (a : (⟨1, ![128]⟩ : Shape).Idx → BitVec 32)
    (wo : (⟨2, ![3968, 128]⟩ : Shape).Idx → EReal) (w : (⟨2, ![3968, 2048]⟩ : Shape).Idx → EReal) (s : (⟨2, ![31, 16]⟩ : Shape).Idx → EReal) :
    (⟨2, ![3072, 3968]⟩ : Shape).Idx → EReal := fun j =>
  yS sc inv (ixs a) (xrow x (j 0)) (fun k => w (ix2 (j 1) k)) (fun r => wo (ix2 (j 1) r)) (fun n => s (ix2 (obk (j 1)) n))

/-- With no index named twice, the scattered outlier weight is the one of the row that names the column. -/
theorem scat_eq (a : Fin 128 → BitVec 32) (wo : Fin 128 → EReal) (k : Fin 2048) (r0 : Fin 128) (h0 : a r0 = BitVec.ofNat 32 k.val)
    (hq : ∀ r, a r = BitVec.ofNat 32 k.val → r = r0) : (∑ r : Fin 128, wo r * oh a r k) = wo r0 := by
  rw [Finset.sum_eq_single r0]
  · unfold oh; rw [if_pos h0, mul_one]
  · intro r _ hr
    unfold oh; rw [if_neg (fun h => hr (hq r h)), mul_zero]
  · intro h; exact absurd (Finset.mem_univ _) h

theorem no_eq_one (a : Fin 128 → BitVec 32) (k : Fin 2048) : no a k = 1 ↔ ¬ ∃ r : Fin 128, a r = BitVec.ofNat 32 k.val := by
  unfold no
  by_cases h : ∃ r : Fin 128, a r = BitVec.ofNat 32 k.val
  · rw [decide_eq_false (not_not.mpr h)]; simp only [h, not_true_eq_false, iff_false]; decide
  · rw [decide_eq_true h]; simp only [h, not_false_eq_true, iff_true]; decide

theorem codesA_congr (i1 i2 : EReal → EReal) (x a) (h : ∀ i n, i1 (blockT (ixs a) (xrow x i) n) = i2 (blockT (ixs a) (xrow x i) n)) :
    codesA i1 x a = codesA i2 x a := by
  funext j
  obtain ⟨i, k, rfl⟩ : ∃ i k, j = ix2 i k := ⟨j 0, j 1, eq_ix2 j⟩
  show codeS i1 (ixs a) (xrow x i) k = codeS i2 (ixs a) (xrow x i) k
  unfold codeS
  rw [h]
theorem scalesA_congr (s1 s2 : EReal → EReal) (x a) (h : ∀ i n, s1 (blockT (ixs a) (xrow x i) n) = s2 (blockT (ixs a) (xrow x i) n)) :
    scalesA s1 x a = scalesA s2 x a := by
  funext j
  obtain ⟨i, n, rfl⟩ : ∃ i n, j = ix2 i n := ⟨j 0, j 1, eq_ix2 j⟩
  exact h i n
theorem yA_congr (s1 s2 i1 i2 : EReal → EReal) (x a wo w s) (hs : ∀ i n, s1 (blockT (ixs a) (xrow x i) n) = s2 (blockT (ixs a) (xrow x i) n))
    (hi : ∀ i n, i1 (blockT (ixs a) (xrow x i) n) = i2 (blockT (ixs a) (xrow x i) n)) : yA s1 i1 x a wo w s = yA s2 i2 x a wo w s := by
  funext j
  obtain ⟨i, o, rfl⟩ : ∃ i o, j = ix2 i o := ⟨j 0, j 1, eq_ix2 j⟩
  show yS s1 i1 (ixs a) (xrow x i) _ _ _ = yS s2 i2 (ixs a) (xrow x i) _ _ _
  unfold yS
  refine Finset.sum_congr rfl fun k _ => ?_
  unfold xS codeS
  rw [hs, hi]

end Cert.Proof.Expo

end
-- ==== Proof.KTile.lean ====
/- The kernel's tiles at an index, over the reals, as the shared functions of their rows. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Pieces
public import proofs.«01_k».proof.Proof.KPt
public import proofs.«01_k».proof.Proof.Spec

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Proof.Expo

/-- The outlier indices of a column of words. -/
def cix (x1 : Vec Ideal S128x1 .i32) (r : Fin 128) : BitVec 32 := x1 (ix2 r 0)
/-- A row of a tile. -/
def trow (X : Vec Ideal S512x2048 .bf16) (r : Fin 512) (k : Fin 2048) : EReal := X (ix2 r k)

theorem emb_rK (n : Fin 16) (l : Fin 128) : (rK n).emb (ix2 0 l) = ix2 n l := by
  funext a; apply Fin.ext
  match a with
  | ⟨0, _⟩ => show n.val + 1 * 0 = n.val; omega
  | ⟨1, _⟩ => show 0 + 1 * l.val = l.val; omega
theorem emb_rC (n : Fin 16) (r : Fin 512) (l : Fin 128) : (rC n).emb (ix2 r l) = ix2 r (col n l) := by
  funext a; apply Fin.ext
  match a with
  | ⟨0, _⟩ => show 0 + 1 * r.val = r.val; omega
  | ⟨1, _⟩ => show 128 * n.val + 1 * l.val = 128 * n.val + l.val; omega
theorem col_kb (k : Fin 2048) : col (kbOf k) (lnOf k) = k := Fin.ext (by show 128 * (k.val / 128) + k.val % 128 = k.val; omega)

theorem word_add (n : Fin 16) (l : Fin 128) : BitVec.ofNat 32 l.val + BitVec.ofNat 32 (128 * n.val) = BitVec.ofNat 32 (col n l).val := by
  rw [← BitVec.ofNat_add]
  exact congrArg (BitVec.ofNat 32) (Nat.add_comm _ _)

theorem kb_keep (x1 : Vec Ideal S128x1 .i32) (n : Fin 16) (l : Fin 128) : kb (krow (F := Ideal) (keepG (F := Ideal) x1) n) l = no (cix x1) (col n l) := by
  unfold kb krow
  rw [emb_rK]
  refine (keepRow_at x1 (BitVec.ofNat 32 (128 * n.val)) l 0).trans ?_
  rw [word_add]
  rfl

theorem xblk_at (X : Vec Ideal S512x2048 .bf16) (n : Fin 16) (r : Fin 512) (l : Fin 128) : xblk (F := Ideal) X n (ix2 r l) = trow X r (col n l) := by
  unfold xblk trow; rw [emb_rC]

theorem rowT_eq (X : Vec Ideal S512x2048 .bf16) (x1 : Vec Ideal S128x1 .i32) (n : Fin 16) (r : Fin 512) :
    rowT (xblk (F := Ideal) X n) (krow (F := Ideal) (keepG (F := Ideal) x1) n) r = blockT (cix x1) (trow X r) n := by
  unfold rowT blockT
  refine congrArg tv (funext fun l => ?_)
  rw [kb_keep, xblk_at]

theorem codesG_at (X : Vec Ideal S512x2048 .bf16) (x1 : Vec Ideal S128x1 .i32) (r : Fin 512) (k : Fin 2048) :
    codesG (F := Ideal) X (keepG (F := Ideal) x1) (ix2 r k) = codeS kInv (cix x1) (trow X r) k := by
  refine (qCodes_at _ _ r (lnOf k)).trans ?_
  rw [rowT_eq, kb_keep, xblk_at, col_kb]
  rfl

theorem xcG_at (X : Vec Ideal S512x2048 .bf16) (x1 : Vec Ideal S128x1 .i32) (r : Fin 512) (k : Fin 2048) :
    xcG (F := Ideal) X (keepG (F := Ideal) x1) (ix2 r k) = xS kSc kInv (cix x1) (trow X r) k := by
  refine (qComb_at _ _ r (lnOf k)).trans ?_
  rw [rowT_eq, kb_keep, xblk_at, col_kb]
  rfl

/-- The collected scales: lane `l` holds block `l`'s scale once that block is done. -/
theorem scAcc_at (S : ℕ → FVec Ideal S512x1 .f32) (r : Fin 512) (l : Fin 128) (n : ℕ) (hn : n ≤ 16) (hl : l.val < n) :
    scAcc (F := Ideal) S n (ix2 r l) = S l.val (ix2 r 0) := by
  induction n with
  | zero => omega
  | succ n ih =>
    have hs : scAcc (F := Ideal) S (n + 1) (ix2 r l) = Scalar.select (IntOp.cmpi .eq (BitVec.ofNat 32 l.val) (BitVec.ofNat 32 n)) (S n (ix2 r 0)) (scAcc (F := Ideal) S n (ix2 r l)) := by
      show Scalar.select (IntOp.cmpi .eq (iota .tc S512x128 32 [1] iota_S512x128_d1_w32 (ix2 r l)) (BitVec.ofNat 32 n))
        (broadcastTo S512x128 (shapeCast S512x1 (S n) shapeCasts_S512x1_S512x1) broadcasts_S512x1_S512x128 (ix2 r l)) _ = _
      rw [bc_a1, shapeCast_self, iota_single_apply]
    rw [hs]
    unfold Scalar.select
    by_cases h : l.val = n
    · rw [if_pos ((cmpi_eq_one _ _).mpr (by rw [h])), h]
    · rw [if_neg, ih (by omega) (by omega)]
      intro hc
      have := congrArg BitVec.toNat ((cmpi_eq_one _ _).mp hc)
      rw [BitVec.toNat_ofNat, BitVec.toNat_ofNat, Nat.mod_eq_of_lt (by have := l.isLt; omega), Nat.mod_eq_of_lt (by omega)] at this
      exact h this

theorem scaleG_at (X : Vec Ideal S512x2048 .bf16) (x1 : Vec Ideal S128x1 .i32) (r : Fin 512) (n : Fin 16) :
    scaleG (F := Ideal) X (keepG (F := Ideal) x1) (ix2 r n) = kSc (blockT (cix x1) (trow X r) n) := by
  have hn := n.isLt
  have h : scaleG (F := Ideal) X (keepG (F := Ideal) x1) (ix2 r n)
      = scAcc (F := Ideal) (fun n => qScale (F := Ideal) (xblk (F := Ideal) X (nb n)) (krow (F := Ideal) (keepG (F := Ideal) x1) (nb n))) 16 (ix2 r ⟨n.val, by omega⟩) := by
    unfold scaleG scOut extractStridedSlice
    refine congrArg _ ?_
    funext a; apply Fin.ext
    match a with
    | ⟨0, _⟩ => show 0 + r.val = r.val; omega
    | ⟨1, _⟩ => show 0 + n.val = n.val; omega
  have hb : nb n.val = n := Fin.ext (by show n.val % 16 = n.val; omega)
  rw [h, scAcc_at _ _ _ _ le_rfl (by show n.val < 16; omega), qScale_at]
  dsimp only
  rw [hb, rowT_eq]

/-! ## The weights -/

theorem pos_at (x1 : Vec Ideal S128x1 .i32) (k : Fin 2048) (r0 : Fin 128) (h0 : cix x1 r0 = BitVec.ofNat 32 k.val)
    (hq : ∀ r, cix x1 r = BitVec.ofNat 32 k.val → r = r0) :
    krow (F := Ideal) (posG (F := Ideal) x1) (kbOf k) (ix2 0 (lnOf k)) = BitVec.ofNat 32 r0.val := by
  unfold krow
  rw [emb_rK]
  refine posRow_at x1 (BitVec.ofNat 32 (128 * (kbOf k).val)) (lnOf k) r0 0 ?_ fun r hr => ?_
  · rw [word_add, col_kb]; exact h0
  · rw [word_add, col_kb] at hr; exact hq r hr

theorem emb_rO (o : Fin 3968) (r : Fin 128) : (rO (obOf o)).emb (ix2 (rwOf o) r) = ix2 o r := by
  funext a; apply Fin.ext
  match a with
  | ⟨0, _⟩ => show 128 * (o.val / 128) + 1 * (o.val % 128) = o.val; omega
  | ⟨1, _⟩ => show 0 + 1 * r.val = r.val; omega
theorem emb_rB (o : Fin 3968) (k : Fin 2048) : (rB (obOf o) (kbOf k)).emb (ix2 (rwOf o) (lnOf k)) = ix2 o k := by
  funext a; apply Fin.ext
  match a with
  | ⟨0, _⟩ => show 128 * (o.val / 128) + 1 * (o.val % 128) = o.val; omega
  | ⟨1, _⟩ => show 128 * (k.val / 128) + 1 * (k.val % 128) = k.val; omega

theorem wcG_at (x0 : Vec Ideal S31x16 .f32) (x1 : Vec Ideal S128x1 .i32) (x3 : Vec Ideal S3968x128 .bf16) (x4 : Vec Ideal S3968x2048 .fp8e4m3)
    (hinj : ∀ r r', cix x1 r = cix x1 r' → r = r') (o : Fin 3968) (k : Fin 2048) :
    wcG (F := Ideal) x0 x3 x4 (keepG (F := Ideal) x1) (posG (F := Ideal) x1) (ix2 o k)
      = wS (cix x1) (fun k => x4 (ix2 o k)) (fun r => x3 (ix2 o r)) (fun n => x0 (ix2 (obk o) n)) k := by
  refine (show wcG (F := Ideal) x0 x3 x4 (keepG (F := Ideal) x1) (posG (F := Ideal) x1) (ix2 o k)
    = wComb (F := Ideal) (fun b => x3 ((rO (obOf o)).emb b)) (krow (F := Ideal) (keepG (F := Ideal) x1) (kbOf k)) (krow (F := Ideal) (posG (F := Ideal) x1) (kbOf k))
      (x0 (ix2 (obOf o) (kbOf k))) (fun b => x4 ((rB (obOf o) (kbOf k)).emb b)) (ix2 (rwOf o) (lnOf k)) from rfl).trans ?_
  refine (wComb_at _ _ _ _ _ (rwOf o) (lnOf k)).trans ?_
  rw [kb_keep, col_kb]
  unfold wS
  by_cases h : ∃ r : Fin 128, cix x1 r = BitVec.ofNat 32 k.val
  · have hno : ¬ no (cix x1) k = 1 := by rw [no_eq_one]; exact not_not.mpr h
    obtain ⟨r0, h0⟩ := h
    have hq : ∀ r, cix x1 r = BitVec.ofNat 32 k.val → r = r0 := fun r hr => hinj r r0 (hr.trans h0.symm)
    unfold Scalar.select
    rw [if_neg hno, if_neg hno]
    refine Eq.trans ?_ (scat_eq _ _ _ _ h0 hq).symm
    rw [pos_at x1 k r0 h0 hq, lnAt_ofNat]
    exact congrArg x3 (emb_rO o r0)
  · have hno : no (cix x1) k = 1 := (no_eq_one _ _).mpr h
    unfold Scalar.select
    rw [if_pos hno, if_pos hno]
    exact congrArg₂ (fun p q : EReal => (p * q : EReal)) (congrArg x4 (emb_rB o k)) rfl

end Cert.KernelIdeal.Gen

end
-- ==== Proof.KEnt.lean ====
/- The two host reshapes before the kernel, read. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Pieces
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

theorem V_v0 (c : Dev nD) : V m c main_v0 = shapeCast S128x1 (m ((c : Thread nD τ).loc main_arg1)) shapeCasts_S128_S128x1 := by
  unfold V
  entry_read
  rfl

theorem V_v1 (c : Dev nD) : V m c main_v1 = shapeCast S3072x2048 (m ((c : Thread nD τ).loc main_arg0)) shapeCasts_S2x1536x2048_S3072x2048 := by
  unfold V
  entry_read
  rfl

end Cert.KernelIdeal.Gen

end
-- ==== Proof.KFin.lean ====
/- The kernel's three final arrays, over the reals, as functions of the arguments. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Pieces
public import proofs.«01_k».proof.Proof.Body
public import proofs.«01_k».proof.Proof.KTile
public import proofs.«01_k».proof.Proof.KEnt
public import Idealize.ShloMosaic.Lib.ValueLayoutCasts
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Expo

variable (m : (ℓ : Loc nD τ sig) → Buf (Elt Ideal) ℓ) (ρ : Dev nD → PrngReg)

/-! ## The arguments on a core -/

def aX (c : Dev nD) : Vec Ideal S2x1536x2048 .bf16 := m ((c : Thread nD τ).loc main_arg0)
def aI (c : Dev nD) : Vec Ideal S128 .i32 := m ((c : Thread nD τ).loc main_arg1)
def aWo (c : Dev nD) : Vec Ideal S3968x128 .bf16 := m ((c : Thread nD τ).loc main_arg2)
def aW (c : Dev nD) : Vec Ideal S3968x2048 .fp8e4m3 := m ((c : Thread nD τ).loc main_arg3)
def aS (c : Dev nD) : Vec Ideal S31x16 .f32 := m ((c : Thread nD τ).loc main_arg4)

/-! ## The windows' blocks -/

theorem ix0 : ∀ t : Fin cfg0.N, win0_0.index t 0 = 0 ∧ win0_0.index t 1 = 0 := by decide +kernel
theorem ix1w : ∀ t : Fin cfg0.N, win0_1.index t 0 = 0 ∧ win0_1.index t 1 = 0 := by decide +kernel
theorem ix2w : ∀ t : Fin cfg0.N, win0_2.index t 0 = min t.val 5 ∧ win0_2.index t 1 = 0 := by decide +kernel
theorem ix3w : ∀ t : Fin cfg0.N, win0_3.index t 0 = 0 ∧ win0_3.index t 1 = 0 := by decide +kernel
theorem ix4w : ∀ t : Fin cfg0.N, win0_4.index t 0 = 0 ∧ win0_4.index t 1 = 0 := by decide +kernel
theorem ix5w : ∀ t : Fin cfg0.N, win0_5.index t 0 = t.val - 1 ∧ win0_5.index t 1 = 0 := by decide +kernel
theorem ix6w : ∀ t : Fin cfg0.N, win0_6.index t 0 = min t.val 5 ∧ win0_6.index t 1 = 0 := by decide +kernel
theorem ix7w : ∀ t : Fin cfg0.N, win0_7.index t 0 = min t.val 5 ∧ win0_7.index t 1 = 0 := by decide +kernel

/-- A row of the rows' blocks, counted in the whole array. -/
def rowOf (t : Fin cfg0.N) (r : Fin 512) : Fin 3072 := ⟨min t.val 5 * 512 + r.val, by have := r.isLt; omega⟩

/-- The two batches' rows in one count. -/
theorem flat_at {α : Type} (x : S2x1536x2048.Idx → α) (h : S2x1536x2048.ShapeCasts S3072x2048) (i : Fin 3072) (k : Fin 2048) :
    shapeCast S3072x2048 x h (ValueIdx.ix2 i k)
      = x (ValueIdx.ix3 ⟨i.val / 1536, by have := i.isLt; omega⟩ ⟨i.val % 1536, Nat.mod_lt _ (by omega)⟩ k) := by
  refine shapeCast_apply _ _ _ _ ?_
  rw [Shape.rowMajor_val_three, Shape.rowMajor_val_two]
  show (i.val / 1536 * 1536 + i.val % 1536) * 2048 + k.val = i.val * 2048 + k.val
  omega

theorem cix_blk (c : Dev nD) (t : Fin cfg0.N) : cix (iblk m c 1 t) = ixs (aI m c) := by
  funext r
  show V m c main_v0 (((cfg0.win 1).blk t).view.emb (ValueIdx.ix2 r 0)) = aI m c (ValueIdx.ix1 r)
  have e : ((cfg0.win 1).blk t).view.emb (ValueIdx.ix2 r 0) = ValueIdx.ix2 r 0 := by
    funext a; apply Fin.ext
    match a with
    | ⟨0, _⟩ => show win0_1.index t (0 : Fin 2) * 128 + 1 * r.val = r.val; rw [(ix1w t).1]; omega
    | ⟨1, _⟩ => show win0_1.index t (1 : Fin 2) * 1 + 1 * 0 = 0; rw [(ix1w t).2]
  rw [e, V_v0]
  exact ValueIdx.shapeCast_a_a1_apply (a := 128) (m ((c : Thread nD τ).loc main_arg1)) _ r 0

theorem trow_blk (c : Dev nD) (t : Fin cfg0.N) (r : Fin 512) : trow (iblk m c 2 t) r = xrow (aX m c) (rowOf t r) := by
  funext k
  show V m c main_v1 (((cfg0.win 2).blk t).view.emb (ValueIdx.ix2 r k)) = aX m c (ValueIdx.ix3 _ _ k)
  have e : ((cfg0.win 2).blk t).view.emb (ValueIdx.ix2 r k) = ValueIdx.ix2 (rowOf t r) k := by
    funext a; apply Fin.ext
    match a with
    | ⟨0, _⟩ => show win0_2.index t (0 : Fin 2) * 512 + 1 * r.val = min t.val 5 * 512 + r.val; rw [(ix2w t).1]; omega
    | ⟨1, _⟩ => show win0_2.index t (1 : Fin 2) * 2048 + 1 * k.val = k.val; rw [(ix2w t).2]; omega
  rw [e, V_v1]
  exact flat_at (m ((c : Thread nD τ).loc main_arg0)) _ (rowOf t r) k

theorem blk0 (c : Dev nD) (t : Fin cfg0.N) : (iblk m c 0 t : Vec Ideal S31x16 .f32) = aS m c := by
  funext j
  show V m c main_arg4 (((cfg0.win 0).blk t).view.emb j) = aS m c j
  have e : ((cfg0.win 0).blk t).view.emb j = j := by
    funext a; apply Fin.ext
    match a with
    | ⟨0, _⟩ => show win0_0.index t (0 : Fin 2) * 31 + 1 * (j 0).val = (j 0).val; rw [(ix0 t).1]; omega
    | ⟨1, _⟩ => show win0_0.index t (1 : Fin 2) * 16 + 1 * (j 1).val = (j 1).val; rw [(ix0 t).2]; omega
  rw [e, V_main_arg4 m c]; rfl

theorem blk3 (c : Dev nD) (t : Fin cfg0.N) : (iblk m c 3 t : Vec Ideal S3968x128 .bf16) = aWo m c := by
  funext j
  show V m c main_arg2 (((cfg0.win 3).blk t).view.emb j) = aWo m c j
  have e : ((cfg0.win 3).blk t).view.emb j = j := by
    funext a; apply Fin.ext
    match a with
    | ⟨0, _⟩ => show win0_3.index t (0 : Fin 2) * 3968 + 1 * (j 0).val = (j 0).val; rw [(ix3w t).1]; omega
    | ⟨1, _⟩ => show win0_3.index t (1 : Fin 2) * 128 + 1 * (j 1).val = (j 1).val; rw [(ix3w t).2]; omega
  rw [e, V_main_arg2 m c]; rfl

theorem blk4 (c : Dev nD) (t : Fin cfg0.N) : (iblk m c 4 t : Vec Ideal S3968x2048 .fp8e4m3) = aW m c := by
  funext j
  show V m c main_arg3 (((cfg0.win 4).blk t).view.emb j) = aW m c j
  have e : ((cfg0.win 4).blk t).view.emb j = j := by
    funext a; apply Fin.ext
    match a with
    | ⟨0, _⟩ => show win0_4.index t (0 : Fin 2) * 3968 + 1 * (j 0).val = (j 0).val; rw [(ix4w t).1]; omega
    | ⟨1, _⟩ => show win0_4.index t (1 : Fin 2) * 2048 + 1 * (j 1).val = (j 1).val; rw [(ix4w t).2]; omega
  rw [e, V_main_arg3 m c]; rfl

/-! ## What a grid point leaves -/

theorem CT_at (c : Dev nD) (t : Fin cfg0.N) (n : ℕ) (hn : min n 5 = min t.val 5) (r : Fin 512) (k : Fin 2048) :
    CT m c n (ValueIdx.ix2 r k) = Cert.Proof.Expo.codesA kInv (aX m c) (aI m c) (ValueIdx.ix2 (rowOf t r) k) := by
  refine (codesG_at (iblk m c 2 (pt n)) (iblk m c 1 (pt 0)) r k).trans ?_
  rw [cix_blk, trow_blk, show rowOf (pt n) r = rowOf t r from Fin.ext (by show min (min n 5) 5 * 512 + _ = min t.val 5 * 512 + _; omega)]
  rfl

theorem ST_at (c : Dev nD) (t : Fin cfg0.N) (n : ℕ) (hn : min n 5 = min t.val 5) (r : Fin 512) (k : Fin 16) :
    ST m c n (ValueIdx.ix2 r k) = Cert.Proof.Expo.scalesA kSc (aX m c) (aI m c) (ValueIdx.ix2 (rowOf t r) k) := by
  refine (scaleG_at (iblk m c 2 (pt n)) (iblk m c 1 (pt 0)) r k).trans ?_
  rw [cix_blk, trow_blk, show rowOf (pt n) r = rowOf t r from Fin.ext (by show min (min n 5) 5 * 512 + _ = min t.val 5 * 512 + _; omega)]
  rfl

theorem YT_at (c : Dev nD) (hinj : ∀ r r', ixs (aI m c) r = ixs (aI m c) r' → r = r') (n : ℕ) (i : Fin 3072) (r : Fin 512)
    (hi : min (n - 1) 5 * 512 + r.val = i.val) (o : Fin 3968) :
    YT m c n (ValueIdx.ix2 r o) = Cert.Proof.Expo.yA kSc kInv (aX m c) (aI m c) (aWo m c) (aW m c) (aS m c) (ValueIdx.ix2 i o) := by
  refine (show YT m c n (ValueIdx.ix2 r o) = ∑ k : Fin 2048, XC m c (n - 1) (ValueIdx.ix2 r k) * WC m c (ValueIdx.ix2 o k) from rfl).trans ?_
  refine Eq.trans ?_ (show (∑ k : Fin 2048, xS kSc kInv (ixs (aI m c)) (xrow (aX m c) i) k
      * wS (ixs (aI m c)) (fun k => aW m c (ValueIdx.ix2 o k)) (fun r => aWo m c (ValueIdx.ix2 o r)) (fun n => aS m c (ValueIdx.ix2 (obk o) n)) k)
    = Cert.Proof.Expo.yA kSc kInv (aX m c) (aI m c) (aWo m c) (aW m c) (aS m c) (ValueIdx.ix2 i o) from rfl)
  refine Finset.sum_congr rfl fun k _ => ?_
  have hx : XC m c (n - 1) (ValueIdx.ix2 r k) = xS kSc kInv (ixs (aI m c)) (xrow (aX m c) i) k := by
    refine (xcG_at (iblk m c 2 (pt (n - 1))) (iblk m c 1 (pt 0)) r k).trans ?_
    rw [cix_blk, trow_blk, show rowOf (pt (n - 1)) r = i from Fin.ext (by show min (min (n - 1) 5) 5 * 512 + _ = _; omega)]
  have hw : WC m c (ValueIdx.ix2 o k)
      = wS (ixs (aI m c)) (fun k => aW m c (ValueIdx.ix2 o k)) (fun r => aWo m c (ValueIdx.ix2 o r)) (fun n => aS m c (ValueIdx.ix2 (obk o) n)) k := by
    refine (wcG_at (iblk m c 0 (pt 0)) (iblk m c 1 (pt 0)) (iblk m c 3 (pt 0)) (iblk m c 4 (pt 0)) (by rw [cix_blk]; exact hinj) o k).trans ?_
    rw [cix_blk, blk0, blk3, blk4]
  rw [hx, hw]

/-! ## The final arrays -/

theorem final6 (c : Dev nD) : (dats m 0 c).arrAt 6 cfg0.N = Cert.Proof.Expo.codesA kInv (aX m c) (aI m c) := by
  refine (dats m 0 c).arrAt_eq_of_covers 6 _ (by decide +kernel) fun t hf y => ?_
  obtain ⟨r, k, rfl⟩ : ∃ (r : Fin 512) (k : Fin 2048), y = ValueIdx.ix2 r k := ⟨y 0, y 1, ValueIdx.eq_ix2 y⟩
  have e : ((cfg0.win 6).blk t).view.emb (ValueIdx.ix2 r k) = ValueIdx.ix2 (rowOf t r) k := by
    funext a; apply Fin.ext
    match a with
    | ⟨0, _⟩ => show win0_6.index t (0 : Fin 2) * 512 + 1 * r.val = min t.val 5 * 512 + r.val; rw [(ix6w t).1]; omega
    | ⟨1, _⟩ => show win0_6.index t (1 : Fin 2) * 2048 + 1 * k.val = k.val; rw [(ix6w t).2]; omega
  rw [e, after0_6]
  exact CT_at m c t t.val rfl r k

theorem final7 (c : Dev nD) : (dats m 0 c).arrAt 7 cfg0.N = Cert.Proof.Expo.scalesA kSc (aX m c) (aI m c) := by
  refine (dats m 0 c).arrAt_eq_of_covers 7 _ (by decide +kernel) fun t hf y => ?_
  obtain ⟨r, k, rfl⟩ : ∃ (r : Fin 512) (k : Fin 16), y = ValueIdx.ix2 r k := ⟨y 0, y 1, ValueIdx.eq_ix2 y⟩
  have e : ((cfg0.win 7).blk t).view.emb (ValueIdx.ix2 r k) = ValueIdx.ix2 (rowOf t r) k := by
    funext a; apply Fin.ext
    match a with
    | ⟨0, _⟩ => show win0_7.index t (0 : Fin 2) * 512 + 1 * r.val = min t.val 5 * 512 + r.val; rw [(ix7w t).1]; omega
    | ⟨1, _⟩ => show win0_7.index t (1 : Fin 2) * 16 + 1 * k.val = k.val; rw [(ix7w t).2]; omega
  rw [e, after0_7]
  exact ST_at m c t t.val rfl r k

theorem final5 (c : Dev nD) (hinj : ∀ r r', ixs (aI m c) r = ixs (aI m c) r' → r = r') :
    (dats m 0 c).arrAt 5 cfg0.N = Cert.Proof.Expo.yA kSc kInv (aX m c) (aI m c) (aWo m c) (aW m c) (aS m c) := by
  refine (dats m 0 c).arrAt_eq_of_covers 5 _ (by decide +kernel) fun t hf y => ?_
  obtain ⟨r, o, rfl⟩ : ∃ (r : Fin 512) (o : Fin 3968), y = ValueIdx.ix2 r o := ⟨y 0, y 1, ValueIdx.eq_ix2 y⟩
  have ht : t.val < 7 := t.isLt
  have hr := r.isLt
  have e : ((cfg0.win 5).blk t).view.emb (ValueIdx.ix2 r o) = ValueIdx.ix2 (⟨(t.val - 1) * 512 + r.val, by omega⟩ : Fin 3072) o := by
    funext a; apply Fin.ext
    match a with
    | ⟨0, _⟩ => show win0_5.index t (0 : Fin 2) * 512 + 1 * r.val = (t.val - 1) * 512 + r.val; rw [(ix5w t).1]; omega
    | ⟨1, _⟩ => show win0_5.index t (1 : Fin 2) * 3968 + 1 * o.val = o.val; rw [(ix5w t).2]; omega
  rw [e, after0_5]
  exact YT_at m c hinj t.val _ r (by show min (t.val - 1) 5 * 512 + r.val = (t.val - 1) * 512 + r.val; omega) o

/-- The kernel run: the three arrays hold the closed forms, every argument keeps its contents. -/
theorem run_value (hinj : ∀ c r r', ixs (aI m c) r = ixs (aI m c) r' → r = r') :
    θ_run defs (onTc (τ := τ) (main (F := Ideal))) ⟨m, fun _ => 0, ρ⟩ (fun r => ∀ c : Dev nD,
      (r.2.mem ((c.tc : Thread nD τ).loc main_v2_0) = Cert.Proof.Expo.yA kSc kInv (aX m c) (aI m c) (aWo m c) (aW m c) (aS m c)
      ∧ r.2.mem ((c.tc : Thread nD τ).loc main_v2_1) = Cert.Proof.Expo.codesA kInv (aX m c) (aI m c)
      ∧ r.2.mem ((c.tc : Thread nD τ).loc main_v2_2) = Cert.Proof.Expo.scalesA kSc (aX m c) (aI m c))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono (fun r h c => ⟨⟨((h.1 c).1 5).trans (final5 m c (hinj c)), ((h.1 c).1 6).trans (final6 m c), ((h.1 c).1 7).trans (final7 m c)⟩, h.2.1 c⟩)
    (θ_run_and (run_main m ρ) (frame m ρ))

end Cert.KernelIdeal.Gen

end
-- ==== Proof.RMask.lean ====
/- The reference's results at an index, over the reals. -/
module

public import proofs.«01_k».proof.Proof.Gen.ReferenceIdeal.Value
public import proofs.«01_k».proof.Proof.Spec
public import Idealize.ShloMosaic.PureOps.Ideal.Laws
public import Idealize.ShloMosaic.Lib.Pipeline.Value
public import Idealize.ShloMosaic.Lib.ValueIdxCore
public import Idealize.ShloMosaic.Lib.ValueLayout
public import Idealize.ShloMosaic.Lib.MatmulPlain

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Cert.Proof.Expo

theorem cmpi_eq_ofBool (x y : BitVec 32) : IntOp.cmpi .eq x y = BitVec.ofBool (decide (x = y)) := by
  show BitVec.ofBool (x == y) = _
  by_cases h : x = y
  · simp [h]
  · rw [beq_false_of_ne h, decide_eq_false h]

/-- A select on a bit, from its proposition. -/
theorem sel_ofBool {α : Type} (P : Prop) [Decidable P] (a b : α) : Scalar.select (BitVec.ofBool (decide P)) a b = if P then a else b := by
  unfold Scalar.select
  by_cases h : P
  · rw [if_pos h, if_pos (by rw [decide_eq_true h]; decide)]
  · rw [if_neg h, if_neg (by rw [decide_eq_false h]; decide)]

theorem flip {α : Type} (P : Prop) [Decidable P] [Decidable (¬P)] (a b : α) : Scalar.select (BitVec.ofBool (decide P)) a b = Scalar.select (BitVec.ofBool (decide (¬P))) b a := by
  rw [sel_ofBool, sel_ofBool]
  by_cases h : P
  · rw [if_pos h, if_neg (not_not.mpr h)]
  · rw [if_neg h, if_pos h]

theorem ofBits_ninf : Ideal.ofBits .f32 0xFF800000#32 = ⊥ := by
  show Ideal.ieee 8 23 (0xFF800000#32) = _
  unfold Ideal.ieee
  have a : ((0xFF800000#32 : BitVec 32).extractLsb' 31 1 == 1#1) = true := by decide
  have b : ((0xFF800000#32 : BitVec 32).extractLsb' 23 8).toNat = 255 := by decide
  have c : ((0xFF800000#32 : BitVec 32).extractLsb' 0 23).toNat = 0 := by decide
  dsimp only
  rw [show (8 + 23 : ℕ) = 31 from rfl, a, b, c]
  norm_num

/-- The outlier bit of a column. -/
def ob (a : Fin 128 → BitVec 32) (k : Fin 2048) : BitVec 1 := BitVec.ofBool (decide (∃ r : Fin 128, a r = BitVec.ofNat 32 k.val))

theorem sel_ob {α : Type} (a : Fin 128 → BitVec 32) (k : Fin 2048) (x y : α) : Scalar.select (ob a k) x y = Scalar.select (no a k) y x := flip _ x y

theorem pay6_at (a1 : Vec Ideal S128 .i32) (r : Fin 128) (k : Fin 2048) :
    k0_pay6 (F := Ideal) a1 (ix2 r k) = BitVec.ofBool (decide (ixs a1 r = BitVec.ofNat 32 k.val)) := by
  unfold k0_pay6
  show IntOp.cmpi .eq (broadcastTo S128x2048 _ _ (ix2 r k)) (iota .tc S128x2048 32 [1] iota_S128x2048_d1_w32 (ix2 r k)) = _
  rw [bc_a1, shapeCast_a_a1_apply, iota_single_apply]
  exact cmpi_eq_ofBool _ _

/-- A comparison against one value, at an index. -/
theorem cmp_at (g : FVec Ideal S2048 .f32) (w : BitVec 32) (j : S2048.Idx) :
    cmpf .ogt g (broadcast S2048 (Scalar.ofBits (F := Ideal) .f32 w)) j = Ideal.cmp .ogt (g j) (Ideal.ofBits .f32 w) := rfl

/-- A select of two constants, at an index. -/
theorem sel_at (c : IVec S128x2048 1) (w1 w2 : BitVec 32) (j : S128x2048.Idx) :
    select c (broadcast S128x2048 (Scalar.ofBits (F := Ideal) .f32 w1)) (broadcast S128x2048 (Scalar.ofBits (F := Ideal) .f32 w2)) j = Scalar.select (c j) (Ideal.ofBits .f32 w1) (Ideal.ofBits .f32 w2) := rfl

/-- Whether some row names a column, as the largest of a column of ones and zeros against zero. -/
theorem any_at (g : FVec Ideal S128x2048 .f32) (w : BitVec 32) (k : Fin 2048) (u : Fin 1) :
    shapeCast S1x2048 (cmpf .ogt (multiReduction .maximumf [0] S2048 g 0xFF800000#32 reduces_S128x2048_S2048 (.inl rfl) rfl) (broadcast S2048 (Scalar.ofBits .f32 w))) shapeCasts_S2048_S1x2048 (ix2 u k)
      = Ideal.cmp .ogt ((Finset.univ : Finset (Fin 128)).fold max (Ideal.ofBits .f32 0xFF800000#32) fun r => g (ix2 r k)) (Ideal.ofBits .f32 w) := by
  rw [shapeCast_a_1a_apply]
  refine (cmp_at _ w _).trans (congrArg (fun z => Ideal.cmp .ogt z (Ideal.ofBits .f32 w)) ?_)
  refine (Ideal.multiReduction_maximumf_single _ _ _ _ _ _).trans ?_
  refine congrArg (fun f => (Finset.univ : Finset (Fin 128)).fold max _ f) (funext fun r => ?_)
  show g _ = g _
  refine congrArg g ?_
  funext a
  match a with
  | ⟨0, _⟩ => rfl
  | ⟨1, _⟩ => rfl

theorem pay7_at (a1 : Vec Ideal S128 .i32) (k : Fin 2048) (u : Fin 1) : k0_pay7 (F := Ideal) a1 (ix2 u k) = ob (ixs a1) k := by
  unfold k0_pay7
  refine (any_at _ _ _ _).trans ?_
  have hg : ∀ r : Fin 128, select (k0_pay6 (F := Ideal) a1) (broadcast S128x2048 (Scalar.ofBits (F := Ideal) .f32 0x3F800000#32)) (broadcast S128x2048 (Scalar.ofBits (F := Ideal) .f32 0x00000000#32)) (ix2 r k)
      = if ixs a1 r = BitVec.ofNat 32 k.val then (((1 : ℝ) : EReal)) else (((0 : ℝ) : EReal)) := by
    intro r
    rw [sel_at, pay6_at, sel_ofBool, ofBits_one, ofBits_nil]
  unfold ob Ideal.cmp
  dsimp only
  refine congrArg BitVec.ofBool ?_
  refine decide_eq_decide.mpr ?_
  rw [ofBits_nil, ofBits_ninf, Finset.lt_fold_max]
  constructor
  · rintro (h | ⟨r, -, h⟩)
    · exact absurd h not_lt_bot
    · rw [hg] at h
      by_contra hc
      rw [if_neg (fun he => hc ⟨r, he⟩)] at h
      exact lt_irrefl _ h
  · rintro ⟨r, h⟩
    refine Or.inr ⟨r, Finset.mem_univ _, ?_⟩
    rw [hg, if_pos h]
    exact EReal.coe_lt_coe_iff.mpr (by norm_num)

end Cert.ReferenceIdeal.Value

end
-- ==== Proof.RCodes.lean ====
/- The reference's results at an index, over the reals. -/
module

public import proofs.«01_k».proof.Proof.Gen.ReferenceIdeal.Value
public import proofs.«01_k».proof.Proof.Spec
public import proofs.«01_k».proof.Proof.RMask
public import Idealize.ShloMosaic.PureOps.Ideal.Laws
public import Idealize.ShloMosaic.Lib.Pipeline.Value
public import Idealize.ShloMosaic.Lib.ValueIdxCore
public import Idealize.ShloMosaic.Lib.ValueLayout
public import Idealize.ShloMosaic.Lib.MatmulPlain

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Cert.Proof.Expo

theorem pay5_at (a0 : Vec Ideal S2x1536x2048 .bf16) (i : Fin 3072) (k : Fin 2048) : k0_pay5 (F := Ideal) a0 (ix2 i k) = xrow a0 i k := by
  unfold k0_pay5 xrow
  refine shapeCast_apply a0 _ _ _ ?_
  rw [Shape.rowMajor_val_three, Shape.rowMajor_val_two]
  show ((i.val / 1536) * 1536 + i.val % 1536) * 2048 + k.val = i.val * 2048 + k.val
  omega

/-- A row of lanes broadcast over rows. -/
theorem bcl {α : Type} {N : ℕ} (v : S1x2048.Idx → α) (h1 : S1x2048.ShapeCasts S1x2048) (h : S1x2048.Broadcasts (⟨2, ![N, 2048]⟩ : Shape)) (r : Fin N) (k : Fin 2048) :
    broadcastTo (⟨2, ![N, 2048]⟩ : Shape) (shapeCast S1x2048 v h1) h (ix2 r k) = v (ix2 0 k) := by
  rw [shapeCast_self, broadcastTo_1b_ab_apply]

/-- The rows split in blocks. -/
theorem split_at {α : Type} (v : S3072x2048.Idx → α) (h) (i : Fin 3072) (n : Fin 16) (l : Fin 128) :
    shapeCast S3072x16x128 v h (ix3 i n l) = v (ix2 i (col n l)) := by
  refine shapeCast_apply v _ _ _ ?_
  rw [Shape.rowMajor_val_three, Shape.rowMajor_val_two]
  show i.val * 2048 + (128 * n.val + l.val) = (i.val * 16 + n.val) * 128 + l.val
  omega

/-- The lane of a column. -/
def ln (k : Fin 2048) : Fin 128 := ⟨k.val % 128, Nat.mod_lt _ (by omega)⟩
theorem col_bk (k : Fin 2048) : col (bk k) (ln k) = k := Fin.ext (by show 128 * (k.val / 128) + k.val % 128 = k.val; omega)

/-- And joined again. -/
theorem join_at {α : Type} (v : S3072x16x128.Idx → α) (h) (i : Fin 3072) (k : Fin 2048) :
    shapeCast S3072x2048 v h (ix2 i k) = v (ix3 i (bk k) (ln k)) := by
  refine shapeCast_apply v _ _ _ ?_
  rw [Shape.rowMajor_val_three, Shape.rowMajor_val_two]
  show (i.val * 16 + k.val / 128) * 128 + k.val % 128 = i.val * 2048 + k.val
  omega

/-- A value per block broadcast over its lanes. -/
theorem per_block {α : Type} (v : S3072x16.Idx → α) (h1) (h2) (i : Fin 3072) (n : Fin 16) (l : Fin 128) :
    broadcastTo S3072x16x128 (shapeCast S3072x16x1 v h1) h2 (ix3 i n l) = v (ix2 i n) := by
  refine (broadcastTo_apply _ h2 _ (ix3 i n 0) fun ax => ?_).trans (shapeCast_apply v _ _ _ ?_)
  · match ax with
    | ⟨0, _⟩ => rfl
    | ⟨1, _⟩ => rfl
    | ⟨2, _⟩ => rfl
  · rw [Shape.rowMajor_val_three, Shape.rowMajor_val_two]
    show i.val * 16 + n.val = (i.val * 16 + n.val) * 1 + 0
    omega

/-- A select between a constant and values, at an index. -/
theorem sz_at (c : IVec S3072x2048 1) (w : BitVec 16) (v : FVec Ideal S3072x2048 .bf16) (j : S3072x2048.Idx) :
    extf (F := Ideal) .f32 (select c (broadcast S3072x2048 (Scalar.ofBits (F := Ideal) .bf16 w)) v) bitsLt_bf16_f32 j = Scalar.select (c j) (Ideal.ofBits .bf16 w) (v j) := rfl

theorem pay8_at (a0 : Vec Ideal S2x1536x2048 .bf16) (a1 : Vec Ideal S128 .i32) (i : Fin 3072) (n : Fin 16) (l : Fin 128) :
    k0_pay8 (F := Ideal) a0 a1 (ix3 i n l) = zi (no (ixs a1) (col n l)) (xrow a0 i (col n l)) := by
  unfold k0_pay8
  refine (split_at _ _ _ _ _).trans ?_
  refine (sz_at _ _ _ _).trans ?_
  rw [bcl, pay7_at, sel_ob, pay5_at]
  rfl

/-- The largest of a block. -/
theorem mx_at (g : FVec Ideal S3072x16x128 .f32) (i : Fin 3072) (n : Fin 16) :
    multiReduction .maximumf [2] S3072x16 (absf g) 0xFF800000#32 reduces_S3072x16x128_S3072x16 (.inl rfl) rfl (ix2 i n)
      = (Finset.univ : Finset (Fin 128)).fold max (Ideal.ofBits .f32 0xFF800000#32) fun l => ab (g (ix3 i n l)) := by
  refine (Ideal.multiReduction_maximumf_single _ _ _ _ _ _).trans ?_
  refine congrArg (fun f => (Finset.univ : Finset (Fin 128)).fold max _ f) (funext fun r => ?_)
  show ab (g _) = ab (g _)
  refine congrArg (fun z => ab (g z)) ?_
  funext a
  match a with
  | ⟨0, _⟩ => rfl
  | ⟨1, _⟩ => rfl
  | ⟨2, _⟩ => rfl

/-- The exponent, from any constants. -/
theorem ex_at (w0 w1 w2 w3 w4 : BitVec 32) (M : FVec Ideal S3072x16 .f32) (j : S3072x16.Idx) :
    select (cmpf .olt (mulf M (broadcast S3072x16 (Scalar.ofBits (F := Ideal) .f32 w0))) (broadcast S3072x16 (Scalar.ofBits (F := Ideal) .f32 w1))) (broadcast S3072x16 (Scalar.ofBits (F := Ideal) .f32 w2))
      (addf (floor (divf (log (mulf M (broadcast S3072x16 (Scalar.ofBits (F := Ideal) .f32 w0)))) (broadcast S3072x16 (Scalar.log (Scalar.ofBits (F := Ideal) .f32 w3))))) (broadcast S3072x16 (Scalar.ofBits (F := Ideal) .f32 w4))) j
    = Scalar.select (Ideal.cmp .olt (M j * Ideal.ofBits .f32 w0) (Ideal.ofBits .f32 w1)) (Ideal.ofBits .f32 w2)
      (Ideal.liftRound Int.floor (Ideal.div (Ideal.log (M j * Ideal.ofBits .f32 w0)) (Ideal.log (Ideal.ofBits .f32 w3))) + Ideal.ofBits .f32 w4 : EReal) := rfl

theorem pay9_at (a0 : Vec Ideal S2x1536x2048 .bf16) (a1 : Vec Ideal S128 .i32) (i : Fin 3072) (n : Fin 16) :
    k0_pay9 (F := Ideal) a0 a1 (ix2 i n) = rE (blockT (ixs a1) (xrow a0 i) n) := by
  unfold k0_pay9
  refine (ex_at _ _ _ _ _ _ _).trans ?_
  rw [mx_at]
  unfold rE blockT tv
  have hl : (fun l => ab (k0_pay8 (F := Ideal) a0 a1 (ix3 i n l))) = fun l => ab (zi (no (ixs a1) (col n l)) (xrow a0 i (col n l))) := by
    funext l; rw [pay8_at]
  rw [hl]

/-- The quotient, from any constant. -/
theorem q_at (w : BitVec 32) (X : FVec Ideal S3072x16x128 .f32) (E : FVec Ideal S3072x16 .f32) (i : Fin 3072) (n : Fin 16) (l : Fin 128) :
    mulf X (broadcastTo S3072x16x128 (shapeCast S3072x16x1 (exp2 (subf (broadcast S3072x16 (Scalar.ofBits (F := Ideal) .f32 w)) E)) shapeCasts_S3072x16_S3072x16x1) broadcasts_S3072x16x1_S3072x16x128) (ix3 i n l)
      = (X (ix3 i n l) * Ideal.exp2 (Ideal.ofBits .f32 w - E (ix2 i n)) : EReal) := by
  show (X (ix3 i n l) * broadcastTo S3072x16x128 (shapeCast S3072x16x1 _ _) _ (ix3 i n l) : EReal) = _
  rw [per_block]
  rfl

theorem pay10_at (a0 : Vec Ideal S2x1536x2048 .bf16) (a1 : Vec Ideal S128 .i32) (i : Fin 3072) (n : Fin 16) (l : Fin 128) :
    k0_pay10 (F := Ideal) a0 a1 (ix3 i n l) = (zi (no (ixs a1) (col n l)) (xrow a0 i (col n l)) * rInv (blockT (ixs a1) (xrow a0 i) n) : EReal) := by
  unfold k0_pay10
  refine (q_at _ _ _ _ _ _).trans ?_
  rw [pay8_at, pay9_at]
  rfl

/-- The clipped code, from any constants. -/
theorem clip_at (w1 w2 : BitVec 32) (X : FVec Ideal S3072x16x128 .f32) (j : S3072x16x128.Idx) :
    k0_pay1 (F := Ideal) X (Scalar.ofBits .f32 w1) (broadcast S3072x16x128 (Scalar.ofBits .f32 w2)) j = (min (Ideal.ofBits .f32 w1) (max (Ideal.ofBits .f32 w2) (X j)) : EReal) := rfl

theorem code_at (a0 : Vec Ideal S2x1536x2048 .bf16) (a1 : Vec Ideal S128 .i32) (i : Fin 3072) (k : Fin 2048) :
    k0_pay1 (F := Ideal) (k0_pay10 (F := Ideal) a0 a1) (Scalar.ofBits .f32 0x43E00000#32) (k0_pay11 (F := Ideal)) (ix3 i (bk k) (ln k)) = codeS rInv (ixs a1) (xrow a0 i) k := by
  unfold k0_pay11
  refine (clip_at _ _ _ _).trans ?_
  rw [pay10_at, col_bk]
  rfl

theorem G6_eq (a0 : Vec Ideal S2x1536x2048 .bf16) (a1 : Vec Ideal S128 .i32) :
    k0_pay3 (F := Ideal) (k0_pay10 (F := Ideal) a0 a1) (Scalar.ofBits .f32 0x43E00000#32) (k0_pay11 (F := Ideal)) = codesA rInv a0 a1 := by
  funext j
  obtain ⟨i, k, rfl⟩ : ∃ i k, j = ix2 i k := ⟨j 0, j 1, eq_ix2 j⟩
  unfold k0_pay3
  exact (join_at _ _ _ _).trans (code_at a0 a1 i k)

theorem exp2_at (E : FVec Ideal S3072x16 .f32) (j : S3072x16.Idx) : k0_pay2 (F := Ideal) E j = Ideal.exp2 (E j) := rfl

theorem G7_eq (a0 : Vec Ideal S2x1536x2048 .bf16) (a1 : Vec Ideal S128 .i32) :
    k0_pay2 (F := Ideal) (k0_pay9 (F := Ideal) a0 a1) = scalesA rSc a0 a1 := by
  funext j
  obtain ⟨i, n, rfl⟩ : ∃ i n, j = ix2 i n := ⟨j 0, j 1, eq_ix2 j⟩
  rw [exp2_at, pay9_at]
  rfl

end Cert.ReferenceIdeal.Value

end
-- ==== Proof.RProd.lean ====
/- The reference's results at an index, over the reals. -/
module

public import proofs.«01_k».proof.Proof.Gen.ReferenceIdeal.Value
public import proofs.«01_k».proof.Proof.Spec
public import proofs.«01_k».proof.Proof.RCodes
public import Idealize.ShloMosaic.PureOps.Ideal.Laws
public import Idealize.ShloMosaic.Lib.Pipeline.Value
public import Idealize.ShloMosaic.Lib.ValueIdxCore
public import Idealize.ShloMosaic.Lib.ValueLayout
public import Idealize.ShloMosaic.Lib.MatmulPlain

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Cert.Proof.Expo

/-! ## The product -/

/-- A select, at an index. -/
theorem slx_at (c : IVec S3072x2048 1) (x y : FVec Ideal S3072x2048 .bf16) (j : S3072x2048.Idx) : select c x y j = Scalar.select (c j) (x j) (y j) := rfl
theorem slw_at (c : IVec S3968x2048 1) (x y : FVec Ideal S3968x2048 .bf16) (j : S3968x2048.Idx) : select c x y j = Scalar.select (c j) (x j) (y j) := rfl

/-- Codes times a scale per block, at an index. -/
theorem deqx_at (C : FVec Ideal S3072x16x128 .fp8e4m3) (E : FVec Ideal S3072x16 .f32) (i : Fin 3072) (n : Fin 16) (l : Fin 128) :
    mulf (F := Ideal) (φ := .bf16) (extf .bf16 C bitsLt_fp8e4m3_bf16)
        (broadcastTo S3072x16x128 (shapeCast S3072x16x1 (truncf .bf16 E bitsLt_bf16_f32) shapeCasts_S3072x16_S3072x16x1) broadcasts_S3072x16x1_S3072x16x128) (ix3 i n l)
      = (C (ix3 i n l) * E (ix2 i n) : EReal) :=
  congrArg (fun z : EReal => (C (ix3 i n l) * z : EReal)) (per_block (truncf (F := Ideal) .bf16 E bitsLt_bf16_f32) shapeCasts_S3072x16_S3072x16x1 broadcasts_S3072x16x1_S3072x16x128 i n l)

theorem xcomb_at (a0 : Vec Ideal S2x1536x2048 .bf16) (a1 : Vec Ideal S128 .i32) (i : Fin 3072) (k : Fin 2048) :
    select (broadcastTo S3072x2048 (shapeCast S1x2048 (k0_pay7 (F := Ideal) a1) shapeCasts_S1x2048_S1x2048) broadcasts_S1x2048_S3072x2048) (k0_pay5 (F := Ideal) a0)
      (shapeCast S3072x2048 (mulf (F := Ideal) (φ := .bf16) (extf .bf16 (k0_pay1 (F := Ideal) (k0_pay10 (F := Ideal) a0 a1) (Scalar.ofBits .f32 0x43E00000#32) (k0_pay11 (F := Ideal))) bitsLt_fp8e4m3_bf16)
        (broadcastTo S3072x16x128 (shapeCast S3072x16x1 (truncf .bf16 (k0_pay2 (F := Ideal) (k0_pay9 (F := Ideal) a0 a1)) bitsLt_bf16_f32) shapeCasts_S3072x16_S3072x16x1) broadcasts_S3072x16x1_S3072x16x128)) shapeCasts_S3072x16x128_S3072x2048)
      (ix2 i k) = xS rSc rInv (ixs a1) (xrow a0 i) k := by
  rw [slx_at, bcl, pay7_at, sel_ob, pay5_at, join_at, deqx_at, code_at, exp2_at, pay9_at]
  rfl

/-- A bit as a number. -/
theorem bit_num (P : Prop) [Decidable P] (b : BitVec 1) (hb : b = BitVec.ofBool (decide P)) :
    ((((b.setWidth 32).toInt : ℝ) : EReal)) = if P then 1 else 0 := by
  subst hb
  by_cases h : P
  · rw [if_pos h, decide_eq_true h, show ((BitVec.ofBool true).setWidth 32).toInt = 1 by decide]; norm_num
  · rw [if_neg h, decide_eq_false h, show ((BitVec.ofBool false).setWidth 32).toInt = 0 by decide]; norm_num

theorem onehot_at (a1 : Vec Ideal S128 .i32) (r : Fin 128) (k : Fin 2048) :
    (truncf (F := Ideal) .bf16 (sitofp .f32 (extui 32 (k0_pay6 (F := Ideal) a1) natLt_1_32)) bitsLt_bf16_f32 (ix2 r k) : EReal) = oh (ixs a1) r k :=
  bit_num _ _ (pay6_at a1 r k)

theorem scat_at (wo : Vec Ideal S3968x128 .bf16) (O : FVec Ideal S128x2048 .bf16) (o : Fin 3968) (k : Fin 2048) :
    truncf (F := Ideal) .bf16 (matmul (F := Ideal) (φ₁ := .bf16) dot_S3968x128_S128x2048_S3968x2048_1_0_0_1_n_n none wo O (constant (F := Ideal) S3968x2048 .f32 0x00000000#32)) bitsLt_bf16_f32 (ix2 o k)
      = (∑ r : Fin 128, (wo (ix2 o r) * O (ix2 r k) : EReal) : EReal) := by
  refine (Ideal.matmul_plain_apply (M := 3968) (K := 128) (N := 2048) (φ₁ := .bf16) (φ₂ := .bf16) none wo O (constant (F := Ideal) S3968x2048 .f32 0x00000000#32) o k).trans ?_
  exact (congrArg (· + _) (show (constant (F := Ideal) S3968x2048 .f32 0x00000000#32) (ix2 o k) = (0 : EReal) from Ideal.ofBits_zero_f32)).trans (zero_add (_ : EReal))

/-- The row of a weight row in its block. -/
def rw_ (o : Fin 3968) : Fin 128 := ⟨o.val % 128, Nat.mod_lt _ (by omega)⟩

theorem join4 {α : Type} (v : S31x128x16x128.Idx → α) (h) (o : Fin 3968) (k : Fin 2048) :
    shapeCast S3968x2048 v h (ix2 o k) = v (ix4 (obk o) (rw_ o) (bk k) (ln k)) := by
  refine shapeCast_apply v _ _ _ ?_
  rw [Shape.rowMajor_val_four, Shape.rowMajor_val_two]
  show (((o.val / 128) * 128 + o.val % 128) * 16 + k.val / 128) * 128 + k.val % 128 = o.val * 2048 + k.val
  omega

theorem split4 {α : Type} (v : S3968x2048.Idx → α) (h) (o : Fin 3968) (k : Fin 2048) :
    shapeCast S31x128x16x128 v h (ix4 (obk o) (rw_ o) (bk k) (ln k)) = v (ix2 o k) := by
  refine shapeCast_apply v _ _ _ ?_
  rw [Shape.rowMajor_val_four, Shape.rowMajor_val_two]
  show o.val * 2048 + k.val = (((o.val / 128) * 128 + o.val % 128) * 16 + k.val / 128) * 128 + k.val % 128
  omega

theorem per_block4 {α : Type} (v : S31x16.Idx → α) (h1) (h2) (p : Fin 31) (q : Fin 128) (n : Fin 16) (l : Fin 128) :
    broadcastTo S31x128x16x128 (shapeCast S31x1x16x1 v h1) h2 (ix4 p q n l) = v (ix2 p n) := by
  refine (broadcastTo_apply _ h2 _ (ix4 p 0 n 0) fun ax => ?_).trans (shapeCast_apply v _ _ _ ?_)
  · match ax with
    | ⟨0, _⟩ => rfl
    | ⟨1, _⟩ => rfl
    | ⟨2, _⟩ => rfl
    | ⟨3, _⟩ => rfl
  · rw [Shape.rowMajor_val_four, Shape.rowMajor_val_two]
    show p.val * 16 + n.val = ((p.val * 1 + 0) * 16 + n.val) * 1 + 0
    omega

/-- Weight codes times a scale per block, at an index. -/
theorem deqw_at (C : FVec Ideal S31x128x16x128 .fp8e4m3) (E : FVec Ideal S31x16 .f32) (p : Fin 31) (q : Fin 128) (n : Fin 16) (l : Fin 128) :
    mulf (F := Ideal) (φ := .bf16) (extf .bf16 C bitsLt_fp8e4m3_bf16)
        (broadcastTo S31x128x16x128 (shapeCast S31x1x16x1 (truncf .bf16 E bitsLt_bf16_f32) shapeCasts_S31x16_S31x1x16x1) broadcasts_S31x1x16x1_S31x128x16x128) (ix4 p q n l)
      = (C (ix4 p q n l) * E (ix2 p n) : EReal) :=
  congrArg (fun z : EReal => (C (ix4 p q n l) * z : EReal)) (per_block4 (truncf (F := Ideal) .bf16 E bitsLt_bf16_f32) shapeCasts_S31x16_S31x1x16x1 broadcasts_S31x1x16x1_S31x128x16x128 p q n l)

theorem wcomb_at (a1 : Vec Ideal S128 .i32) (wo : Vec Ideal S3968x128 .bf16) (w : Vec Ideal S3968x2048 .fp8e4m3) (s : Vec Ideal S31x16 .f32) (o : Fin 3968) (k : Fin 2048) :
    select (broadcastTo S3968x2048 (shapeCast S1x2048 (k0_pay7 (F := Ideal) a1) shapeCasts_S1x2048_S1x2048) broadcasts_S1x2048_S3968x2048)
      (truncf (F := Ideal) .bf16 (matmul (F := Ideal) (φ₁ := .bf16) dot_S3968x128_S128x2048_S3968x2048_1_0_0_1_n_n none wo (truncf (F := Ideal) .bf16 (sitofp .f32 (extui 32 (k0_pay6 (F := Ideal) a1) natLt_1_32)) bitsLt_bf16_f32) (constant (F := Ideal) S3968x2048 .f32 0x00000000#32)) bitsLt_bf16_f32)
      (shapeCast S3968x2048 (mulf (F := Ideal) (φ := .bf16) (extf .bf16 (shapeCast S31x128x16x128 w shapeCasts_S3968x2048_S31x128x16x128) bitsLt_fp8e4m3_bf16)
        (broadcastTo S31x128x16x128 (shapeCast S31x1x16x1 (truncf (F := Ideal) .bf16 s bitsLt_bf16_f32) shapeCasts_S31x16_S31x1x16x1) broadcasts_S31x1x16x1_S31x128x16x128)) shapeCasts_S31x128x16x128_S3968x2048)
      (ix2 o k) = wS (ixs a1) (fun k => w (ix2 o k)) (fun r => wo (ix2 o r)) (fun n => s (ix2 (obk o) n)) k := by
  rw [slw_at, bcl, pay7_at, sel_ob, scat_at, join4, deqw_at, split4]
  unfold wS
  refine congrArg (Scalar.select (no (ixs a1) k) _) ?_
  exact Finset.sum_congr rfl fun r _ => congrArg (fun z : EReal => (wo (ix2 o r) * z : EReal)) (onehot_at a1 r k)

theorem dot_at (X : FVec Ideal S3072x2048 .bf16) (W : FVec Ideal S3968x2048 .bf16) (i : Fin 3072) (o : Fin 3968) :
    truncf (F := Ideal) .bf16 (matmul dot_S3072x2048_S3968x2048_S3072x3968_1_1_0_0_n_n none X W (constant (F := Ideal) S3072x3968 .f32 0x00000000#32)) bitsLt_bf16_f32 (ix2 i o)
      = (∑ k : Fin 2048, (X (ix2 i k) * W (ix2 o k) : EReal) : EReal) := by
  refine (Ideal.matmul_transposedRhs_apply (M := 3072) (K := 2048) (N := 3968) (φ₁ := .bf16) (φ₂ := .bf16) none X W (constant (F := Ideal) S3072x3968 .f32 0x00000000#32) i o).trans ?_
  exact (congrArg (· + _) (show (constant (F := Ideal) S3072x3968 .f32 0x00000000#32) (ix2 i o) = (0 : EReal) from Ideal.ofBits_zero_f32)).trans (zero_add (_ : EReal))

theorem G5_eq (a0 : Vec Ideal S2x1536x2048 .bf16) (a1 : Vec Ideal S128 .i32) (wo : Vec Ideal S3968x128 .bf16) (w : Vec Ideal S3968x2048 .fp8e4m3) (s : Vec Ideal S31x16 .f32) :
    k0_pay4 (F := Ideal) (k0_pay5 (F := Ideal) a0) (k0_pay6 (F := Ideal) a1) (k0_pay7 (F := Ideal) a1) (k0_pay9 (F := Ideal) a0 a1) (k0_pay10 (F := Ideal) a0 a1) (Scalar.ofBits .f32 0x43E00000#32) (k0_pay11 (F := Ideal)) wo w s
      = yA rSc rInv a0 a1 wo w s := by
  funext j
  obtain ⟨i, o, rfl⟩ : ∃ i o, j = ix2 i o := ⟨j 0, j 1, eq_ix2 j⟩
  unfold k0_pay4
  refine (dot_at _ _ i o).trans ?_
  refine (Finset.sum_congr rfl fun k _ => ?_ : _ = ∑ k : Fin 2048, (xS rSc rInv (ixs a1) (xrow a0 i) k * wS (ixs a1) (fun k => w (ix2 o k)) (fun r => wo (ix2 o r)) (fun n => s (ix2 (obk o) n)) k : EReal))
  rw [xcomb_at, wcomb_at]

end Cert.ReferenceIdeal.Value

end
-- ==== Proof.RFin.lean ====
/- The reference's run, its three arrays in the closed forms. -/
module

public import proofs.«01_k».proof.Proof.Gen.ReferenceIdeal.Value
public import proofs.«01_k».proof.Proof.Spec
public import proofs.«01_k».proof.Proof.RCodes
public import Idealize.ShloMosaic.PureOps.Ideal.Laws
public import Idealize.ShloMosaic.Lib.Pipeline.Value
public import Idealize.ShloMosaic.Lib.ValueIdxCore
public import Idealize.ShloMosaic.Lib.ValueLayout
public import Idealize.ShloMosaic.Lib.MatmulPlain
public import proofs.«01_k».proof.Proof.RCodes
public import proofs.«01_k».proof.Proof.RProd
@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.ValueIdx Cert.Proof.Expo

theorem pay12_eq (a0 : Vec Ideal S2x1536x2048 .bf16) (a1 : Vec Ideal S128 .i32) (a2 : Vec Ideal S3968x128 .bf16) (a3 : Vec Ideal S3968x2048 .fp8e4m3) (a4 : Vec Ideal S31x16 .f32) :
    k0_pay12 a0 a1 a2 a3 a4 = k0_pay9 (F := Ideal) a0 a1 := by
  unfold k0_pay12
  rw [View.ld_unit_zero (S := S2x1536x2048) hz0 _ a0, View.ld_unit_zero (S := S128) hz1 _ a1]
theorem pay13_eq (a0 : Vec Ideal S2x1536x2048 .bf16) (a1 : Vec Ideal S128 .i32) (a2 : Vec Ideal S3968x128 .bf16) (a3 : Vec Ideal S3968x2048 .fp8e4m3) (a4 : Vec Ideal S31x16 .f32) :
    k0_pay13 a0 a1 a2 a3 a4 = k0_pay10 (F := Ideal) a0 a1 := by
  unfold k0_pay13
  rw [View.ld_unit_zero (S := S2x1536x2048) hz0 _ a0, View.ld_unit_zero (S := S128) hz1 _ a1]

theorem G5_closed (a0 : Vec Ideal S2x1536x2048 .bf16) (a1 : Vec Ideal S128 .i32) (a2 : Vec Ideal S3968x128 .bf16) (a3 : Vec Ideal S3968x2048 .fp8e4m3) (a4 : Vec Ideal S31x16 .f32) :
    G5 (F := Ideal) a0 a1 a2 a3 a4 = yA rSc rInv a0 a1 a2 a3 a4 := by
  unfold G5 k0_pay14
  rw [pay12_eq, pay13_eq]
  exact G5_eq a0 a1 a2 a3 a4
theorem G6_closed (a0 : Vec Ideal S2x1536x2048 .bf16) (a1 : Vec Ideal S128 .i32) (a2 : Vec Ideal S3968x128 .bf16) (a3 : Vec Ideal S3968x2048 .fp8e4m3) (a4 : Vec Ideal S31x16 .f32) :
    G6 (F := Ideal) a0 a1 a2 a3 a4 = codesA rInv a0 a1 := by
  unfold G6 k0_pay14
  rw [pay13_eq]
  exact G6_eq a0 a1
theorem G7_closed (a0 : Vec Ideal S2x1536x2048 .bf16) (a1 : Vec Ideal S128 .i32) (a2 : Vec Ideal S3968x128 .bf16) (a3 : Vec Ideal S3968x2048 .fp8e4m3) (a4 : Vec Ideal S31x16 .f32) :
    G7 (F := Ideal) a0 a1 a2 a3 a4 = scalesA rSc a0 a1 := by
  unfold G7
  rw [pay12_eq]
  exact G7_eq a0 a1

end Cert.ReferenceIdeal.Value

end
-- ==== Proof.Bound.lean ====
/- What the precondition gives: a block's largest magnitude over 448 is a real number in the range where the two ways to the scale
   agree, and no column is named twice. -/
module

public import proofs.«01_k».proof.Pre_well_formed
public import proofs.«01_k».proof.Proof.Shared
public import proofs.«01_k».proof.Proof.Spec
public import Idealize.ShloMosaic.Lib.ReduceAll

@[expose] public section

set_option maxRecDepth 16384

noncomputable section

/-- The precondition's shape relations. -/
theorem Cert.Pre_well_formed.facts : Cert.Pre_well_formed.Facts where
  bcast_S128_S128x1_0 := by decide
  bcast_S128_S1x128_1 := by decide
  bcast_S128x1_S128x128_0_1 := by decide
  bcast_S1x128_S128x128_0_1 := by decide
  bcast_S_S2x1536x2048 := by decide
  reducesTo_S2x1536x2048_S_d0_1_2 := by decide
  h_S_ := by decide
  reducesTo_S128x128_S_d0_1 := by decide

namespace Cert.Proof.Expo

open Idealize.ShloMosaic Idealize.ShloMosaic.ValueIdx

/-! ## The constants -/

/-- The float next to 1/448 is a real number, not negative, at most 2⁻⁸. -/
theorem ofBits_448 : ∃ k : ℝ, Ideal.ofBits .f32 0x3B124925#32 = (k : EReal) ∧ 0 ≤ k ∧ k ≤ (2 : ℝ) ^ (-8 : ℤ) := by
  have a : ((0x3B124925#32 : BitVec 32).extractLsb' 31 1 == 1#1) = false := by decide
  have b : ((0x3B124925#32 : BitVec 32).extractLsb' 23 8).toNat = 118 := by decide
  have c : ((0x3B124925#32 : BitVec 32).extractLsb' 0 23).toNat = 1198373 := by decide
  refine ⟨(8388608 + 1198373 : ℕ) * (2 : ℝ) ^ (-32 : ℤ), ?_, by positivity, ?_⟩
  · show Ideal.ieee 8 23 (0x3B124925#32) = _
    unfold Ideal.ieee
    dsimp only
    rw [show (8 + 23 : ℕ) = 31 from rfl, a, b, c, if_neg (by omega), if_neg (by omega)]
    congr 1
    norm_num
  · rw [show (-8 : ℤ) = 24 + (-32) by norm_num, zpow_add₀ (by norm_num : (2 : ℝ) ≠ 0)]
    refine mul_le_mul_of_nonneg_right ?_ (by positivity)
    norm_num

/-- The greatest bfloat16 is a real number below 2¹²⁸. -/
theorem ofBits_bmax : ∃ k : ℝ, Ideal.ofBits .bf16 0x7F7F#16 = (k : EReal) ∧ 0 ≤ k ∧ k < (2 : ℝ) ^ (128 : ℤ) := by
  have a : ((0x7F7F#16 : BitVec 16).extractLsb' 15 1 == 1#1) = false := by decide
  have b : ((0x7F7F#16 : BitVec 16).extractLsb' 7 8).toNat = 254 := by decide
  have c : ((0x7F7F#16 : BitVec 16).extractLsb' 0 7).toNat = 127 := by decide
  refine ⟨(128 + 127 : ℕ) * (2 : ℝ) ^ (120 : ℤ), ?_, by positivity, ?_⟩
  · show Ideal.ieee 8 7 (0x7F7F#16) = _
    unfold Ideal.ieee
    dsimp only
    rw [show (8 + 7 : ℕ) = 15 from rfl, a, b, c, if_neg (by omega), if_neg (by omega)]
    congr 1
    norm_num
  · rw [show (128 : ℤ) = 8 + 120 by norm_num, zpow_add₀ (by norm_num : (2 : ℝ) ≠ 0)]
    refine mul_lt_mul_of_pos_right ?_ (by positivity)
    norm_num

theorem ofBits_bot : Ideal.ofBits .f32 0xFF800000#32 = ⊥ := by
  show Ideal.ieee 8 23 (0xFF800000#32) = _
  unfold Ideal.ieee
  have a : ((0xFF800000#32 : BitVec 32).extractLsb' 31 1 == 1#1) = true := by decide
  have b : ((0xFF800000#32 : BitVec 32).extractLsb' 23 8).toNat = 255 := by decide
  have c : ((0xFF800000#32 : BitVec 32).extractLsb' 0 23).toNat = 0 := by decide
  dsimp only
  rw [show (8 + 23 : ℕ) = 31 from rfl, a, b, c]
  norm_num

/-! ## The bound -/

theorem ab_nonneg (x : EReal) : 0 ≤ ab x := by
  unfold ab
  rcases le_total 0 x with h | h
  · exact le_max_of_le_left h
  · exact le_max_of_le_right (by rw [← neg_zero]; exact EReal.neg_le_neg_iff.mpr h)

/-- A block of magnitudes below 2¹²⁸ has its largest one over 448 below 2¹²⁰. -/
theorem tv_real (v : Fin 128 → EReal) (B : ℝ) (hB : B < (2 : ℝ) ^ (128 : ℤ)) (h : ∀ l, ab (v l) ≤ (B : EReal)) :
    ∃ r : ℝ, tv v = (r : EReal) ∧ 0 ≤ r ∧ r < (2 : ℝ) ^ (120 : ℤ) := by
  obtain ⟨k, hk, k0, k1⟩ := ofBits_448
  unfold tv
  rw [hk, ofBits_bot]
  generalize hM : (Finset.univ : Finset (Fin 128)).fold max (⊥ : EReal) (fun j => ab (v j)) = M
  have hle : M ≤ (B : EReal) := by
    rw [← hM, Finset.fold_max_le]
    exact ⟨bot_le, fun l _ => h l⟩
  have hge : 0 ≤ M := by
    rw [← hM, Finset.le_fold_max]
    exact Or.inr ⟨0, Finset.mem_univ _, ab_nonneg _⟩
  clear hM
  induction M with
  | bot => exact absurd hge (by simp)
  | top => exact absurd hle (by simp)
  | coe q =>
    have q0 : 0 ≤ q := by exact_mod_cast hge
    have q1 : q ≤ B := by exact_mod_cast hle
    refine ⟨q * k, (EReal.coe_mul q k).symm, mul_nonneg q0 k0, ?_⟩
    calc q * k ≤ B * (2 : ℝ) ^ (-8 : ℤ) := mul_le_mul q1 k1 k0 (q0.trans q1)
      _ < (2 : ℝ) ^ (128 : ℤ) * (2 : ℝ) ^ (-8 : ℤ) := mul_lt_mul_of_pos_right hB (by positivity)
      _ = (2 : ℝ) ^ (120 : ℤ) := by rw [← zpow_add₀ (by norm_num : (2 : ℝ) ≠ 0)]; norm_num

/-- So every block of rows of such magnitudes meets the two ways to its scale alike. -/
theorem sc_of_bound (x : (⟨3, ![2, 1536, 2048]⟩ : Shape).Idx → EReal) (a : (⟨1, ![128]⟩ : Shape).Idx → BitVec 32)
    (h : ∀ i, ab (x i) ≤ Ideal.ofBits .bf16 0x7F7F#16) (i : Fin 3072) (n : Fin 16) :
    kSc (blockT (ixs a) (xrow x i) n) = rSc (blockT (ixs a) (xrow x i) n) ∧ kInv (blockT (ixs a) (xrow x i) n) = rInv (blockT (ixs a) (xrow x i) n) := by
  obtain ⟨B, hb, b0, b1⟩ := ofBits_bmax
  obtain ⟨r, hr, r0, r1⟩ := tv_real (fun l => zi (no (ixs a) (col n l)) (xrow x i (col n l))) B b1 fun l => by
    unfold zi Scalar.select
    split
    · rw [← hb]; exact h _
    · rw [show Ideal.ofBits .bf16 0x0000#16 = 0 from IdealRules.sign_bit.ideal_zero .bf16]
      unfold ab
      rw [neg_zero, max_self]; exact_mod_cast b0
  unfold blockT
  rw [hr]
  exact sc_eq r r0 r1

/-! ## The precondition, read back -/

theorem or_zero : ∀ p q : BitVec 1, IntOp.ori p q = 0#1 → p = 0#1 ∧ q = 0#1 := by decide

theorem foldl_ori_zero {ι : Type} (f : ι → BitVec 1) :
    ∀ (l : List ι) (init : BitVec 1), l.foldl (fun r n => IntOp.ori r (f n)) init = 0#1 → init = 0#1 ∧ ∀ n ∈ l, f n = 0#1
  | [], init, h => ⟨h, fun _ hn => nomatch hn⟩
  | a :: l, init, h => by
    obtain ⟨h1, h2⟩ := foldl_ori_zero f l _ h
    obtain ⟨hi, ha⟩ := or_zero _ _ h1
    exact ⟨hi, fun n hn => by rcases List.mem_cons.1 hn with rfl | hn; exacts [ha, h2 n hn]⟩

/-- A reduce by `or` into a result of one index that is 0 had a 0 at every operand index. -/
theorem reduce_ori_all {s t u : Shape} {axes : List (Fin s.rank)} [Subsingleton t.Idx] (x : s.Idx → BitVec 1) (init : u.Idx → BitVec 1)
    (h : s.ReducesTo axes t) (hu : 0 < u.numel) (j : t.Idx) (e : Host.reduce IntOp.ori x init h hu j = 0#1) (i : s.Idx) : x i = 0#1 := by
  rw [Host.reduce_eq_foldl] at e
  refine (foldl_ori_zero x _ _ e).2 i ?_
  rw [List.mem_filter]
  exact ⟨List.mem_map.2 ⟨s.rowMajor i, List.mem_finRange _, Equiv.symm_apply_apply _ _⟩, by simp [Subsingleton.elim (h.drop i) j]⟩

/-- A vector laid along the rows, or along the columns, at an index. -/
theorem rows_cols {α : Type} (y : (⟨1, ![128]⟩ : Shape).Idx → α) (h1 : (⟨1, ![128]⟩ : Shape).BroadcastsInDim ⟨2, ![128, 1]⟩ ![0])
    (h2 : (⟨2, ![128, 1]⟩ : Shape).BroadcastsInDim ⟨2, ![128, 128]⟩ ![0, 1]) (h3 : (⟨1, ![128]⟩ : Shape).BroadcastsInDim ⟨2, ![1, 128]⟩ ![1])
    (h4 : (⟨2, ![1, 128]⟩ : Shape).BroadcastsInDim ⟨2, ![128, 128]⟩ ![0, 1]) (r r' : Fin 128) :
    broadcastInDim ⟨2, ![128, 128]⟩ ![0, 1] h2 (broadcastInDim ⟨2, ![128, 1]⟩ ![0] h1 y) (ix2 r r') = y (ix1 r)
    ∧ broadcastInDim ⟨2, ![128, 128]⟩ ![0, 1] h4 (broadcastInDim ⟨2, ![1, 128]⟩ ![1] h3 y) (ix2 r r') = y (ix1 r') := by
  constructor
  · refine (broadcastInDim_apply _ h2 _ _ (ix2 r 0) fun d => ?_).trans (broadcastInDim_apply _ h1 _ _ (ix1 r) fun d => ?_)
    · match d with | ⟨0, _⟩ => rfl | ⟨1, _⟩ => rfl
    · match d with | ⟨0, _⟩ => rfl
  · refine (broadcastInDim_apply _ h4 _ _ (ix2 0 r') fun d => ?_).trans (broadcastInDim_apply _ h3 _ _ (ix1 r') fun d => ?_)
    · match d with | ⟨0, _⟩ => rfl | ⟨1, _⟩ => rfl
    · match d with | ⟨0, _⟩ => rfl

/-- `and` of a bit and a negated one. -/
theorem and_not_one : ∀ p q : BitVec 1, IntOp.andi p (~~~q) = 1#1 → p = 1#1 ∧ q = 0#1 := by decide

open Cert.Pre_well_formed in
/-- Every activation is at most the greatest bfloat16 in magnitude, and the outlier indices are pairwise distinct. -/
theorem pre_read [Cert.Pre_well_formed.Facts] (x : FVec Ideal S2x1536x2048 .bf16) (a : IVec S128 32) (wo : FVec Ideal S3968x128 .bf16)
    (w : FVec Ideal S3968x2048 .fp8e4m3) (s : FVec Ideal S31x16 .f32) (h : fn (F := Ideal) x a wo w s = fun _ => 1#1) :
    (∀ i, ab (x i) ≤ Ideal.ofBits .bf16 0x7F7F#16) ∧ ∀ r r', ixs a r = ixs a r' → r = r' := by
  have h0 := congrFun h (fun d => d.elim0)
  dsimp only [fn] at h0
  obtain ⟨h1, h2⟩ := and_not_one _ _ h0
  haveI : Subsingleton S_.Idx := ⟨fun p q => funext fun d => d.elim0⟩
  constructor
  · intro i
    have := Host.reduce_andi_all _ _ _ _ _ h1 i
    have this : Ideal.cmp .ole (ab (x i)) (Ideal.ofBits .bf16 0x7F7F#16) = 1#1 := this
    by_contra hc
    rw [show Ideal.cmp .ole (ab (x i)) (Ideal.ofBits .bf16 0x7F7F#16) = BitVec.ofBool (decide (ab (x i) ≤ Ideal.ofBits .bf16 0x7F7F#16)) from rfl, decide_eq_false hc] at this
    exact absurd this (by decide)
  · intro r r' hr
    have := reduce_ori_all _ _ _ _ _ h2 (ix2 r r')
    by_contra hne
    rw [show ∀ p q : IVec S128x128 1, andi p q (ix2 r r') = IntOp.andi (p (ix2 r r')) (q (ix2 r r')) from fun _ _ => rfl,
      show ∀ p q : IVec S128x128 32, cmpi .eq p q (ix2 r r') = IntOp.cmpi .eq (p (ix2 r r')) (q (ix2 r r')) from fun _ _ => rfl,
      show ∀ p q : IVec S128x128 32, cmpi .ne p q (ix2 r r') = IntOp.cmpi .ne (p (ix2 r r')) (q (ix2 r r')) from fun _ _ => rfl,
      (rows_cols a _ _ (Facts.bcast_S128_S1x128_1) (Facts.bcast_S1x128_S128x128_0_1) r r').1,
      (rows_cols a (Facts.bcast_S128_S128x1_0) (Facts.bcast_S128x1_S128x128_0_1) _ _ r r').2,
      (rows_cols (iotaInDim S128 32 0) _ _ (Facts.bcast_S128_S1x128_1) (Facts.bcast_S1x128_S128x128_0_1) r r').1,
      (rows_cols (iotaInDim S128 32 0) (Facts.bcast_S128_S128x1_0) (Facts.bcast_S128x1_S128x128_0_1) _ _ r r').2,
      show a (ix1 r) = a (ix1 r') from hr,
      show ∀ q : Fin 128, (iotaInDim S128 32 0) (ix1 q) = BitVec.ofNat 32 q.val from fun _ => rfl,
      show ∀ q : Fin 128, (iotaInDim S128 32 0) (ix1 q) = BitVec.ofNat 32 q.val from fun _ => rfl] at this
    have hw : BitVec.ofNat 32 r.val ≠ BitVec.ofNat 32 r'.val := fun hc => hne (Fin.ext (by
      have := congrArg BitVec.toNat hc
      rw [BitVec.toNat_ofNat, BitVec.toNat_ofNat] at this
      have := r.isLt; have := r'.isLt; omega))
    rw [show IntOp.cmpi .eq (a (ix1 r')) (a (ix1 r')) = 1#1 by show BitVec.ofBool (a (ix1 r') == a (ix1 r')) = 1#1; rw [beq_self_eq_true]; rfl,
      show IntOp.cmpi .ne (BitVec.ofNat 32 r.val) (BitVec.ofNat 32 r'.val) = 1#1 by
        show BitVec.ofBool (!(BitVec.ofNat 32 r.val == BitVec.ofNat 32 r'.val)) = 1#1
        rw [beq_false_of_ne hw]; rfl] at this
    exact absurd this (by decide)

end Cert.Proof.Expo

end
-- ==== Proof.Equal.lean ====
/- The two programs, over the reals, leave the same three arrays. -/
module

public import proofs.«01_k».proof.Defs
public import proofs.«01_k».proof.Proof.KFin
public import proofs.«01_k».proof.Proof.RFin
public import proofs.«01_k».proof.Proof.Bound

@[expose] public section

set_option maxRecDepth 16384

open Idealize.ShloMosaic Idealize.ShloMosaic.TcCoe Idealize.SL.Sem Cert.Proof.Expo

/-- From memories agreeing on well-formed arguments both programs run, and end with equal results and unchanged arguments: the
    reference's three arrays are `yA`, `codesA` and `scalesA` at the scale by logarithm, the kernel's the same at the scale by
    exponent field, and on well-formed arguments the two scales agree at every block. -/
theorem Cert.Proof.algebraic : Cert.algebraic_KernelIdeal_ReferenceIdeal_pre_well_formed
    (hKernelIdeal := Cert.KernelIdeal.Gen.facts) (hReferenceIdeal := Cert.ReferenceIdeal.Gen.facts) (hPre_well_formed := Cert.Pre_well_formed.facts) := by
  intro m g m' g' hpre hm
  have hp := fun c => @pre_read Cert.Pre_well_formed.facts _ _ _ _ _ (hpre c)
  refine ⟨fun c => yA rSc rInv (Cert.KernelIdeal.Gen.aX m c) (Cert.KernelIdeal.Gen.aI m c) (Cert.KernelIdeal.Gen.aWo m c) (Cert.KernelIdeal.Gen.aW m c) (Cert.KernelIdeal.Gen.aS m c),
    fun c => codesA rInv (Cert.KernelIdeal.Gen.aX m c) (Cert.KernelIdeal.Gen.aI m c),
    fun c => scalesA rSc (Cert.KernelIdeal.Gen.aX m c) (Cert.KernelIdeal.Gen.aI m c), ?_, ?_⟩
  · refine (θ_run _ _ _).mono (fun r h c => ?_) (Cert.KernelIdeal.Gen.run_value m g fun c => (hp c).2)
    obtain ⟨⟨h0, h1, h2⟩, hk⟩ := h c
    have hs := sc_of_bound (Cert.KernelIdeal.Gen.aX m c) (Cert.KernelIdeal.Gen.aI m c) (hp c).1
    exact ⟨h0.trans (yA_congr _ _ _ _ _ _ _ _ _ (fun i n => (hs i n).1) fun i n => (hs i n).2),
      h1.trans (codesA_congr _ _ _ _ fun i n => (hs i n).2), h2.trans (scalesA_congr _ _ _ _ fun i n => (hs i n).1), hk⟩
  · refine (θ_run _ _ _).mono (fun r h c => ?_) (Cert.ReferenceIdeal.Value.run (F := Ideal) m' g')
    obtain ⟨h0, h1, h2, hk⟩ := h c
    obtain ⟨e0, e1, e2, e3, e4⟩ := hm c
    refine ⟨h0.trans ?_, h1.trans ?_, h2.trans ?_, hk⟩
    · rw [Cert.ReferenceIdeal.Value.G5_closed]
      exact congr (congr (congr (congr (congrArg (yA rSc rInv) e0) e1) e2) e3) e4
    · rw [Cert.ReferenceIdeal.Value.G6_closed]
      exact congr (congrArg (codesA rInv) e0) e1
    · rw [Cert.ReferenceIdeal.Value.G7_closed]
      exact congr (congrArg (scalesA rSc) e0) e1
-- ==== Proof.lean ====
module

public import proofs.«01_k».proof.Defs
public import Idealize.ShloMosaic.Lib.Bf16Pair
public import proofs.«01_k».proof.Proof.BFrame
public import proofs.«01_k».proof.Proof.Gen.ReferenceIdeal.Value
public import proofs.«01_k».proof.Proof.Equal

@[expose] public section

open Idealize.ShloMosaic in
theorem Cert.Proof.claim : Cert.Claim :=
  ⟨Cert.Kernel.Gen.facts, Cert.KernelIdeal.Gen.facts, Cert.ReferenceIdeal.Gen.facts, Cert.Pre_well_formed.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨IdealRules.bf16_pair.statement _ _, IdealRules.bf16_pair.statement _ _, IdealRules.bf16_pair.selectZeroStatement _⟩,
    Cert.Proof.algebraic⟩
